-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_5)) (v3 : (c : Dev Cert.KernelIdeal.nD) → Buf (Elt Ideal) ((c.tc : Thread Cert.KernelIdeal.nD Cert.KernelIdeal.τ).loc Cert.KernelIdeal.main_v5_0)) (v4 : (c : Dev Cert.KernelIdeal.nD) → Buf (Elt Ideal) ((c.tc : Thread Cert.KernelIdeal.nD Cert.KernelIdeal.τ).loc Cert.KernelIdeal.main_v5_1)) (v5 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_5) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_v5_1) = v4 c
          ∧ r.2.mem ((c.tc : Thread Cert.KernelIdeal.nD Cert.KernelIdeal.τ).loc Cert.KernelIdeal.main_v5_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5_1)) (v1 : (c : Dev Cert.Kernel2Ideal.nD) → Buf (Elt Ideal) ((c.tc : Thread Cert.Kernel2Ideal.nD Cert.Kernel2Ideal.τ).loc Cert.Kernel2Ideal.main_v6_0)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v6_5)) (v4 : (c : Dev Cert.Kernel2Ideal.nD) → Buf (Elt Ideal) ((c.tc : Thread Cert.Kernel2Ideal.nD Cert.Kernel2Ideal.τ).loc Cert.Kernel2Ideal.main_v7_0)) (v5 : (c : Dev Cert.Kernel2Ideal.nD) → Buf (Elt Ideal) ((c.tc : Thread Cert.Kernel2Ideal.nD Cert.Kernel2Ideal.τ).loc Cert.Kernel2Ideal.main_v7_1)) (v6 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_1) = v0 c
          ∧ r.2.mem ((c.tc : Thread Cert.Kernel2Ideal.nD Cert.Kernel2Ideal.τ).loc Cert.Kernel2Ideal.main_v6_0) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v6_5) = v3 c
          ∧ r.2.mem ((c.tc : Thread Cert.Kernel2Ideal.nD Cert.Kernel2Ideal.τ).loc Cert.Kernel2Ideal.main_v7_0) = v4 c
          ∧ r.2.mem ((c.tc : Thread Cert.Kernel2Ideal.nD Cert.Kernel2Ideal.τ).loc Cert.Kernel2Ideal.main_v7_1) = v5 c
          ∧ r.2.mem ((c.tc : Thread Cert.Kernel2Ideal.nD Cert.Kernel2Ideal.τ).loc Cert.Kernel2Ideal.main_v7_2) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v48) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v70) = v5 c
          ∧ r.2.mem ((c.tc : Thread Cert.Reference2Ideal.nD Cert.Reference2Ideal.τ).loc Cert.Reference2Ideal.main_v71) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v4_0)) (v2 : (c : Dev Cert.Kernel3Ideal.nD) → Buf (Elt Ideal) ((c.tc : Thread Cert.Kernel3Ideal.nD Cert.Kernel3Ideal.τ).loc Cert.Kernel3Ideal.main_v4_1)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v4_0) = v1 c
          ∧ r.2.mem ((c.tc : Thread Cert.Kernel3Ideal.nD Cert.Kernel3Ideal.τ).loc Cert.Kernel3Ideal.main_v4_1) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v2)) (v2 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v2) = v1 c
          ∧ r.2.mem ((c.tc : Thread Cert.Kernel6Ideal.nD Cert.Kernel6Ideal.τ).loc Cert.Kernel6Ideal.main_v3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_v82) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v38_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v38_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v123) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S2816x1024 .f32) (main_arg3 : FVec F S2816x1024 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite2.lean ====
abbrev S4096x1024 : Shape := ⟨2, ![4096, 1024]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S2816x1024 .f32) (main_arg5 : FVec F S2816x1024 .f32) (main_arg6 : FVec F S2816x1024 .f32) (main_arg7 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S1024x1024 .f32) (main_arg3 : FVec F S1x1024 .f32) (main_arg4 : FVec F S2816x1024 .f32) (main_arg5 : FVec F S2816x1024 .f32) (main_arg6 : FVec F S2816x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_finite3.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg4 : FVec F S4096x3072 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x3072 .f32 := Host.absf main_arg4
  let main_cst_6 : FVec F S_ .f32 := constant S_ .f32 0x7F800000#32
  let main_v20 : FVec F S4096x3072 .f32 := broadcastInDim S4096x3072 ![] bcast_S_S4096x3072 main_cst_6
  let main_v21 : IVec S4096x3072 1 := cmpf .olt main_v19 main_v20
  let main_c_7 : IVec S_ 1 := constantI S_ 1 1#1
  let main_v22 : IVec S_ 1 := (fun x v => Host.reduce IntOp.andi x v reducesTo_S4096x3072_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1024x3072 .f32) (main_arg3 : FVec F S4096x1024 .f32) (main_arg4 : FVec F S4096x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite8.lean ====
abbrev S4096x3072 : Shape := ⟨2, ![4096, 3072]⟩
abbrev S4096x768 : Shape := ⟨2, ![4096, 768]⟩
abbrev S_ : Shape := ⟨0, ![]⟩

class Facts : Prop where
  slices_S4096x3072_S4096x768_0_0 : S4096x3072.Slices ![0, 0] S4096x768
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x3072 .f32) : IVec S_ 1 :=
  let main_v0 : FVec F S4096x768 .f32 := (extractStridedSlice S4096x768 ![0, 0] · slices_S4096x3072_S4096x768_0_0) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  main_v4
-- ==== Kernel.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S2816x4096 : Shape := ⟨2, ![2816, 4096]⟩
abbrev S256x1024 : Shape := ⟨2, ![256, 1024]⟩
abbrev S256x2816 : Shape := ⟨2, ![256, 2816]⟩
abbrev S2816x256 : Shape := ⟨2, ![2816, 256]⟩
abbrev S256 : Shape := ⟨1, ![256]⟩
abbrev S256x1 : Shape := ⟨2, ![256, 1]⟩
abbrev S1024 : Shape := ⟨1, ![1024]⟩
abbrev S256x4096 : Shape := ⟨2, ![256, 4096]⟩

abbrev nBuf : Space → Nat
  | .hbm => 22
  | .vmem => 51
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S4096x1024, .f32⟩
  | .hbm, ⟨6, _⟩ => ⟨S2816x1024, .bf16⟩
  | .hbm, ⟨7, _⟩ => ⟨S2816x1024, .bf16⟩
  | .hbm, ⟨8, _⟩ => ⟨S2816x1024, .bf16⟩
  | .hbm, ⟨9, _⟩ => ⟨S4096x1024, .f32⟩
  | .hbm, ⟨10, _⟩ => ⟨S4096x2816, .bf16⟩
  | .hbm, ⟨11, _⟩ => ⟨S4096x2816, .bf16⟩
  | .hbm, ⟨12, _⟩ => ⟨S2816x4096, .bf16⟩
  | .hbm, ⟨13, _⟩ => ⟨S4096x1024, .f32⟩
  | .hbm, ⟨14, _⟩ => ⟨S2816x4096, .bf16⟩
  | .hbm, ⟨15, _⟩ => ⟨S2816x4096, .bf16⟩
  | .hbm, ⟨16, _⟩ => ⟨S4096x1024, .bf16⟩
  | .hbm, ⟨17, _⟩ => ⟨S4096x1024, .bf16⟩
  | .hbm, ⟨18, _⟩ => ⟨S1x1024, .f32⟩
  | .hbm, ⟨19, _⟩ => ⟨S2816x1024, .bf16⟩
  | .hbm, ⟨20, _⟩ => ⟨S2816x1024, .bf16⟩
  | .hbm, ⟨21, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S2816x256, .bf16⟩
  | .local _ .vmem, ⟨13, _⟩ => ⟨S2816x256, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | .local _ .vmem, ⟨26, _⟩ => ⟨S256x1024, .f32⟩
  | .local _ .vmem, ⟨27, _⟩ => ⟨S256x1024, .f32⟩
  | .local _ .vmem, ⟨28, _⟩ => ⟨S2816x256, .bf16⟩
  | .local _ .vmem, ⟨29, _⟩ => ⟨S2816x256, .bf16⟩
  | .local _ .vmem, ⟨30, _⟩ => ⟨S2816x256, .bf16⟩
  | .local _ .vmem, ⟨31, _⟩ => ⟨S2816x256, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1x1024, .f32⟩
  | .local _ .vmem, ⟨37, _⟩ => ⟨S256x4096, .bf16⟩
  | .local _ .vmem, ⟨38, _⟩ => ⟨S256x4096, .bf16⟩
  | .local _ .vmem, ⟨39, _⟩ => ⟨S256x4096, .bf16⟩
  | .local _ .vmem, ⟨40, _⟩ => ⟨S256x4096, .bf16⟩
  | .local _ .vmem, ⟨41, _⟩ => ⟨S256x4096, .bf16⟩
  | .local _ .vmem, ⟨42, _⟩ => ⟨S256x4096, .bf16⟩
  | .local _ .vmem, ⟨43, _⟩ => ⟨S4096x1024, .bf16⟩
  | .local _ .vmem, ⟨44, _⟩ => ⟨S4096x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg5_1 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg7_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem4_0 : DmaSem sig := 44
abbrev cc2_sem5_0 : DmaSem sig := 45
abbrev cc2_sem5_1 : DmaSem sig := 46
abbrev cc2_sem6_0 : DmaSem sig := 47
abbrev cc2_sem6_1 : DmaSem sig := 48
abbrev cc2_sem7_0 : DmaSem sig := 49
abbrev cc2_sem7_1 : DmaSem sig := 50

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2816x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2816x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2816x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S1024x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S1024x2816, .f32⟩
  | .hbm, ⟨53, _⟩ => ⟨S2816x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S2816x1024, .f32⟩
  | .hbm, ⟨58, _⟩ => ⟨S1024x2816, .f32⟩
  | .hbm, ⟨59, _⟩ => ⟨S4096x1024, .f32⟩
  | .hbm, ⟨60, _⟩ => ⟨S2816x1024, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S2816x1024, .f32⟩
  | .hbm, ⟨66, _⟩ => ⟨S1024x2816, .f32⟩
  | .hbm, ⟨67, _⟩ => ⟨S4096x1024, .f32⟩
  | .hbm, ⟨68, _⟩ => ⟨S4096x1024, .f32⟩
  | .hbm, ⟨69, _⟩ => ⟨S2816x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S2816x1024, .bf16⟩
  | .hbm, ⟨95, _⟩ => ⟨S2816x1024, .bf16⟩
  | .hbm, ⟨96, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1x1024 : Shape := ⟨2, ![1, 1024]⟩
abbrev S2816x1024 : Shape := ⟨2, ![2816, 1024]⟩
abbrev S4096x2816 : Shape := ⟨2, ![4096, 2816]⟩
abbrev S2816x4096 : Shape := ⟨2, ![2816, 4096]⟩
abbrev S256x1024 : Shape := ⟨2, ![256, 1024]⟩
abbrev S256x2816 : Shape := ⟨2, ![256, 2816]⟩
abbrev S2816x256 : Shape := ⟨2, ![2816, 256]⟩
abbrev S256 : Shape := ⟨1, ![256]⟩
abbrev S256x1 : Shape := ⟨2, ![256, 1]⟩
abbrev S1024 : Shape := ⟨1, ![1024]⟩
abbrev S256x4096 : Shape := ⟨2, ![256, 4096]⟩

abbrev nBuf : Space → Nat
  | .hbm => 28
  | .vmem => 61
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S4096x1024, .f32⟩
  | .hbm, ⟨8, _⟩ => ⟨S4096x1024, .bf16⟩
  | .hbm, ⟨9, _⟩ => ⟨S1024x1024, .bf16⟩
  | .hbm, ⟨10, _⟩ => ⟨S2816x1024, .bf16⟩
  | .hbm, ⟨11, _⟩ => ⟨S2816x1024, .bf16⟩
  | .hbm, ⟨12, _⟩ => ⟨S2816x1024, .bf16⟩
  | .hbm, ⟨13, _⟩ => ⟨S4096x1024, .f32⟩
  | .hbm, ⟨14, _⟩ => ⟨S4096x1024, .f32⟩
  | .hbm, ⟨15, _⟩ => ⟨S4096x2816, .bf16⟩
  | .hbm, ⟨16, _⟩ => ⟨S4096x2816, .bf16⟩
  | .hbm, ⟨17, _⟩ => ⟨S2816x4096, .bf16⟩
  | .hbm, ⟨18, _⟩ => ⟨S4096x1024, .f32⟩
  | .hbm, ⟨19, _⟩ => ⟨S2816x4096, .bf16⟩
  | .hbm, ⟨20, _⟩ => ⟨S2816x4096, .bf16⟩
  | .hbm, ⟨21, _⟩ => ⟨S4096x1024, .bf16⟩
  | .hbm, ⟨22, _⟩ => ⟨S4096x1024, .bf16⟩
  | .hbm, ⟨23, _⟩ => ⟨S1x1024, .f32⟩
  | .hbm, ⟨24, _⟩ => ⟨S2816x1024, .bf16⟩
  | .hbm, ⟨25, _⟩ => ⟨S2816x1024, .bf16⟩
  | .hbm, ⟨26, _⟩ => ⟨S2816x1024, .bf16⟩
  | .hbm, ⟨27, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S2816x256, .bf16⟩
  | .local _ .vmem, ⟨18, _⟩ => ⟨S2816x256, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S256x2816, .bf16⟩
  | .local _ .vmem, ⟨28, _⟩ => ⟨S2816x1024, .bf16⟩
  | .local _ .vmem, ⟨29, _⟩ => ⟨S2816x1024, .bf16⟩
  | .local _ .vmem, ⟨30, _⟩ => ⟨S2816x1024, .bf16⟩
  | .local _ .vmem, ⟨31, _⟩ => ⟨S256x1024, .f32⟩
  | .local _ .vmem, ⟨32, _⟩ => ⟨S256x1024, .f32⟩
  | .local _ .vmem, ⟨33, _⟩ => ⟨S2816x256, .bf16⟩
  | .local _ .vmem, ⟨34, _⟩ => ⟨S2816x256, .bf16⟩
  | .local _ .vmem, ⟨35, _⟩ => ⟨S2816x256, .bf16⟩
  | .local _ .vmem, ⟨36, _⟩ => ⟨S2816x256, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S1x1024, .f32⟩
  | .local _ .vmem, ⟨42, _⟩ => ⟨S256x4096, .bf16⟩
  | .local _ .vmem, ⟨43, _⟩ => ⟨S256x4096, .bf16⟩
  | .local _ .vmem, ⟨44, _⟩ => ⟨S256x4096, .bf16⟩
  | .local _ .vmem, ⟨45, _⟩ => ⟨S256x4096, .bf16⟩
  | .local _ .vmem, ⟨46, _⟩ => ⟨S256x4096, .bf16⟩
  | .local _ .vmem, ⟨47, _⟩ => ⟨S256x4096, .bf16⟩
  | .local _ .vmem, ⟨48, _⟩ => ⟨S4096x1024, .bf16⟩
  | .local _ .vmem, ⟨49, _⟩ => ⟨S4096x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S256x1024, .bf16⟩
  | .local _ .vmem, ⟨55, _⟩ => ⟨S256x1024, .bf16⟩
  | .local _ .vmem, ⟨56, _⟩ => ⟨S1024x1024, .f32⟩
  | .local _ .vmem, ⟨57, _⟩ => ⟨S1024x1024, .f32⟩
  | .local _ .vmem, ⟨58, _⟩ => ⟨S1024x1024, .bf16⟩
  | .local _ .vmem, ⟨59, _⟩ => ⟨S1024x1024, .f32⟩
  | .local _ .vmem, ⟨60, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg4_0 : Ref sig .tc := ⟨.vmem, 49, rfl⟩
abbrev cc2_stg5_0 : Ref sig .tc := ⟨.vmem, 50, rfl⟩
abbrev cc2_stg5_1 : Ref sig .tc := ⟨.vmem, 51, rfl⟩
abbrev cc2_stg6_0 : Ref sig .tc := ⟨.vmem, 52, rfl⟩
abbrev cc2_stg6_1 : Ref sig .tc := ⟨.vmem, 53, rfl⟩
abbrev cc2_stg7_0 : Ref sig .tc := ⟨.vmem, 54, rfl⟩
abbrev cc2_stg7_1 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg2_0 : Ref sig .tc := ⟨.vmem, 59, rfl⟩
abbrev cc3_stg2_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40
abbrev cc1_sem13_0 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem4_0 : DmaSem sig := 49
abbrev cc2_sem5_0 : DmaSem sig := 50
abbrev cc2_sem5_1 : DmaSem sig := 51
abbrev cc2_sem6_0 : DmaSem sig := 52
abbrev cc2_sem6_1 : DmaSem sig := 53
abbrev cc2_sem7_0 : DmaSem sig := 54
abbrev cc2_sem7_1 : DmaSem sig := 55
abbrev cc3_sem0_0 : DmaSem sig := 56
abbrev cc3_sem0_1 : DmaSem sig := 57
abbrev cc3_sem1_0 : DmaSem sig := 58
abbrev cc3_sem2_0 : DmaSem sig := 59
abbrev cc3_sem2_1 : DmaSem sig := 60

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2816x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2816x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2816x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S4096x1024 : Shape := ⟨2, ![4096, 1024]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S1024x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S1024x2816, .f32⟩
  | .hbm, ⟨58, _⟩ => ⟨S2816x1024, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S2816x1024, .f32⟩
  | .hbm, ⟨63, _⟩ => ⟨S1024x2816, .f32⟩
  | .hbm, ⟨64, _⟩ => ⟨S4096x1024, .f32⟩
  | .hbm, ⟨65, _⟩ => ⟨S2816x1024, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S2816x1024, .f32⟩
  | .hbm, ⟨71, _⟩ => ⟨S1024x2816, .f32⟩
  | .hbm, ⟨72, _⟩ => ⟨S4096x1024, .f32⟩
  | .hbm, ⟨73, _⟩ => ⟨S4096x1024, .f32⟩
  | .hbm, ⟨74, _⟩ => ⟨S2816x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1024x1024, .f32⟩
  | .hbm, ⟨100, _⟩ => ⟨S1024x1024, .f32⟩
  | .hbm, ⟨101, _⟩ => ⟨S4096x1024, .f32⟩
  | .hbm, ⟨102, _⟩ => ⟨S2816x1024, .bf16⟩
  | .hbm, ⟨103, _⟩ => ⟨S2816x1024, .bf16⟩
  | .hbm, ⟨104, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S1024x4096 : Shape := ⟨2, ![1024, 4096]⟩
abbrev S512x1024 : Shape := ⟨2, ![512, 1024]⟩
abbrev S512x3072 : Shape := ⟨2, ![512, 3072]⟩
abbrev S1024x512 : Shape := ⟨2, ![1024, 512]⟩
abbrev S512 : Shape := ⟨1, ![512]⟩
abbrev S512x1 : Shape := ⟨2, ![512, 1]⟩
abbrev S4096x512 : Shape := ⟨2, ![4096, 512]⟩
abbrev S1024 : Shape := ⟨1, ![1024]⟩

abbrev nBuf : Space → Nat
  | .hbm => 12
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S1024x3072, .bf16⟩
  | .hbm, ⟨6, _⟩ => ⟨S4096x3072, .bf16⟩
  | .hbm, ⟨7, _⟩ => ⟨S4096x3072, .f32⟩
  | .hbm, ⟨8, _⟩ => ⟨S1024x4096, .bf16⟩
  | .hbm, ⟨9, _⟩ => ⟨S1024x3072, .bf16⟩
  | .hbm, ⟨10, _⟩ => ⟨S4096x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | .local _ .vmem, ⟨6, _⟩ => ⟨S1024x512, .bf16⟩
  | .local _ .vmem, ⟨7, _⟩ => ⟨S1024x512, .bf16⟩
  | .local _ .vmem, ⟨8, _⟩ => ⟨S1024x4096, .bf16⟩
  | .local _ .vmem, ⟨9, _⟩ => ⟨S4096x512, .bf16⟩
  | .local _ .vmem, ⟨10, _⟩ => ⟨S4096x512, .bf16⟩
  | .local _ .vmem, ⟨11, _⟩ => ⟨S1024x512, .bf16⟩
  | .local _ .vmem, ⟨12, _⟩ => ⟨S1024x512, .bf16⟩
  | .local _ .vmem, ⟨13, _⟩ => ⟨S512x3072, .bf16⟩
  | .local _ .vmem, ⟨14, _⟩ => ⟨S512x3072, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1024x3072, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x3072 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== Reference3Ideal.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S3072x1024 : Shape := ⟨2, ![3072, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S3072x1024, .f32⟩
  | .hbm, ⟨26, _⟩ => ⟨S1024x3072, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S2816x4096 : Shape := ⟨2, ![2816, 4096]⟩
abbrev S4096x1024 : Shape := ⟨2, ![4096, 1024]⟩
abbrev S2816x1024 : Shape := ⟨2, ![2816, 1024]⟩
abbrev S256x4096 : Shape := ⟨2, ![256, 4096]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2816x4096, .f32⟩
  | .hbm, ⟨1, _⟩ => ⟨S4096x1024, .f32⟩
  | .hbm, ⟨2, _⟩ => ⟨S2816x4096, .bf16⟩
  | .hbm, ⟨3, _⟩ => ⟨S4096x1024, .bf16⟩
  | .hbm, ⟨4, _⟩ => ⟨S2816x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S2816x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2816x4096 : Shape := ⟨2, ![2816, 4096]⟩
abbrev S4096x1024 : Shape := ⟨2, ![4096, 1024]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2816x4096, .f32⟩
  | .hbm, ⟨1, _⟩ => ⟨S4096x1024, .f32⟩
  | .hbm, ⟨2, _⟩ => ⟨S2816x1024, .f32⟩
  | .hbm, ⟨3, _⟩ => ⟨S2816x1024, .bf16⟩
  | _, _ => ⟨S2816x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x3072 : Shape := ⟨2, ![4096, 3072]⟩
abbrev S4x896 : Shape := ⟨2, ![4, 896]⟩
abbrev S4096x896 : Shape := ⟨2, ![4096, 896]⟩
abbrev S_ : Shape := ⟨0, ![]⟩
abbrev S8x896 : Shape := ⟨2, ![8, 896]⟩
abbrev S2048x128 : Shape := ⟨2, ![2048, 128]⟩
abbrev S8x128 : Shape := ⟨2, ![8, 128]⟩
abbrev S2048x1 : Shape := ⟨2, ![2048, 1]⟩
abbrev S1x128 : Shape := ⟨2, ![1, 128]⟩
abbrev S128 : Shape := ⟨1, ![128]⟩
abbrev S1x896 : Shape := ⟨2, ![1, 896]⟩

abbrev nBuf : Space → Nat
  | .hbm => 10
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4x896, .f32⟩
  | .hbm, ⟨2, _⟩ => ⟨S4096x896, .f32⟩
  | .hbm, ⟨3, _⟩ => ⟨S_, .i32⟩
  | .hbm, ⟨4, _⟩ => ⟨S_, .f32⟩
  | .hbm, ⟨5, _⟩ => ⟨S8x896, .f32⟩
  | .hbm, ⟨6, _⟩ => ⟨S4096x896, .bf16⟩
  | .hbm, ⟨7, _⟩ => ⟨S8x896, .f32⟩
  | .hbm, ⟨8, _⟩ => ⟨S4x896, .f32⟩
  | .hbm, ⟨9, _⟩ => ⟨S1x896, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S8x128, .f32⟩
  | .local _ .vmem, ⟨6, _⟩ => ⟨S2048x128, .bf16⟩
  | .local _ .vmem, ⟨7, _⟩ => ⟨S2048x128, .bf16⟩
  | .local _ .vmem, ⟨8, _⟩ => ⟨S8x128, .f32⟩
  | .local _ .vmem, ⟨9, _⟩ => ⟨S8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x3072 : Shape := ⟨2, ![4096, 3072]⟩
abbrev S4x896 : Shape := ⟨2, ![4, 896]⟩
abbrev S4096x896 : Shape := ⟨2, ![4096, 896]⟩
abbrev S2x2048x896 : Shape := ⟨3, ![2, 2048, 896]⟩
abbrev S_ : Shape := ⟨0, ![]⟩
abbrev S1x896 : Shape := ⟨2, ![1, 896]⟩
abbrev S2x3x896 : Shape := ⟨3, ![2, 3, 896]⟩
abbrev S2x2051x896 : Shape := ⟨3, ![2, 2051, 896]⟩
abbrev S896 : Shape := ⟨1, ![896]⟩
abbrev S1x1x896 : Shape := ⟨3, ![1, 1, 896]⟩

abbrev nBuf : Space → Nat
  | .hbm => 111
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x896, .f32⟩
  | .hbm, ⟨2, _⟩ => ⟨S4096x896, .f32⟩
  | .hbm, ⟨3, _⟩ => ⟨S4096x896, .f32⟩
  | .hbm, ⟨4, _⟩ => ⟨S2x2048x896, .f32⟩
  | .hbm, ⟨5, _⟩ => ⟨S_, .f32⟩
  | .hbm, ⟨6, _⟩ => ⟨S1x896, .f32⟩
  | .hbm, ⟨7, _⟩ => ⟨S_, .f32⟩
  | .hbm, ⟨8, _⟩ => ⟨S2x3x896, .f32⟩
  | .hbm, ⟨9, _⟩ => ⟨S2x2051x896, .f32⟩
  | .hbm, ⟨10, _⟩ => ⟨S_, .f32⟩
  | .hbm, ⟨11, _⟩ => ⟨S2x3x896, .f32⟩
  | .hbm, ⟨12, _⟩ => ⟨S1x896, .f32⟩
  | .hbm, ⟨13, _⟩ => ⟨S896, .f32⟩
  | .hbm, ⟨14, _⟩ => ⟨S2x2048x896, .f32⟩
  | .hbm, ⟨15, _⟩ => ⟨S1x1x896, .f32⟩
  | .hbm, ⟨16, _⟩ => ⟨S2x2048x896, .f32⟩
  | .hbm, ⟨17, _⟩ => ⟨S2x2048x896, .f32⟩
  | .hbm, ⟨18, _⟩ => ⟨S1x896, .f32⟩
  | .hbm, ⟨19, _⟩ => ⟨S896, .f32⟩
  | .hbm, ⟨20, _⟩ => ⟨S2x2048x896, .f32⟩
  | .hbm, ⟨21, _⟩ => ⟨S1x1x896, .f32⟩
  | .hbm, ⟨22, _⟩ => ⟨S2x2048x896, .f32⟩
  | .hbm, ⟨23, _⟩ => ⟨S2x2048x896, .f32⟩
  | .hbm, ⟨24, _⟩ => ⟨S2x2048x896, .f32⟩
  | .hbm, ⟨25, _⟩ => ⟨S1x896, .f32⟩
  | .hbm, ⟨26, _⟩ => ⟨S896, .f32⟩
  | .hbm, ⟨27, _⟩ => ⟨S2x2048x896, .f32⟩
  | .hbm, ⟨28, _⟩ => ⟨S1x1x896, .f32⟩
  | .hbm, ⟨29, _⟩ => ⟨S2x2048x896, .f32⟩
  | .hbm, ⟨30, _⟩ => ⟨S2x2048x896, .f32⟩
  | .hbm, ⟨31, _⟩ => ⟨S2x2048x896, .f32⟩
  | .hbm, ⟨32, _⟩ => ⟨S1x896, .f32⟩
  | .hbm, ⟨33, _⟩ => ⟨S896, .f32⟩
  | .hbm, ⟨34, _⟩ => ⟨S2x2048x896, .f32⟩
  | .hbm, ⟨35, _⟩ => ⟨S1x1x896, .f32⟩
  | .hbm, ⟨36, _⟩ => ⟨S2x2048x896, .f32⟩
  | .hbm, ⟨37, _⟩ => ⟨S2x2048x896, .f32⟩
  | .hbm, ⟨38, _⟩ => ⟨S2x2048x896, .f32⟩
  | .hbm, ⟨39, _⟩ => ⟨S1x1x896, .f32⟩
  | .hbm, ⟨40, _⟩ => ⟨S2x2048x896, .f32⟩
  | .hbm, ⟨41, _⟩ => ⟨S2x2048x896, .f32⟩
  | .hbm, ⟨42, _⟩ => ⟨S2x2048x896, .f32⟩
  | .hbm, ⟨43, _⟩ => ⟨S_, .f32⟩
  | .hbm, ⟨44, _⟩ => ⟨S896, .f32⟩
  | .hbm, ⟨45, _⟩ => ⟨S1x1x896, .f32⟩
  | .hbm, ⟨46, _⟩ => ⟨S_, .f32⟩
  | .hbm, ⟨47, _⟩ => ⟨S896, .f32⟩
  | .hbm, ⟨48, _⟩ => ⟨S1x896, .f32⟩
  | .hbm, ⟨49, _⟩ => ⟨S2x2048x896, .f32⟩
  | .hbm, ⟨50, _⟩ => ⟨S2x2048x896, .f32⟩
  | .hbm, ⟨51, _⟩ => ⟨S2x2048x896, .f32⟩
  | .hbm, ⟨52, _⟩ => ⟨S_, .f32⟩
  | .hbm, ⟨53, _⟩ => ⟨S896, .f32⟩
  | .hbm, ⟨54, _⟩ => ⟨S1x1x896, .f32⟩
  | .hbm, ⟨55, _⟩ => ⟨S_, .f32⟩
  | .hbm, ⟨56, _⟩ => ⟨S896, .f32⟩
  | .hbm, ⟨57, _⟩ => ⟨S_, .f32⟩
  | .hbm, ⟨58, _⟩ => ⟨S2x2051x896, .f32⟩
  | .hbm, ⟨59, _⟩ => ⟨S1x896, .f32⟩
  | .hbm, ⟨60, _⟩ => ⟨S_, .f32⟩
  | .hbm, ⟨61, _⟩ => ⟨S4x896, .f32⟩
  | .hbm, ⟨62, _⟩ => ⟨S2x2048x896, .f32⟩
  | .hbm, ⟨63, _⟩ => ⟨S2x2048x896, .f32⟩
  | .hbm, ⟨64, _⟩ => ⟨S2x2048x896, .f32⟩
  | .hbm, ⟨65, _⟩ => ⟨S_, .f32⟩
  | .hbm, ⟨66, _⟩ => ⟨S896, .f32⟩
  | .hbm, ⟨67, _⟩ => ⟨S1x1x896, .f32⟩
  | .hbm, ⟨68, _⟩ => ⟨S_, .f32⟩
  | .hbm, ⟨69, _⟩ => ⟨S896, .f32⟩
  | .hbm, ⟨70, _⟩ => ⟨S_, .f32⟩
  | .hbm, ⟨71, _⟩ => ⟨S2x2051x896, .f32⟩
  | .hbm, ⟨72, _⟩ => ⟨S2x2051x896, .f32⟩
  | .hbm, ⟨73, _⟩ => ⟨S1x896, .f32⟩
  | .hbm, ⟨74, _⟩ => ⟨S_, .f32⟩
  | .hbm, ⟨75, _⟩ => ⟨S4x896, .f32⟩
  | .hbm, ⟨76, _⟩ => ⟨S4x896, .f32⟩
  | .hbm, ⟨77, _⟩ => ⟨S2x2048x896, .f32⟩
  | .hbm, ⟨78, _⟩ => ⟨S2x2048x896, .f32⟩
  | .hbm, ⟨79, _⟩ => ⟨S2x2048x896, .f32⟩
  | .hbm, ⟨80, _⟩ => ⟨S_, .f32⟩
  | .hbm, ⟨81, _⟩ => ⟨S896, .f32⟩
  | .hbm, ⟨82, _⟩ => ⟨S1x1x896, .f32⟩
  | .hbm, ⟨83, _⟩ => ⟨S_, .f32⟩
  | .hbm, ⟨84, _⟩ => ⟨S896, .f32⟩
  | .hbm, ⟨85, _⟩ => ⟨S_, .f32⟩
  | .hbm, ⟨86, _⟩ => ⟨S2x2051x896, .f32⟩
  | .hbm, ⟨87, _⟩ => ⟨S2x2051x896, .f32⟩
  | .hbm, ⟨88, _⟩ => ⟨S1x896, .f32⟩
  | .hbm, ⟨89, _⟩ => ⟨S_, .f32⟩
  | .hbm, ⟨90, _⟩ => ⟨S4x896, .f32⟩
  | .hbm, ⟨91, _⟩ => ⟨S4x896, .f32⟩
  | .hbm, ⟨92, _⟩ => ⟨S2x2048x896, .f32⟩
  | .hbm, ⟨93, _⟩ => ⟨S2x2048x896, .f32⟩
  | .hbm, ⟨94, _⟩ => ⟨S2x2048x896, .f32⟩
  | .hbm, ⟨95, _⟩ => ⟨S_, .f32⟩
  | .hbm, ⟨96, _⟩ => ⟨S896, .f32⟩
  | .hbm, ⟨97, _⟩ => ⟨S1x1x896, .f32⟩
  | .hbm, ⟨98, _⟩ => ⟨S_, .f32⟩
  | .hbm, ⟨99, _⟩ => ⟨S896, .f32⟩
  | .hbm, ⟨100, _⟩ => ⟨S_, .f32⟩
  | .hbm, ⟨101, _⟩ => ⟨S2x2051x896, .f32⟩
  | .hbm, ⟨102, _⟩ => ⟨S2x2051x896, .f32⟩
  | .hbm, ⟨103, _⟩ => ⟨S1x896, .f32⟩
  | .hbm, ⟨104, _⟩ => ⟨S_, .f32⟩
  | .hbm, ⟨105, _⟩ => ⟨S4x896, .f32⟩
  | .hbm, ⟨106, _⟩ => ⟨S4x896, .f32⟩
  | .hbm, ⟨107, _⟩ => ⟨S2x3x896, .f32⟩
  | .hbm, ⟨108, _⟩ => ⟨S2x2048x896, .f32⟩
  | .hbm, ⟨109, _⟩ => ⟨S4096x896, .f32⟩
  | .hbm, ⟨110, _⟩ => ⟨S4096x896, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_16 : Ref sig .tc := ⟨.hbm, 95, rfl⟩
abbrev main_v75 : Ref sig .tc := ⟨.hbm, 96, rfl⟩
abbrev main_v76 : Ref sig .tc := ⟨.hbm, 97, rfl⟩
abbrev main_cst_17 : Ref sig .tc := ⟨.hbm, 98, rfl⟩
abbrev main_v77 : Ref sig .tc := ⟨.hbm, 99, rfl⟩
abbrev main_cst_18 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_19 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Kernel7.lean ====
abbrev S4096x3072 : Shape := ⟨2, ![4096, 3072]⟩
abbrev S4x896 : Shape := ⟨2, ![4, 896]⟩
abbrev S1x896 : Shape := ⟨2, ![1, 896]⟩
abbrev S_ : Shape := ⟨0, ![]⟩
abbrev S8x896 : Shape := ⟨2, ![8, 896]⟩
abbrev S4096x896 : Shape := ⟨2, ![4096, 896]⟩
abbrev S2048x128 : Shape := ⟨2, ![2048, 128]⟩
abbrev S8x128 : Shape := ⟨2, ![8, 128]⟩
abbrev S1x128 : Shape := ⟨2, ![1, 128]⟩
abbrev S2048x1 : Shape := ⟨2, ![2048, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x896, .f32⟩
  | .hbm, ⟨2, _⟩ => ⟨S1x896, .f32⟩
  | .hbm, ⟨3, _⟩ => ⟨S_, .i32⟩
  | .hbm, ⟨4, _⟩ => ⟨S_, .f32⟩
  | .hbm, ⟨5, _⟩ => ⟨S8x896, .f32⟩
  | .hbm, ⟨6, _⟩ => ⟨S4096x896, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x3072 : Shape := ⟨2, ![4096, 3072]⟩
abbrev S4x896 : Shape := ⟨2, ![4, 896]⟩
abbrev S1x896 : Shape := ⟨2, ![1, 896]⟩
abbrev S4096x896 : Shape := ⟨2, ![4096, 896]⟩
abbrev S2x2048x896 : Shape := ⟨3, ![2, 2048, 896]⟩
abbrev S_ : Shape := ⟨0, ![]⟩
abbrev S2x3x896 : Shape := ⟨3, ![2, 3, 896]⟩
abbrev S2x2051x896 : Shape := ⟨3, ![2, 2051, 896]⟩
abbrev S896 : Shape := ⟨1, ![896]⟩
abbrev S1x1x896 : Shape := ⟨3, ![1, 1, 896]⟩

abbrev nBuf : Space → Nat
  | .hbm => 39
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x896, .f32⟩
  | .hbm, ⟨2, _⟩ => ⟨S1x896, .f32⟩
  | .hbm, ⟨3, _⟩ => ⟨S4096x896, .f32⟩
  | .hbm, ⟨4, _⟩ => ⟨S2x2048x896, .f32⟩
  | .hbm, ⟨5, _⟩ => ⟨S_, .f32⟩
  | .hbm, ⟨6, _⟩ => ⟨S2x3x896, .f32⟩
  | .hbm, ⟨7, _⟩ => ⟨S2x2051x896, .f32⟩
  | .hbm, ⟨8, _⟩ => ⟨S1x896, .f32⟩
  | .hbm, ⟨9, _⟩ => ⟨S896, .f32⟩
  | .hbm, ⟨10, _⟩ => ⟨S2x2048x896, .f32⟩
  | .hbm, ⟨11, _⟩ => ⟨S1x1x896, .f32⟩
  | .hbm, ⟨12, _⟩ => ⟨S2x2048x896, .f32⟩
  | .hbm, ⟨13, _⟩ => ⟨S2x2048x896, .f32⟩
  | .hbm, ⟨14, _⟩ => ⟨S1x896, .f32⟩
  | .hbm, ⟨15, _⟩ => ⟨S896, .f32⟩
  | .hbm, ⟨16, _⟩ => ⟨S2x2048x896, .f32⟩
  | .hbm, ⟨17, _⟩ => ⟨S1x1x896, .f32⟩
  | .hbm, ⟨18, _⟩ => ⟨S2x2048x896, .f32⟩
  | .hbm, ⟨19, _⟩ => ⟨S2x2048x896, .f32⟩
  | .hbm, ⟨20, _⟩ => ⟨S2x2048x896, .f32⟩
  | .hbm, ⟨21, _⟩ => ⟨S1x896, .f32⟩
  | .hbm, ⟨22, _⟩ => ⟨S896, .f32⟩
  | .hbm, ⟨23, _⟩ => ⟨S2x2048x896, .f32⟩
  | .hbm, ⟨24, _⟩ => ⟨S1x1x896, .f32⟩
  | .hbm, ⟨25, _⟩ => ⟨S2x2048x896, .f32⟩
  | .hbm, ⟨26, _⟩ => ⟨S2x2048x896, .f32⟩
  | .hbm, ⟨27, _⟩ => ⟨S2x2048x896, .f32⟩
  | .hbm, ⟨28, _⟩ => ⟨S1x896, .f32⟩
  | .hbm, ⟨29, _⟩ => ⟨S896, .f32⟩
  | .hbm, ⟨30, _⟩ => ⟨S2x2048x896, .f32⟩
  | .hbm, ⟨31, _⟩ => ⟨S1x1x896, .f32⟩
  | .hbm, ⟨32, _⟩ => ⟨S2x2048x896, .f32⟩
  | .hbm, ⟨33, _⟩ => ⟨S2x2048x896, .f32⟩
  | .hbm, ⟨34, _⟩ => ⟨S2x2048x896, .f32⟩
  | .hbm, ⟨35, _⟩ => ⟨S1x1x896, .f32⟩
  | .hbm, ⟨36, _⟩ => ⟨S2x2048x896, .f32⟩
  | .hbm, ⟨37, _⟩ => ⟨S2x2048x896, .f32⟩
  | .hbm, ⟨38, _⟩ => ⟨S4096x896, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Kernel8.lean ====
abbrev S4096x3072 : Shape := ⟨2, ![4096, 3072]⟩
abbrev S256x2048 : Shape := ⟨2, ![256, 2048]⟩
abbrev S_ : Shape := ⟨0, ![]⟩
abbrev S4096x384 : Shape := ⟨2, ![4096, 384]⟩
abbrev S2x3x2048x2 : Shape := ⟨4, ![2, 3, 2048, 2]⟩
abbrev S2048x128 : Shape := ⟨2, ![2048, 128]⟩
abbrev S1x1x2048x2 : Shape := ⟨4, ![1, 1, 2048, 2]⟩
abbrev S2x2048x64 : Shape := ⟨3, ![2, 2048, 64]⟩
abbrev S2048x64 : Shape := ⟨2, ![2048, 64]⟩
abbrev S1x2048x64 : Shape := ⟨3, ![1, 2048, 64]⟩
abbrev S256x64 : Shape := ⟨2, ![256, 64]⟩
abbrev S1x256x64 : Shape := ⟨3, ![1, 256, 64]⟩
abbrev S256x256 : Shape := ⟨2, ![256, 256]⟩
abbrev S256 : Shape := ⟨1, ![256]⟩
abbrev S256x1 : Shape := ⟨2, ![256, 1]⟩
abbrev S1x1x256x1 : Shape := ⟨4, ![1, 1, 256, 1]⟩
abbrev S1x512x64 : Shape := ⟨3, ![1, 512, 64]⟩
abbrev S512x64 : Shape := ⟨2, ![512, 64]⟩
abbrev S256x512 : Shape := ⟨2, ![256, 512]⟩
abbrev S1x768x64 : Shape := ⟨3, ![1, 768, 64]⟩
abbrev S768x64 : Shape := ⟨2, ![768, 64]⟩
abbrev S256x768 : Shape := ⟨2, ![256, 768]⟩
abbrev S1x1024x64 : Shape := ⟨3, ![1, 1024, 64]⟩
abbrev S1024x64 : Shape := ⟨2, ![1024, 64]⟩
abbrev S256x1024 : Shape := ⟨2, ![256, 1024]⟩
abbrev S1x1280x64 : Shape := ⟨3, ![1, 1280, 64]⟩
abbrev S1280x64 : Shape := ⟨2, ![1280, 64]⟩
abbrev S256x1280 : Shape := ⟨2, ![256, 1280]⟩
abbrev S1x1536x64 : Shape := ⟨3, ![1, 1536, 64]⟩
abbrev S1536x64 : Shape := ⟨2, ![1536, 64]⟩
abbrev S256x1536 : Shape := ⟨2, ![256, 1536]⟩
abbrev S1x1792x64 : Shape := ⟨3, ![1, 1792, 64]⟩
abbrev S1792x64 : Shape := ⟨2, ![1792, 64]⟩
abbrev S256x1792 : Shape := ⟨2, ![256, 1792]⟩

abbrev nBuf : Space → Nat
  | .hbm => 53
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S256x2048, .i32⟩
  | .hbm, ⟨2, _⟩ => ⟨S256x2048, .i32⟩
  | .hbm, ⟨3, _⟩ => ⟨S256x2048, .i32⟩
  | .hbm, ⟨4, _⟩ => ⟨S_, .i32⟩
  | .hbm, ⟨5, _⟩ => ⟨S256x2048, .i32⟩
  | .hbm, ⟨6, _⟩ => ⟨S256x2048, .i32⟩
  | .hbm, ⟨7, _⟩ => ⟨S_, .i32⟩
  | .hbm, ⟨8, _⟩ => ⟨S256x2048, .i32⟩
  | .hbm, ⟨9, _⟩ => ⟨S256x2048, .i1⟩
  | .hbm, ⟨10, _⟩ => ⟨S_, .i32⟩
  | .hbm, ⟨11, _⟩ => ⟨S256x2048, .i32⟩
  | .hbm, ⟨12, _⟩ => ⟨S256x2048, .i1⟩
  | .hbm, ⟨13, _⟩ => ⟨S256x2048, .i1⟩
  | .hbm, ⟨14, _⟩ => ⟨S256x2048, .f32⟩
  | .hbm, ⟨15, _⟩ => ⟨S_, .i32⟩
  | .hbm, ⟨16, _⟩ => ⟨S256x2048, .i32⟩
  | .hbm, ⟨17, _⟩ => ⟨S256x2048, .i32⟩
  | .hbm, ⟨18, _⟩ => ⟨S_, .i32⟩
  | .hbm, ⟨19, _⟩ => ⟨S256x2048, .i32⟩
  | .hbm, ⟨20, _⟩ => ⟨S256x2048, .i1⟩
  | .hbm, ⟨21, _⟩ => ⟨S256x2048, .i1⟩
  | .hbm, ⟨22, _⟩ => ⟨S_, .i32⟩
  | .hbm, ⟨23, _⟩ => ⟨S256x2048, .i32⟩
  | .hbm, ⟨24, _⟩ => ⟨S256x2048, .i1⟩
  | .hbm, ⟨25, _⟩ => ⟨S256x2048, .i1⟩
  | .hbm, ⟨26, _⟩ => ⟨S256x2048, .f32⟩
  | .hbm, ⟨27, _⟩ => ⟨S256x2048, .f32⟩
  | .hbm, ⟨28, _⟩ => ⟨S_, .i32⟩
  | .hbm, ⟨29, _⟩ => ⟨S256x2048, .i32⟩
  | .hbm, ⟨30, _⟩ => ⟨S256x2048, .i32⟩
  | .hbm, ⟨31, _⟩ => ⟨S_, .i32⟩
  | .hbm, ⟨32, _⟩ => ⟨S256x2048, .i32⟩
  | .hbm, ⟨33, _⟩ => ⟨S256x2048, .i1⟩
  | .hbm, ⟨34, _⟩ => ⟨S256x2048, .i1⟩
  | .hbm, ⟨35, _⟩ => ⟨S_, .i32⟩
  | .hbm, ⟨36, _⟩ => ⟨S256x2048, .i32⟩
  | .hbm, ⟨37, _⟩ => ⟨S256x2048, .i1⟩
  | .hbm, ⟨38, _⟩ => ⟨S256x2048, .i1⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .i1⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S4096x384, .f32⟩
  | .hbm, ⟨52, _⟩ => ⟨S2x3x2048x2, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x2048, .f32⟩
  | .local _ .vmem, ⟨7, _⟩ => ⟨S2048x128, .f32⟩
  | .local _ .vmem, ⟨8, _⟩ => ⟨S2048x128, .f32⟩
  | .local _ .vmem, ⟨9, _⟩ => ⟨S1x1x2048x2, .f32⟩
  | .local _ .vmem, ⟨10, _⟩ => ⟨S1x1x2048x2, .f32⟩
  | .local _ .vmem, ⟨11, _⟩ => ⟨S2x2048x64, .bf16⟩
  | .local _ .vmem, ⟨12, _⟩ => ⟨S2x2048x64, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_5 : Ref sig .tc := ⟨.hbm, 28, rfl⟩
abbrev main_v21 : Ref sig .tc := ⟨.hbm, 29, rfl⟩
abbrev main_v22 : Ref sig .tc := ⟨.hbm, 30, rfl⟩
abbrev main_c_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4096x3072 : Shape := ⟨2, ![4096, 3072]⟩
abbrev S4096x384 : Shape := ⟨2, ![4096, 384]⟩
abbrev S2x2048x6x64 : Shape := ⟨4, ![2, 2048, 6, 64]⟩
abbrev S2x6x2048x2048 : Shape := ⟨4, ![2, 6, 2048, 2048]⟩
abbrev S_ : Shape := ⟨0, ![]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S2x6x2048x64 : Shape := ⟨4, ![2, 6, 2048, 64]⟩
abbrev S1x2x6x2048 : Shape := ⟨4, ![1, 2, 6, 2048]⟩
abbrev S3x2x6x2048 : Shape := ⟨4, ![3, 2, 6, 2048]⟩

abbrev nBuf : Space → Nat
  | .hbm => 150
  | .vmem => 0
  | .smem => 0
  | _ => 0

abbrev hbmTy0_0 (i : Nat) : BufTy := match i % 128 with
  | 0 => ⟨S4096x3072, .f32⟩
  | 1 => ⟨S4096x384, .f32⟩
  | 2 => ⟨S4096x384, .f32⟩
  | 3 => ⟨S4096x384, .f32⟩
  | 4 => ⟨S2x2048x6x64, .f32⟩
  | 5 => ⟨S2x2048x6x64, .f32⟩
  | 6 => ⟨S2x2048x6x64, .f32⟩
  | 7 => ⟨S2x6x2048x2048, .f32⟩
  | 8 => ⟨S_, .f32⟩
  | 9 => ⟨S2x6x2048x2048, .f32⟩
  | 10 => ⟨S2x6x2048x2048, .f32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S_, .i32⟩
  | 18 => ⟨S2048x2048, .i32⟩
  | 19 => ⟨S2048x2048, .i1⟩
  | 20 => ⟨S2048x2048, .i1⟩
  | 21 => ⟨S_, .i32⟩
  | 22 => ⟨S2048x2048, .i32⟩
  | 23 => ⟨S2048x2048, .i32⟩
  | 24 => ⟨S_, .i32⟩
  | 25 => ⟨S2048x2048, .i32⟩
  | 26 => ⟨S2048x2048, .i1⟩
  | 27 => ⟨S2048x2048, .i1⟩
  | 28 => ⟨S2x6x2048x2048, .i1⟩
  | 29 => ⟨S_, .f32⟩
  | 30 => ⟨S2x6x2048x2048, .f32⟩
  | 31 => ⟨S2x6x2048x2048, .f32⟩
  | 32 => ⟨S_, .f32⟩
  | 33 => ⟨S2x6x2048, .f32⟩
  | 34 => ⟨S2x6x2048x1, .f32⟩
  | 35 => ⟨S2x6x2048x2048, .f32⟩
  | 36 => ⟨S2x6x2048x2048, .f32⟩
  | 37 => ⟨S2x6x2048x2048, .f32⟩
  | 38 => ⟨S_, .f32⟩
  | 39 => ⟨S2x6x2048, .f32⟩
  | 40 => ⟨S2x6x2048x64, .f32⟩
  | 41 => ⟨S2x6x2048x1, .f32⟩
  | 42 => ⟨S2x6x2048x64, .f32⟩
  | 43 => ⟨S2x6x2048x64, .f32⟩
  | 44 => ⟨S2x6x2048, .f32⟩
  | 45 => ⟨S2x6x2048, .f32⟩
  | 46 => ⟨S2x6x2048, .f32⟩
  | 47 => ⟨S_, .i32⟩
  | 48 => ⟨S2048x2048, .i32⟩
  | 49 => ⟨S2048x2048, .i1⟩
  | 50 => ⟨S_, .i32⟩
  | 51 => ⟨S2048x2048, .i32⟩
  | 52 => ⟨S2048x2048, .i1⟩
  | 53 => ⟨S2048x2048, .i1⟩
  | 54 => ⟨S_, .i32⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S2048x2048, .i1⟩
  | 61 => ⟨S2x6x2048x2048, .i1⟩
  | 62 => ⟨S_, .f32⟩
  | 63 => ⟨S2x6x2048x2048, .f32⟩
  | 64 => ⟨S2x6x2048x2048, .f32⟩
  | 65 => ⟨S_, .f32⟩
  | 66 => ⟨S2x6x2048, .f32⟩
  | 67 => ⟨S2x6x2048x1, .f32⟩
  | 68 => ⟨S2x6x2048x2048, .f32⟩
  | 69 => ⟨S2x6x2048x2048, .f32⟩
  | 70 => ⟨S2x6x2048x2048, .f32⟩
  | 71 => ⟨S_, .f32⟩
  | 72 => ⟨S2x6x2048, .f32⟩
  | 73 => ⟨S2x6x2048x64, .f32⟩
  | 74 => ⟨S2x6x2048x1, .f32⟩
  | 75 => ⟨S2x6x2048x64, .f32⟩
  | 76 => ⟨S2x6x2048x64, .f32⟩
  | 77 => ⟨S2x6x2048, .f32⟩
  | 78 => ⟨S2x6x2048, .f32⟩
  | 79 => ⟨S2x6x2048, .f32⟩
  | 80 => ⟨S_, .i32⟩
  | 81 => ⟨S2048x2048, .i32⟩
  | 82 => ⟨S2048x2048, .i1⟩
  | 83 => ⟨S_, .i32⟩
  | 84 => ⟨S2048x2048, .i32⟩
  | 85 => ⟨S2048x2048, .i1⟩
  | 86 => ⟨S2048x2048, .i1⟩
  | 87 => ⟨S_, .i32⟩
  | 88 => ⟨S2048x2048, .i32⟩
  | 89 => ⟨S2048x2048, .i32⟩
  | 90 => ⟨S_, .i32⟩
  | 91 => ⟨S2048x2048, .i32⟩
  | 92 => ⟨S2048x2048, .i1⟩
  | 93 => ⟨S2048x2048, .i1⟩
  | 94 => ⟨S2x6x2048x2048, .i1⟩
  | 95 => ⟨S_, .f32⟩
  | 96 => ⟨S2x6x2048x2048, .f32⟩
  | 97 => ⟨S2x6x2048x2048, .f32⟩
  | 98 => ⟨S_, .f32⟩
  | 99 => ⟨S2x6x2048, .f32⟩
  | 100 => ⟨S2x6x2048x1, .f32⟩
  | 101 => ⟨S2x6x2048x2048, .f32⟩
  | 102 => ⟨S2x6x2048x2048, .f32⟩
  | 103 => ⟨S2x6x2048x2048, .f32⟩
  | 104 => ⟨S_, .f32⟩
  | 105 => ⟨S2x6x2048, .f32⟩
  | 106 => ⟨S2x6x2048x64, .f32⟩
  | 107 => ⟨S2x6x2048x1, .f32⟩
  | 108 => ⟨S2x6x2048x64, .f32⟩
  | 109 => ⟨S2x6x2048x64, .f32⟩
  | 110 => ⟨S2x6x2048, .f32⟩
  | 111 => ⟨S2x6x2048, .f32⟩
  | 112 => ⟨S2x6x2048, .f32⟩
  | 113 => ⟨S1x2x6x2048, .f32⟩
  | 114 => ⟨S1x2x6x2048, .f32⟩
  | 115 => ⟨S1x2x6x2048, .f32⟩
  | 116 => ⟨S3x2x6x2048, .f32⟩
  | 117 => ⟨S_, .f32⟩
  | 118 => ⟨S2x6x2048, .f32⟩
  | 119 => ⟨S_, .f32⟩
  | 120 => ⟨S2x6x2048, .f32⟩
  | 121 => ⟨S2x6x2048, .f32⟩
  | 122 => ⟨S1x2x6x2048, .f32⟩
  | 123 => ⟨S3x2x6x2048, .f32⟩
  | 124 => ⟨S3x2x6x2048, .f32⟩
  | 125 => ⟨S3x2x6x2048, .f32⟩
  | 126 => ⟨S_, .f32⟩
  | 127 => ⟨S2x6x2048, .f32⟩
  | _ => ⟨S4096x3072, .f32⟩

abbrev hbmTy0_1 (i : Nat) : BufTy := match i % 128 with
  | 0 => ⟨S1x2x6x2048, .f32⟩
  | 1 => ⟨S3x2x6x2048, .f32⟩
  | 2 => ⟨S3x2x6x2048, .f32⟩
  | 3 => ⟨S1x2x6x2048, .f32⟩
  | 4 => ⟨S2x6x2048, .f32⟩
  | 5 => ⟨S2x6x2048x1, .f32⟩
  | 6 => ⟨S2x6x2048x64, .f32⟩
  | 7 => ⟨S2x6x2048x64, .f32⟩
  | 8 => ⟨S1x2x6x2048, .f32⟩
  | 9 => ⟨S2x6x2048, .f32⟩
  | 10 => ⟨S2x6x2048x1, .f32⟩
  | 11 => ⟨S2x6x2048x64, .f32⟩
  | 12 => ⟨S2x6x2048x64, .f32⟩
  | 13 => ⟨S2x6x2048x64, .f32⟩
  | 14 => ⟨S1x2x6x2048, .f32⟩
  | 15 => ⟨S2x6x2048, .f32⟩
  | 16 => ⟨S2x6x2048x1, .f32⟩
  | 17 => ⟨S2x6x2048x64, .f32⟩
  | 18 => ⟨S2x6x2048x64, .f32⟩
  | 19 => ⟨S2x6x2048x64, .f32⟩
  | 20 => ⟨S2x2048x6x64, .f32⟩
  | 21 => ⟨S4096x384, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_6 : Ref sig .tc := ⟨.hbm, 47, rfl⟩
abbrev main_v38 : Ref sig .tc := ⟨.hbm, 48, rfl⟩
abbrev main_v39 : Ref sig .tc := ⟨.hbm, 49, rfl⟩
abbrev main_c_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_8 : Ref sig .tc := ⟨.hbm, 54, rfl⟩
abbrev main_v43 : Ref sig .tc := ⟨.hbm, 55, rfl⟩
abbrev main_v44 : Ref sig .tc := ⟨.hbm, 56, rfl⟩
abbrev main_c_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_12 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_13 : Ref sig .tc := ⟨.hbm, 80, rfl⟩
abbrev main_v64 : Ref sig .tc := ⟨.hbm, 81, rfl⟩
abbrev main_v65 : Ref sig .tc := ⟨.hbm, 82, rfl⟩
abbrev main_c_14 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_15 : Ref sig .tc := ⟨.hbm, 87, rfl⟩
abbrev main_v69 : Ref sig .tc := ⟨.hbm, 88, rfl⟩
abbrev main_v70 : Ref sig .tc := ⟨.hbm, 89, rfl⟩
abbrev main_c_16 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_cst_18 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_19 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_20 : Ref sig .tc := ⟨.hbm, 117, rfl⟩
abbrev main_v94 : Ref sig .tc := ⟨.hbm, 118, rfl⟩
abbrev main_cst_21 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_22 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩

abbrev nD : Nat := 1
abbrev τ : Topo := Topo.v7x

variable {F : FTy → Type} [FloatOps F]
-- ==== Proof.Forms.lean ====
/- The arithmetic of the half feed-forward step and of its gradient, one row (one token) at a time, in the order in
   which the kernel carries it out. A row is a function of its lanes, a weight a function of its two indices; the
   numbers are the extended reals of the ideal reading. -/
module

public import Idealize.ShloMosaic.Lib.Pointwise

@[expose] public section

noncomputable section

open Idealize.ShloMosaic

namespace Cert.Ffn

/-- A token's 1024 lanes. -/
abbrev Row := Fin 1024 → EReal
/-- A token's 2816 hidden lanes. -/
abbrev HRow := Fin 2816 → EReal
/-- A weight: 2816 rows of 1024 lanes. -/
abbrev Wt := Fin 2816 → Fin 1024 → EReal

/-- One half: the weight of the branch in the residual sum. -/
abbrev cHalf : EReal := Ideal.ofBits FTy.f32 0x3F000000#32
/-- The number of lanes, 1024. -/
abbrev cLanes : EReal := Ideal.ofBits FTy.f32 0x44800000#32
/-- The constant added to the mean square. -/
abbrev cEps : EReal := Ideal.ofBits FTy.f32 0x358637BD#32

/-! ## Forward -/

/-- The reciprocal root of the mean square of a row. -/
def rstd (x : Row) : EReal := Ideal.rsqrt (Ideal.div (∑ k, x k * x k) cLanes + cEps)
/-- The normalised row before the gain. -/
def xhat (x : Row) : Row := fun d => x d * rstd x
/-- The normalised row with the gain. -/
def hid (g x : Row) : Row := fun d => xhat x d * g d
/-- A row times the transpose of a weight. -/
def proj (h : Row) (w : Wt) : HRow := fun f => ∑ d, h d * w f d
/-- The logistic function. -/
def sg (a : EReal) : EReal := Ideal.div 1 (1 + Ideal.exp (0 - a))
/-- The gate's activation `a · σ(a)`. -/
def swish (a : EReal) : EReal := a * sg a
/-- The activated gate of a row. -/
def sl (g : Row) (wg : Wt) (x : Row) : HRow := fun f => swish (proj (hid g x) wg f)
/-- The hidden activation of a row: activated gate times the second projection. -/
def act (g : Row) (wg wu : Wt) (x : Row) : HRow := fun f => sl g wg x f * proj (hid g x) wu f
/-- The factor of the gate's gradient that depends on the forward values alone. -/
def dgf (g : Row) (wg wu : Wt) (x : Row) : HRow := fun f =>
  proj (hid g x) wu f * (sg (proj (hid g x) wg f) + swish (proj (hid g x) wg f) * (1 - sg (proj (hid g x) wg f)))
/-- The step's result on a row. -/
def outRow (g : Row) (wg wu wd : Wt) (x : Row) : Row := fun d =>
  x d + cHalf * ∑ f, act g wg wu x f * wd f d

/-- A square weight: 1024 rows of 1024 lanes. -/
abbrev SqWt := Fin 1024 → Fin 1024 → EReal
/-- A row with the mixers' output projection added: the row the second half-step starts from. -/
def mixRow (x y : Row) (w : SqWt) : Row := fun d => x d + ∑ k, y k * w k d

/-! ## Backward -/

/-- The branch's share of the result's gradient. -/
def dacc (dy : Row) : Row := fun d => cHalf * dy d
/-- The gradient at the hidden activation. -/
def dact (wd : Wt) (dy : Row) : HRow := proj (dacc dy) wd
/-- The gradient at the normalised row, from those at the two projections. -/
def dhid (wg wu : Wt) (a b : HRow) : Row := fun d => ∑ f, a f * wg f d + ∑ f, b f * wu f d
/-- The gradient at the row itself: the residual path and the path through the norm. -/
def dxRow (g x dy dh : Row) : Row := fun d =>
  dy d + rstd x * (dh d * g d - xhat x d * Ideal.div (∑ k, dh k * g k * xhat x k) cLanes)

/-- The gradient at the gate's projection. -/
def dgate (g : Row) (wg wu wd : Wt) (x dy : Row) : HRow := fun f => dact wd dy f * dgf g wg wu x f
/-- The gradient at the second projection. -/
def dup (g : Row) (wg wd : Wt) (x dy : Row) : HRow := fun f => dact wd dy f * sl g wg x f
/-- The gradient at the normalised row. -/
def dh (g : Row) (wg wu wd : Wt) (x dy : Row) : Row :=
  dhid wg wu (dgate g wg wu wd x dy) (dup g wg wd x dy)

/-! ## The six results from whole arrays of 4096 rows -/

/-- The rows of an array. -/
abbrev Rows := Fin 4096 → Fin 1024 → EReal

/-- The step's result. -/
def rOut (x : Rows) (g : Row) (wg wu wd : Wt) (t : Fin 4096) (d : Fin 1024) : EReal := outRow g wg wu wd (x t) d
/-- The gradient of the input. -/
def rDx (x : Rows) (g : Row) (wg wu wd : Wt) (dy : Rows) (t : Fin 4096) (d : Fin 1024) : EReal :=
  dxRow g (x t) (dy t) (dh g wg wu wd (x t) (dy t)) d
/-- The gradient of the gain: a sum over the rows. -/
def rDg (x : Rows) (g : Row) (wg wu wd : Wt) (dy : Rows) (d : Fin 1024) : EReal :=
  ∑ t, dh g wg wu wd (x t) (dy t) d * xhat (x t) d
/-- The gradient of the gate's weight. -/
def rDwg (x : Rows) (g : Row) (wg wu wd : Wt) (dy : Rows) (f : Fin 2816) (d : Fin 1024) : EReal :=
  ∑ t, dgate g wg wu wd (x t) (dy t) f * hid g (x t) d
/-- The gradient of the second projection's weight. -/
def rDwu (x : Rows) (g : Row) (wg wd : Wt) (dy : Rows) (f : Fin 2816) (d : Fin 1024) : EReal :=
  ∑ t, dup g wg wd (x t) (dy t) f * hid g (x t) d
/-- The gradient of the last projection's weight. -/
def rDwd (x : Rows) (g : Row) (wg wu : Wt) (dy : Rows) (f : Fin 2816) (d : Fin 1024) : EReal :=
  ∑ t, act g wg wu (x t) f * dacc (dy t) d

end Cert.Ffn

end
-- ==== Proof.Region0.lean ====
/- What the forward call leaves in its four arrays, from the arrays it is entered with: row by row the formulas of
   Forms.lean. -/
module

public import proofs.«01_k».proof.Proof.Gen.KernelIdeal.Frame
public import proofs.«01_k».proof.Proof.Forms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn

/-! ## The body's values at an index -/

/-- Row `r` of an array of 256 rows. -/
abbrev row256 (x : Vec Ideal S256x1024 .f32) (r : Fin 256) : Row := fun d => x (ix2 r d)
/-- A one-row array as a row. -/
abbrev row1 (g : Vec Ideal S1x1024 .f32) : Row := fun d => g (ix2 0 d)
/-- A weight array by its two indices. -/
abbrev wt (w : Vec Ideal S2816x1024 .bf16) : Wt := fun f d => w (ix2 f d)

theorem k0_pay4_at (x : Vec Ideal S256x1024 .f32) (g : Vec Ideal S1x1024 .f32) (r : Fin 256) (d : Fin 1024) :
    k0_pay4 (F := Ideal) x g (ix2 r d) = hid (row1 g) (row256 x r) d := by
  pointwise [k0_pay4, hid, xhat, rstd]

theorem k0_pay5_at (x : Vec Ideal S256x1024 .f32) (g : Vec Ideal S1x1024 .f32) (w : Vec Ideal S2816x1024 .bf16)
    (r : Fin 256) (f : Fin 2816) :
    k0_pay5 (F := Ideal) x g w (ix2 r f) = proj (hid (row1 g) (row256 x r)) (wt w) f := by
  pointwise [k0_pay5, proj]
  simp only [k0_pay4_at]

theorem k0_pay6_at (x : Vec Ideal S256x1024 .f32) (g : Vec Ideal S1x1024 .f32) (w : Vec Ideal S2816x1024 .bf16)
    (r : Fin 256) (f : Fin 2816) :
    k0_pay6 (F := Ideal) x g w (ix2 r f) = proj (hid (row1 g) (row256 x r)) (wt w) f := by
  pointwise [k0_pay6, proj]
  simp only [k0_pay4_at]

theorem k0_pay7_at (x : Vec Ideal S256x1024 .f32) (g : Vec Ideal S1x1024 .f32) (w : Vec Ideal S2816x1024 .bf16)
    (r : Fin 256) (f : Fin 2816) :
    k0_pay7 (F := Ideal) x g w (ix2 r f) = sg (proj (hid (row1 g) (row256 x r)) (wt w) f) := by
  pointwise [k0_pay7, sg]
  simp only [k0_pay5_at]

theorem k0_pay8_at (x : Vec Ideal S256x1024 .f32) (g : Vec Ideal S1x1024 .f32) (w : Vec Ideal S2816x1024 .bf16)
    (r : Fin 256) (f : Fin 2816) :
    k0_pay8 (F := Ideal) x g w (ix2 r f) = sl (row1 g) (wt w) (row256 x r) f := by
  pointwise [k0_pay8, sl, swish]
  simp only [k0_pay5_at, k0_pay7_at]

theorem k0_pay9_at (x : Vec Ideal S256x1024 .f32) (g : Vec Ideal S1x1024 .f32) (w w' : Vec Ideal S2816x1024 .bf16)
    (r : Fin 256) (f : Fin 2816) :
    k0_pay9 (F := Ideal) x g w w' (ix2 r f) = dgf (row1 g) (wt w) (wt w') (row256 x r) f := by
  pointwise [k0_pay9, dgf]
  simp only [k0_pay6_at, k0_pay7_at, k0_pay8_at, sl]

theorem k0_pay10_at (x : Vec Ideal S256x1024 .f32) (g : Vec Ideal S1x1024 .f32) (w : Vec Ideal S2816x1024 .bf16)
    (r : Fin 256) (f : Fin 2816) :
    k0_pay10 (F := Ideal) x g w (ix2 r f) = sl (row1 g) (wt w) (row256 x r) f := by
  pointwise [k0_pay10]
  simp only [k0_pay8_at]

theorem k0_pay2_at (x : Vec Ideal S256x1024 .f32) (g : Vec Ideal S1x1024 .f32) (w w' : Vec Ideal S2816x1024 .bf16)
    (r : Fin 256) (f : Fin 2816) :
    k0_pay2 (F := Ideal) (k0_pay6 x g w') (k0_pay8 x g w) (ix2 f r) = act (row1 g) (wt w) (wt w') (row256 x r) f := by
  pointwise [k0_pay2, k0_pay1, act]
  simp only [k0_pay8_at, k0_pay6_at]

theorem k0_pay3_at (x : Vec Ideal S256x1024 .f32) (g : Vec Ideal S1x1024 .f32) (w w' w'' : Vec Ideal S2816x1024 .bf16)
    (r : Fin 256) (d : Fin 1024) :
    k0_pay3 (F := Ideal) x (k0_pay6 x g w') (k0_pay8 x g w) w'' (ix2 r d)
      = outRow (row1 g) (wt w) (wt w') (wt w'') (row256 x r) d := by
  pointwise [k0_pay3, k0_pay1, outRow, act]
  simp only [k0_pay8_at, k0_pay6_at]

/-! ## The arrays after the call -/

variable (V : (c : Dev nD) → (b : Ref sig .tc) → Buf (Elt Ideal) ((c : Thread nD τ).loc b)) (c : Dev nD)

/-- Row `t` of an array of 4096 rows. -/
abbrev rowT (x : Vec Ideal S4096x1024 .f32) (t : Fin 4096) : Row := fun d => x (ix2 t d)

/-- Where the blocks of the forward call's windows sit. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, t.val] :=
  (by decide +kernel : ∀ t : Fin grid0.N, _)

/-- Row `r` of point `t`'s block, as a row of the array. -/
abbrev at16 (t : ℕ) (ht : t < 16) (r : Fin 256) : Fin 4096 := ⟨t * 256 + r, by omega⟩

theorem blk0_1 (t : Fin cfg0.N) : iblk0 V c 1 t = V c main_arg1 := by blk_ext! [iblk0, idx0 t]
theorem blk0_2 (t : Fin cfg0.N) : iblk0 V c 2 t = V c main_v0 := by blk_ext! [iblk0, idx0 t]
theorem blk0_3 (t : Fin cfg0.N) : iblk0 V c 3 t = V c main_v1 := by blk_ext! [iblk0, idx0 t]
theorem blk0_4 (t : Fin cfg0.N) : iblk0 V c 4 t = V c main_v2 := by blk_ext! [iblk0, idx0 t]
theorem blk0_0 (t : Fin cfg0.N) (r : Fin 256) (j : Fin 4096) (hj : (j : ℕ) = t.val * 256 + r) :
    row256 (iblk0 V c 0 t) r = rowT (V c main_arg0) j := by
  funext d
  show iblk0 V c 0 t (ix2 r d) = V c main_arg0 (ix2 j d)
  blk_ext [iblk0, idx0 t]

theorem final0_5 : (dat0 V c).arrAt 5 cfg0.N = fun i : S4096x1024.Idx =>
    outRow (row1 (V c main_arg1)) (wt (V c main_v0)) (wt (V c main_v1)) (wt (V c main_v2)) (rowT (V c main_arg0) (i 0)) (i 1) := by
  refine (dat0 V c).arrAt_eq_of_covers 5 _ (by decide +kernel) fun t _ y => ?_
  blk_simp
  rw [after0_5]
  frame_out
  idx_vars y
  unfold k0_pay11 k0_pay12
  frame_out
  rw [k0_pay3_at, blk0_1, blk0_2, blk0_3, blk0_4]
  congr 1
  · exact blk0_0 V c t y0 _ (by blk_simp [idx0 t])
  · exact Fin.ext (by blk_simp [idx0 t])

theorem final0_6 : (dat0 V c).arrAt 6 cfg0.N = fun i : S4096x2816.Idx =>
    dgf (row1 (V c main_arg1)) (wt (V c main_v0)) (wt (V c main_v1)) (rowT (V c main_arg0) (i 0)) (i 1) := by
  refine (dat0 V c).arrAt_eq_of_covers 6 _ (by decide +kernel) fun t _ y => ?_
  blk_simp
  rw [after0_6]
  frame_out
  idx_vars y
  rw [k0_pay9_at, blk0_1, blk0_2, blk0_3]
  congr 1
  · exact blk0_0 V c t y0 _ (by blk_simp [idx0 t])
  · exact Fin.ext (by blk_simp [idx0 t])

theorem final0_7 : (dat0 V c).arrAt 7 cfg0.N = fun i : S4096x2816.Idx =>
    sl (row1 (V c main_arg1)) (wt (V c main_v0)) (rowT (V c main_arg0) (i 0)) (i 1) := by
  refine (dat0 V c).arrAt_eq_of_covers 7 _ (by decide +kernel) fun t _ y => ?_
  blk_simp
  rw [after0_7]
  frame_out
  idx_vars y
  rw [k0_pay10_at, blk0_1, blk0_2]
  congr 1
  · exact blk0_0 V c t y0 _ (by blk_simp [idx0 t])
  · exact Fin.ext (by blk_simp [idx0 t])

theorem final0_8 : (dat0 V c).arrAt 8 cfg0.N = fun i : S2816x4096.Idx =>
    act (row1 (V c main_arg1)) (wt (V c main_v0)) (wt (V c main_v1)) (rowT (V c main_arg0) (i 1)) (i 0) := by
  refine (dat0 V c).arrAt_eq_of_covers 8 _ (by decide +kernel) fun t _ y => ?_
  blk_simp
  rw [after0_8]
  frame_out
  idx_vars y
  unfold k0_pay11 k0_pay12
  frame_out
  rw [k0_pay2_at, blk0_1, blk0_2, blk0_3]
  congr 1
  · exact blk0_0 V c t y1 _ (by blk_simp [idx0 t])
  · exact Fin.ext (by blk_simp [idx0 t])

end Cert.KernelIdeal.Value

end
-- ==== Proof.Region1.lean ====
/- What the backward call leaves in its six arrays, from the arrays it is entered with: row by row the formulas of
   Forms.lean over the saved activations; the gain's gradient, accumulated from point to point, is the sum over all rows. -/
module

public import proofs.«01_k».proof.Proof.Gen.KernelIdeal.Frame
public import proofs.«01_k».proof.Proof.Forms
public import proofs.«01_k».proof.Proof.Region0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn

/-! ## The body's values at an index -/

/-- Row `r` of a hidden array of 256 rows. -/
abbrev hrow256 (x : Vec Ideal S256x2816 .bf16) (r : Fin 256) : HRow := fun f => x (ix2 r f)

theorem k1_pay2_at (x : Vec Ideal S256x1024 .f32) (r : Fin 256) :
    k1_pay2 (F := Ideal) x (ix2 r 0) = rstd (row256 x r) := by
  pointwise [k1_pay2, rstd]

theorem k1_pay3_at (x : Vec Ideal S256x1024 .f32) (r : Fin 256) (d : Fin 1024) :
    k1_pay3 (F := Ideal) x (ix2 r d) = xhat (row256 x r) d := by
  pointwise [k1_pay3, k1_pay2, xhat, rstd]

theorem k1_pay4_at (g : Vec Ideal S1x1024 .f32) (x : Vec Ideal S256x1024 .f32) (r : Fin 256) (d : Fin 1024) :
    k1_pay4 (F := Ideal) g x (ix2 r d) = hid (row1 g) (row256 x r) d := by
  pointwise [k1_pay4, hid]
  simp only [k1_pay3_at]

theorem k1_pay5_at (dy : Vec Ideal S256x1024 .f32) (r : Fin 256) (d : Fin 1024) :
    k1_pay5 (F := Ideal) dy (ix2 r d) = dacc (row256 dy r) d := by
  pointwise [k1_pay5, dacc]

theorem k1_pay6_at (dy : Vec Ideal S256x1024 .f32) (w : Vec Ideal S2816x1024 .bf16) (r : Fin 256) (f : Fin 2816) :
    k1_pay6 (F := Ideal) dy w (ix2 r f) = dact (wt w) (row256 dy r) f := by
  pointwise [k1_pay6, dact, proj]
  simp only [k1_pay5_at]

theorem k1_pay7_at (dy : Vec Ideal S256x1024 .f32) (w : Vec Ideal S2816x1024 .bf16) (a : Vec Ideal S256x2816 .bf16)
    (r : Fin 256) (f : Fin 2816) :
    k1_pay7 (F := Ideal) dy w a (ix2 r f) = dact (wt w) (row256 dy r) f * hrow256 a r f := by
  pointwise [k1_pay7]
  simp only [k1_pay6_at]

theorem k1_pay8_at (dy : Vec Ideal S256x1024 .f32) (w : Vec Ideal S2816x1024 .bf16) (a : Vec Ideal S256x2816 .bf16)
    (r : Fin 256) (f : Fin 2816) :
    k1_pay8 (F := Ideal) (k1_pay6 dy w) a (ix2 r f) = dact (wt w) (row256 dy r) f * hrow256 a r f := by
  pointwise [k1_pay8]
  simp only [k1_pay6_at]

theorem k1_pay9_at (dy : Vec Ideal S256x1024 .f32) (w : Vec Ideal S2816x1024 .bf16) (a : Vec Ideal S256x2816 .bf16)
    (r : Fin 256) (f : Fin 2816) :
    k1_pay9 (F := Ideal) (k1_pay7 dy w a) (ix2 f r) = dact (wt w) (row256 dy r) f * hrow256 a r f := by
  pointwise [k1_pay9]
  simp only [k1_pay7_at]

theorem k1_pay10_at (dy : Vec Ideal S256x1024 .f32) (w : Vec Ideal S2816x1024 .bf16) (a : Vec Ideal S256x2816 .bf16)
    (r : Fin 256) (f : Fin 2816) :
    k1_pay10 (F := Ideal) (k1_pay6 dy w) a (ix2 f r) = dact (wt w) (row256 dy r) f * hrow256 a r f := by
  pointwise [k1_pay10]
  simp only [k1_pay8_at]

/-- The gradient at the normalised row from the saved activations `a` (the gate's factor) and `b` (the activated gate). -/
def dhOf (wg wu wd : Wt) (a b : HRow) (dy : Row) : Row :=
  dhid wg wu (fun f => dact wd dy f * a f) (fun f => dact wd dy f * b f)

theorem k1_pay11_at (dy : Vec Ideal S256x1024 .f32) (wg wu wd : Vec Ideal S2816x1024 .bf16)
    (a b : Vec Ideal S256x2816 .bf16) (r : Fin 256) (d : Fin 1024) :
    k1_pay11 (F := Ideal) (k1_pay6 dy wd) (k1_pay7 dy wd a) b wg wu (ix2 r d)
      = dhOf (wt wg) (wt wu) (wt wd) (hrow256 a r) (hrow256 b r) (row256 dy r) d := by
  pointwise [k1_pay11, dhOf, dhid]
  simp only [k1_pay7_at, k1_pay8_at]

theorem k1_pay12_at (g : Vec Ideal S1x1024 .f32) (dy x : Vec Ideal S256x1024 .f32) (wg wu wd : Vec Ideal S2816x1024 .bf16)
    (a b : Vec Ideal S256x2816 .bf16) (r : Fin 256) (d : Fin 1024) :
    k1_pay12 (F := Ideal) g dy (k1_pay2 x) (k1_pay3 x) (k1_pay6 dy wd) (k1_pay7 dy wd a) b wg wu (ix2 r d)
      = dxRow (row1 g) (row256 x r) (row256 dy r)
          (dhOf (wt wg) (wt wu) (wt wd) (hrow256 a r) (hrow256 b r) (row256 dy r)) d := by
  pointwise [k1_pay12, dxRow]
  simp only [k1_pay11_at, k1_pay2_at, k1_pay3_at]

theorem k1_pay13_at (g0 : Vec Ideal S1x1024 .f32) (dy x : Vec Ideal S256x1024 .f32) (wg wu wd : Vec Ideal S2816x1024 .bf16)
    (a b : Vec Ideal S256x2816 .bf16) (d : Fin 1024) :
    k1_pay13 (F := Ideal) (k1_pay3 x) (k1_pay6 dy wd) (k1_pay7 dy wd a) b wg wu g0 (ix2 0 d)
      = g0 (ix2 0 d) + ∑ r : Fin 256, dhOf (wt wg) (wt wu) (wt wd) (hrow256 a r) (hrow256 b r) (row256 dy r) d
          * xhat (row256 x r) d := by
  pointwise [k1_pay13]
  simp only [k1_pay11_at, k1_pay3_at]

theorem k1_pay1_at (j : S1x1024.Idx) : k1_pay1 (F := Ideal) j = 0 := by pointwise [k1_pay1]

/-! ## The arrays after the call -/

variable (V : (c : Dev nD) → (b : Ref sig .tc) → Buf (Elt Ideal) ((c : Thread nD τ).loc b)) (c : Dev nD)

/-- Row `t` of a hidden array of 4096 rows. -/
abbrev hrowT (x : Vec Ideal S4096x2816 .bf16) (t : Fin 4096) : HRow := fun f => x (ix2 t f)

/-- Where the blocks of the backward call's windows sit. -/
theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![0, t.val] ∧ win1_10.index t = ![0, t.val]
    ∧ win1_11.index t = ![t.val, 0] ∧ win1_12.index t = ![t.val, 0] ∧ win1_13.index t = ![0, 0] :=
  (by decide +kernel : ∀ t : Fin grid1.N, _)

theorem blk1_2 (t : Fin cfg1.N) : iblk1 V c 2 t = V c main_arg1 := by blk_ext! [iblk1, idx1 t]
theorem blk1_5 (t : Fin cfg1.N) : iblk1 V c 5 t = V c main_v0 := by blk_ext! [iblk1, idx1 t]
theorem blk1_6 (t : Fin cfg1.N) : iblk1 V c 6 t = V c main_v1 := by blk_ext! [iblk1, idx1 t]
theorem blk1_7 (t : Fin cfg1.N) : iblk1 V c 7 t = V c main_v2 := by blk_ext! [iblk1, idx1 t]
theorem blk1_0 (t : Fin cfg1.N) (r : Fin 256) (j : Fin 4096) (hj : (j : ℕ) = t.val * 256 + r) :
    row256 (iblk1 V c 0 t) r = rowT (V c main_arg5) j := by
  funext d
  show iblk1 V c 0 t (ix2 r d) = V c main_arg5 (ix2 j d)
  blk_ext [iblk1, idx1 t]
theorem blk1_1 (t : Fin cfg1.N) (r : Fin 256) (j : Fin 4096) (hj : (j : ℕ) = t.val * 256 + r) :
    row256 (iblk1 V c 1 t) r = rowT (V c main_arg0) j := by
  funext d
  show iblk1 V c 1 t (ix2 r d) = V c main_arg0 (ix2 j d)
  blk_ext [iblk1, idx1 t]
theorem blk1_3 (t : Fin cfg1.N) (r : Fin 256) (j : Fin 4096) (hj : (j : ℕ) = t.val * 256 + r) :
    hrow256 (iblk1 V c 3 t) r = hrowT (V c main_v3_1) j := by
  funext d
  show iblk1 V c 3 t (ix2 r d) = V c main_v3_1 (ix2 j d)
  blk_ext [iblk1, idx1 t]
theorem blk1_4 (t : Fin cfg1.N) (r : Fin 256) (j : Fin 4096) (hj : (j : ℕ) = t.val * 256 + r) :
    hrow256 (iblk1 V c 4 t) r = hrowT (V c main_v3_2) j := by
  funext d
  show iblk1 V c 4 t (ix2 r d) = V c main_v3_2 (ix2 j d)
  blk_ext [iblk1, idx1 t]

/-- What a point leaves in the block of the input's gradient. -/
theorem outs1_8 (t : Fin cfg1.N) : (outsAt1 V c t.val t.isLt).1
    = k1_pay12 (iblk1 V c 2 t) (iblk1 V c 0 t) (k1_pay2 (iblk1 V c 1 t)) (k1_pay3 (iblk1 V c 1 t))
        (k1_pay6 (iblk1 V c 0 t) (iblk1 V c 7 t)) (k1_pay7 (iblk1 V c 0 t) (iblk1 V c 7 t) (iblk1 V c 3 t))
        (iblk1 V c 4 t) (iblk1 V c 5 t) (iblk1 V c 6 t) := by
  by_cases h : t.val % 16 = 0
  · rw [outsAt1_A V c t h]; frame_out
  · rw [outsAt1_B V c t h]; frame_out
theorem outs1_9 (t : Fin cfg1.N) : (outsAt1 V c t.val t.isLt).2.1
    = k1_pay9 (k1_pay7 (iblk1 V c 0 t) (iblk1 V c 7 t) (iblk1 V c 3 t)) := by
  by_cases h : t.val % 16 = 0
  · rw [outsAt1_A V c t h]; frame_out
  · rw [outsAt1_B V c t h]; frame_out
theorem outs1_10 (t : Fin cfg1.N) : (outsAt1 V c t.val t.isLt).2.2.1
    = k1_pay10 (k1_pay6 (iblk1 V c 0 t) (iblk1 V c 7 t)) (iblk1 V c 4 t) := by
  by_cases h : t.val % 16 = 0
  · rw [outsAt1_A V c t h]; frame_out
  · rw [outsAt1_B V c t h]; frame_out
theorem outs1_11 (t : Fin cfg1.N) : (outsAt1 V c t.val t.isLt).2.2.2.1
    = k1_pay4 (iblk1 V c 2 t) (iblk1 V c 1 t) := by
  by_cases h : t.val % 16 = 0
  · rw [outsAt1_A V c t h]; frame_out
  · rw [outsAt1_B V c t h]; frame_out
theorem outs1_12 (t : Fin cfg1.N) : (outsAt1 V c t.val t.isLt).2.2.2.2.1 = k1_pay5 (iblk1 V c 0 t) := by
  by_cases h : t.val % 16 = 0
  · rw [outsAt1_A V c t h]; frame_out
  · rw [outsAt1_B V c t h]; frame_out

/-- The gradient at the normalised row from the arrays the call is entered with. -/
abbrev dhT (t : Fin 4096) : Row := dhOf (wt (V c main_v0)) (wt (V c main_v1)) (wt (V c main_v2))
  (hrowT (V c main_v3_1) t) (hrowT (V c main_v3_2) t) (rowT (V c main_arg5) t)

theorem final1_8 : (dat1 V c).arrAt 8 cfg1.N = fun i : S4096x1024.Idx =>
    dxRow (row1 (V c main_arg1)) (rowT (V c main_arg0) (i 0)) (rowT (V c main_arg5) (i 0)) (dhT V c (i 0)) (i 1) := by
  refine (dat1 V c).arrAt_eq_of_covers 8 _ (by decide +kernel) fun t _ y => ?_
  blk_simp
  rw [after1_8, outs1_8]
  idx_vars y
  rw [k1_pay12_at, blk1_2, blk1_5, blk1_6, blk1_7]
  have hj : ((((cfg1.win 8).blk t).view.emb (ix2 y0 y1) 0 : Fin 4096) : ℕ) = t.val * 256 + y0 := by blk_simp [idx1 t]
  rw [blk1_0 V c t y0 _ hj, blk1_1 V c t y0 _ hj, blk1_3 V c t y0 _ hj, blk1_4 V c t y0 _ hj]
  congr 1
  exact Fin.ext (by blk_simp [idx1 t])

theorem final1_9 : (dat1 V c).arrAt 9 cfg1.N = fun i : S2816x4096.Idx =>
    dact (wt (V c main_v2)) (rowT (V c main_arg5) (i 1)) (i 0) * hrowT (V c main_v3_1) (i 1) (i 0) := by
  refine (dat1 V c).arrAt_eq_of_covers 9 _ (by decide +kernel) fun t _ y => ?_
  blk_simp
  rw [after1_9, outs1_9]
  idx_vars y
  rw [k1_pay9_at, blk1_7]
  have hj : ((((cfg1.win 9).blk t).view.emb (ix2 y0 y1) 1 : Fin 4096) : ℕ) = t.val * 256 + y1 := by blk_simp [idx1 t]
  have hf : (((cfg1.win 9).blk t).view.emb (ix2 y0 y1) 0 : Fin 2816) = y0 := Fin.ext (by blk_simp [idx1 t])
  rw [blk1_0 V c t y1 _ hj, blk1_3 V c t y1 _ hj]
  exact congrArg (fun f : Fin 2816 => dact (wt (V c main_v2)) (rowT (V c main_arg5) _) f * hrowT (V c main_v3_1) _ f) hf.symm

theorem final1_10 : (dat1 V c).arrAt 10 cfg1.N = fun i : S2816x4096.Idx =>
    dact (wt (V c main_v2)) (rowT (V c main_arg5) (i 1)) (i 0) * hrowT (V c main_v3_2) (i 1) (i 0) := by
  refine (dat1 V c).arrAt_eq_of_covers 10 _ (by decide +kernel) fun t _ y => ?_
  blk_simp
  rw [after1_10, outs1_10]
  idx_vars y
  rw [k1_pay10_at, blk1_7]
  have hj : ((((cfg1.win 10).blk t).view.emb (ix2 y0 y1) 1 : Fin 4096) : ℕ) = t.val * 256 + y1 := by blk_simp [idx1 t]
  have hf : (((cfg1.win 10).blk t).view.emb (ix2 y0 y1) 0 : Fin 2816) = y0 := Fin.ext (by blk_simp [idx1 t])
  rw [blk1_0 V c t y1 _ hj, blk1_4 V c t y1 _ hj]
  exact congrArg (fun f : Fin 2816 => dact (wt (V c main_v2)) (rowT (V c main_arg5) _) f * hrowT (V c main_v3_2) _ f) hf.symm

theorem final1_11 : (dat1 V c).arrAt 11 cfg1.N = fun i : S4096x1024.Idx =>
    hid (row1 (V c main_arg1)) (rowT (V c main_arg0) (i 0)) (i 1) := by
  refine (dat1 V c).arrAt_eq_of_covers 11 _ (by decide +kernel) fun t _ y => ?_
  blk_simp
  rw [after1_11, outs1_11]
  idx_vars y
  rw [k1_pay4_at, blk1_2]
  have hj : ((((cfg1.win 11).blk t).view.emb (ix2 y0 y1) 0 : Fin 4096) : ℕ) = t.val * 256 + y0 := by blk_simp [idx1 t]
  rw [blk1_1 V c t y0 _ hj]
  congr 1
  exact Fin.ext (by blk_simp [idx1 t])

theorem final1_12 : (dat1 V c).arrAt 12 cfg1.N = fun i : S4096x1024.Idx =>
    dacc (rowT (V c main_arg5) (i 0)) (i 1) := by
  refine (dat1 V c).arrAt_eq_of_covers 12 _ (by decide +kernel) fun t _ y => ?_
  blk_simp
  rw [after1_12, outs1_12]
  idx_vars y
  rw [k1_pay5_at]
  have hj : ((((cfg1.win 12).blk t).view.emb (ix2 y0 y1) 0 : Fin 4096) : ℕ) = t.val * 256 + y0 := by blk_simp [idx1 t]
  rw [blk1_0 V c t y0 _ hj]
  congr 1
  exact Fin.ext (by blk_simp [idx1 t])

/-- One row's term of the gain's gradient. -/
abbrev dgTerm (j : Fin 4096) (d : Fin 1024) : EReal := dhT V c j d * xhat (rowT (V c main_arg0) j) d

/-- A row of a point's blocks gives that row's term. -/
theorem row13 (t : Fin cfg1.N) (r : Fin 256) (d : Fin 1024) (j : Fin 4096) (hj : (j : ℕ) = t.val * 256 + r) :
    dhOf (wt (V c main_v0)) (wt (V c main_v1)) (wt (V c main_v2)) (hrow256 (iblk1 V c 3 t) r) (hrow256 (iblk1 V c 4 t) r)
        (row256 (iblk1 V c 0 t) r) d * xhat (row256 (iblk1 V c 1 t) r) d = dgTerm V c j d := by
  rw [blk1_0 V c t r j hj, blk1_1 V c t r j hj, blk1_3 V c t r j hj, blk1_4 V c t r j hj]

/-- A point's share of the gain's gradient: the sum over the point's 256 rows. -/
def part13 (t : Fin cfg1.N) (j : S1x1024.Idx) : EReal :=
  ∑ r : Fin 256, dgTerm V c (at16 t.val (lt_of_lt_of_eq t.isLt N_1) r) (j 1)

theorem pay13_iblk (t : Fin cfg1.N) (g0 : Vec Ideal S1x1024 .f32) (j : S1x1024.Idx) :
    k1_pay13 (F := Ideal) (k1_pay3 (iblk1 V c 1 t)) (k1_pay6 (iblk1 V c 0 t) (iblk1 V c 7 t))
        (k1_pay7 (iblk1 V c 0 t) (iblk1 V c 7 t) (iblk1 V c 3 t)) (iblk1 V c 4 t) (iblk1 V c 5 t) (iblk1 V c 6 t) g0 j
      = g0 j + part13 V c t j := by
  idx_vars j
  obtain rfl : j0 = 0 := Subsingleton.elim _ _
  rw [k1_pay13_at, blk1_5, blk1_6, blk1_7]
  exact congrArg (fun e : EReal => g0 (ix2 0 j1) + e) (Finset.sum_congr rfl fun r _ => row13 V c t r j1 _ rfl)

theorem final1_13 : (dat1 V c).arrAt 13 cfg1.N = fun i : S1x1024.Idx => ∑ t : Fin 4096, dgTerm V c t (i 1) := by
  refine (dat1 V c).arrAt_eq_of_covers 13 _ (by decide +kernel) fun t hf y => ?_
  blk_simp
  rw [after1_13, Pipeline.eq_sum_fin_of_reset_step_apply_of_flush (fun n h => (outsAt1 V c n h).2.2.2.2.2) 16 (fun _ => 0)
    (part13 V c)
    (fun t h j => by rw [outsAt1_A V c t h]; frame_out; rw [pay13_iblk, k1_pay1_at])
    (fun t h j => by rw [outsAt1_B V c t h]; frame_out; rw [pay13_iblk])
    t ((flush1_13 t).mp hf) _, zero_add]
  have h15 := (flush1_13 t).mp hf
  have hN : t.val < 16 := lt_of_lt_of_eq t.isLt N_1
  idx_vars y
  have hd : (((cfg1.win 13).blk t).view.emb (ix2 y0 y1) 1 : Fin 1024) = y1 := Fin.ext (by blk_simp [idx1 t])
  refine Fin.sum_mul_add_congr fun s k hl => ?_
  exact congrArg₂ (dgTerm V c) (Fin.ext (show (16 * (t.val / 16) + s.val) * 256 + k.val = s.val * 256 + k.val by omega)) hd.symm

end Cert.KernelIdeal.Value

end
-- ==== Proof.Region2.lean ====
/- What the weight-gradient call leaves in its three arrays: products of the transposed hidden arrays with the row
   arrays, over the arrays it is entered with. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The product of a [2816, 4096] array with a [4096, 1024] array. -/
abbrev mulT (a : Vec Ideal S2816x4096 .bf16) (b : Vec Ideal S4096x1024 .bf16) : Vec Ideal S2816x1024 .bf16 :=
  fun i => ∑ t : Fin 4096, (a (ix2 (i 0) t) : EReal) * b (ix2 t (i 1))

theorem k2_pay2_at (b : Vec Ideal S4096x1024 .bf16) (a : Vec Ideal S256x4096 .bf16) (r : Fin 256) (d : Fin 1024) :
    k2_pay2 (F := Ideal) b a (ix2 r d) = ∑ t : Fin 4096, (a (ix2 r t) : EReal) * b (ix2 t d) := by
  pointwise [k2_pay2, k2_pay1]

theorem k2_pay3_at (b : Vec Ideal S4096x1024 .bf16) (a : Vec Ideal S256x4096 .bf16) (r : Fin 256) (d : Fin 1024) :
    k2_pay3 (F := Ideal) b a (ix2 r d) = ∑ t : Fin 4096, (a (ix2 r t) : EReal) * b (ix2 t d) := by
  pointwise [k2_pay3, k2_pay1]

theorem k2_pay4_at (a : Vec Ideal S256x4096 .bf16) (b : Vec Ideal S4096x1024 .bf16) (r : Fin 256) (d : Fin 1024) :
    k2_pay4 (F := Ideal) a b (ix2 r d) = ∑ t : Fin 4096, (a (ix2 r t) : EReal) * b (ix2 t d) := by
  pointwise [k2_pay4]

variable (V : (c : Dev nD) → (b : Ref sig .tc) → Buf (Elt Ideal) ((c : Thread nD τ).loc b)) (c : Dev nD)

/-- Where the blocks of the weight-gradient call's windows sit. -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] ∧ win2_5.index t = ![t.val, 0] ∧ win2_6.index t = ![t.val, 0]
    ∧ win2_7.index t = ![t.val, 0] :=
  (by decide +kernel : ∀ t : Fin grid2.N, _)

theorem final2_5 : (dat2 V c).arrAt 5 cfg2.N = mulT (V c main_v4_1) (V c main_v4_3) := by
  refine (dat2 V c).arrAt_eq_of_covers 5 _ (by decide +kernel) fun p _ y => ?_
  blk_simp
  rw [after2_5]
  frame_out
  idx_vars y
  rw [k2_pay2_at]
  dsimp only [mulT]
  blk_point [iblk2, idx2 p]

theorem final2_6 : (dat2 V c).arrAt 6 cfg2.N = mulT (V c main_v4_2) (V c main_v4_3) := by
  refine (dat2 V c).arrAt_eq_of_covers 6 _ (by decide +kernel) fun p _ y => ?_
  blk_simp
  rw [after2_6]
  frame_out
  idx_vars y
  rw [k2_pay3_at]
  dsimp only [mulT]
  blk_point [iblk2, idx2 p]

theorem final2_7 : (dat2 V c).arrAt 7 cfg2.N = mulT (V c main_v3_3) (V c main_v4_4) := by
  refine (dat2 V c).arrAt_eq_of_covers 7 _ (by decide +kernel) fun p _ y => ?_
  blk_simp
  rw [after2_7]
  frame_out
  idx_vars y
  rw [k2_pay4_at]
  dsimp only [mulT]
  blk_point [iblk2, idx2 p]

end Cert.KernelIdeal.Value

end
-- ==== Proof.RunIdeal.lean ====
/- The kernel's run: every weakly fair execution terminates with the six results at the arrays the three calls leave
   and the arguments as launched. The launch follows the frame's. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the kernels' own scopes ends at the contents after the last call. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-! ## The results and arguments at the end -/

theorem W4_v3_0 (c : Dev nD) : W4 m ρ c (Proc.devRef .tc main_v3_0) = (dat0 (V1 m ρ) c).arrAt 5 cfg0.N :=
  (W4_of m ρ c main_v3_0 (by decide +kernel)).trans
    ((W3_of m ρ c main_v3_0 (by decide +kernel)).trans (W2_arr m ρ c 5))
theorem W4_v4_0 (c : Dev nD) : W4 m ρ c (Proc.devRef .tc main_v4_0) = (dat1 (V2 m ρ) c).arrAt 8 cfg1.N :=
  (W4_of m ρ c main_v4_0 (by decide +kernel)).trans (W3_arr m ρ c 8)
theorem W4_v4_5 (c : Dev nD) : W4 m ρ c (Proc.devRef .tc main_v4_5) = (dat1 (V2 m ρ) c).arrAt 13 cfg1.N :=
  (W4_of m ρ c main_v4_5 (by decide +kernel)).trans (W3_arr m ρ c 13)
theorem W4_v5_0 (c : Dev nD) : W4 m ρ c (Proc.devRef .tc main_v5_0) = (dat2 (V3 m ρ) c).arrAt 5 cfg2.N := W4_arr m ρ c 5
theorem W4_v5_1 (c : Dev nD) : W4 m ρ c (Proc.devRef .tc main_v5_1) = (dat2 (V3 m ρ) c).arrAt 6 cfg2.N := W4_arr m ρ c 6
theorem W4_v5_2 (c : Dev nD) : W4 m ρ c (Proc.devRef .tc main_v5_2) = (dat2 (V3 m ρ) c).arrAt 7 cfg2.N := W4_arr m ρ c 7

/-- Every execution ends with the results at what the calls leave in their arrays and the arguments as launched. -/
theorem run : θ_run defs (onTc (τ := τ) (main (F := F))) ⟨m, fun _ => 0, ρ⟩ (fun r => ∀ c : Dev nD,
      r.2.mem ((c.tc : Thread nD τ).loc main_v3_0) = (dat0 (V1 m ρ) c).arrAt 5 cfg0.N
      ∧ r.2.mem ((c.tc : Thread nD τ).loc main_v4_0) = (dat1 (V2 m ρ) c).arrAt 8 cfg1.N
      ∧ r.2.mem ((c.tc : Thread nD τ).loc main_v4_5) = (dat1 (V2 m ρ) c).arrAt 13 cfg1.N
      ∧ r.2.mem ((c.tc : Thread nD τ).loc main_v5_0) = (dat2 (V3 m ρ) c).arrAt 5 cfg2.N
      ∧ r.2.mem ((c.tc : Thread nD τ).loc main_v5_1) = (dat2 (V3 m ρ) c).arrAt 6 cfg2.N
      ∧ r.2.mem ((c.tc : Thread nD τ).loc main_v5_2) = (dat2 (V3 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c _ (mem_uc main_v3_0 (by decide))).trans (W4_v3_0 m ρ c),
     (h.1 c _ (mem_uc main_v4_0 (by decide))).trans (W4_v4_0 m ρ c),
     (h.1 c _ (mem_uc main_v4_5 (by decide))).trans (W4_v4_5 m ρ c),
     (h.1 c _ (mem_uc main_v5_0 (by decide))).trans (W4_v5_0 m ρ c),
     (h.1 c _ (mem_uc main_v5_1 (by decide))).trans (W4_v5_1 m ρ c),
     (h.1 c _ (mem_uc main_v5_2 (by decide))).trans (W4_v5_2 m ρ c),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c)⟩) (run_all m ρ)

end Cert.KernelIdeal.Value

end
-- ==== Proof.Entry.lean ====
/- The kernel's six results over the launched arguments: what each call is entered with is what the calls before it
   leave, so the three calls' arrays compose to the results of Forms.lean. -/
module

public import proofs.«01_k».proof.Proof.Region1
public import proofs.«01_k».proof.Proof.Region2
public import proofs.«01_k».proof.Proof.RunIdeal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn

variable (m : (ℓ : Loc nD τ sig) → Buf (Elt Ideal) ℓ) (ρ : Dev nD → PrngReg) (c : Dev nD)

/-! ## The launched arguments, by row and lane -/

/-- The rows of an array argument. -/
abbrev rowsA (x : Vec Ideal S4096x1024 .f32) : Rows := fun t d => x (ix2 t d)
/-- The gain. -/
abbrev gainA (g : Vec Ideal S1x1024 .f32) : Row := fun d => g (ix2 0 d)
/-- A weight argument. -/
abbrev wtA (w : Vec Ideal S2816x1024 .f32) : Wt := fun f d => w (ix2 f d)

/-- The input's rows. -/
abbrev aX : Rows := rowsA (m ((c.tc : Thread nD τ).loc main_arg0))
/-- The gain. -/
abbrev aG : Row := gainA (m ((c.tc : Thread nD τ).loc main_arg1))
/-- The gate's weight. -/
abbrev aWg : Wt := wtA (m ((c.tc : Thread nD τ).loc main_arg2))
/-- The second projection's weight. -/
abbrev aWu : Wt := wtA (m ((c.tc : Thread nD τ).loc main_arg3))
/-- The last projection's weight. -/
abbrev aWd : Wt := wtA (m ((c.tc : Thread nD τ).loc main_arg4))
/-- The result's gradient. -/
abbrev aDy : Rows := rowsA (m ((c.tc : Thread nD τ).loc main_arg5))

/-! ## The forward call's entry: the arguments, the weights in the short format (over the reals the same numbers) -/

theorem V1_v0 : wt (V1 m ρ c main_v0) = aWg m c := by
  show wt (StableHlo.after hostOps0 (W0 m ρ c) (Proc.devRef .tc main_v0)) = _
  after_results
  rfl
theorem V1_v1 : wt (V1 m ρ c main_v1) = aWu m c := by
  show wt (StableHlo.after hostOps0 (W0 m ρ c) (Proc.devRef .tc main_v1)) = _
  after_results
  rfl
theorem V1_v2 : wt (V1 m ρ c main_v2) = aWd m c := by
  show wt (StableHlo.after hostOps0 (W0 m ρ c) (Proc.devRef .tc main_v2)) = _
  after_results
  rfl
theorem V1_arg0 : V1 m ρ c main_arg0 = m ((c.tc : Thread nD τ).loc main_arg0) := W1_args m ρ c main_arg0 (by decide)
theorem V1_arg1 : V1 m ρ c main_arg1 = m ((c.tc : Thread nD τ).loc main_arg1) := W1_args m ρ c main_arg1 (by decide)

/-! ## The backward call's entry -/

theorem V2_v0 : wt (V2 m ρ c main_v0) = aWg m c :=
  (congrArg wt (W2_of m ρ c main_v0 (by decide +kernel))).trans (V1_v0 m ρ c)
theorem V2_v1 : wt (V2 m ρ c main_v1) = aWu m c :=
  (congrArg wt (W2_of m ρ c main_v1 (by decide +kernel))).trans (V1_v1 m ρ c)
theorem V2_v2 : wt (V2 m ρ c main_v2) = aWd m c :=
  (congrArg wt (W2_of m ρ c main_v2 (by decide +kernel))).trans (V1_v2 m ρ c)
theorem V2_arg0 : V2 m ρ c main_arg0 = m ((c.tc : Thread nD τ).loc main_arg0) := W2_args m ρ c main_arg0 (by decide)
theorem V2_arg1 : V2 m ρ c main_arg1 = m ((c.tc : Thread nD τ).loc main_arg1) := W2_args m ρ c main_arg1 (by decide)
theorem V2_arg5 : V2 m ρ c main_arg5 = m ((c.tc : Thread nD τ).loc main_arg5) := W2_args m ρ c main_arg5 (by decide)
/-- The saved gate factor. -/
theorem V2_v3_1 : V2 m ρ c main_v3_1 = fun i : S4096x2816.Idx => dgf (aG m c) (aWg m c) (aWu m c) (aX m c (i 0)) (i 1) :=
  (W2_arr m ρ c 6).trans (by rw [final0_6, V1_v0, V1_v1, V1_arg0, V1_arg1])
/-- The saved activated gate. -/
theorem V2_v3_2 : V2 m ρ c main_v3_2 = fun i : S4096x2816.Idx => sl (aG m c) (aWg m c) (aX m c (i 0)) (i 1) :=
  (W2_arr m ρ c 7).trans (by rw [final0_7, V1_v0, V1_arg0, V1_arg1])

theorem dhT_eq (t : Fin 4096) :
    dhT (V2 m ρ) c t = dh (aG m c) (aWg m c) (aWu m c) (aWd m c) (aX m c t) (aDy m c t) := by
  unfold dhT
  rw [V2_v0, V2_v1, V2_v2, V2_v3_1, V2_v3_2, V2_arg5]
  rfl

/-! ## The weight gradients' entry -/

/-- The saved activation, transposed. -/
theorem V3_v3_3 : V3 m ρ c main_v3_3
    = fun i : S2816x4096.Idx => act (aG m c) (aWg m c) (aWu m c) (aX m c (i 1)) (i 0) :=
  (W3_of m ρ c main_v3_3 (by decide +kernel)).trans
    ((W2_arr m ρ c 8).trans (by rw [final0_8, V1_v0, V1_v1, V1_arg0, V1_arg1]))
/-- The gate's gradient, transposed. -/
theorem V3_v4_1 : V3 m ρ c main_v4_1
    = fun i : S2816x4096.Idx => dgate (aG m c) (aWg m c) (aWu m c) (aWd m c) (aX m c (i 1)) (aDy m c (i 1)) (i 0) :=
  (W3_arr m ρ c 9).trans (by rw [final1_9, V2_v2, V2_v3_1, V2_arg5]; rfl)
/-- The second projection's gradient, transposed. -/
theorem V3_v4_2 : V3 m ρ c main_v4_2
    = fun i : S2816x4096.Idx => dup (aG m c) (aWg m c) (aWd m c) (aX m c (i 1)) (aDy m c (i 1)) (i 0) :=
  (W3_arr m ρ c 10).trans (by rw [final1_10, V2_v2, V2_v3_2, V2_arg5]; rfl)
/-- The normalised rows. -/
theorem V3_v4_3 : V3 m ρ c main_v4_3 = fun i : S4096x1024.Idx => hid (aG m c) (aX m c (i 0)) (i 1) :=
  (W3_arr m ρ c 11).trans (by rw [final1_11, V2_arg0, V2_arg1])
/-- The branch's gradient. -/
theorem V3_v4_4 : V3 m ρ c main_v4_4 = fun i : S4096x1024.Idx => dacc (aDy m c (i 0)) (i 1) :=
  (W3_arr m ρ c 12).trans (by rw [final1_12, V2_arg5])

/-! ## The six results -/

theorem out_at : (dat0 (V1 m ρ) c).arrAt 5 cfg0.N
    = fun i : S4096x1024.Idx => rOut (aX m c) (aG m c) (aWg m c) (aWu m c) (aWd m c) (i 0) (i 1) := by
  rw [final0_5, V1_v0, V1_v1, V1_v2, V1_arg0, V1_arg1]
  rfl
theorem dx_at : (dat1 (V2 m ρ) c).arrAt 8 cfg1.N
    = fun i : S4096x1024.Idx => rDx (aX m c) (aG m c) (aWg m c) (aWu m c) (aWd m c) (aDy m c) (i 0) (i 1) := by
  rw [final1_8, V2_arg0, V2_arg1, V2_arg5]
  funext i
  exact congrArg (fun e => dxRow (aG m c) (aX m c (i 0)) (aDy m c (i 0)) e (i 1)) (dhT_eq m ρ c (i 0))
theorem dg_at : (dat1 (V2 m ρ) c).arrAt 13 cfg1.N
    = fun i : S1x1024.Idx => rDg (aX m c) (aG m c) (aWg m c) (aWu m c) (aWd m c) (aDy m c) (i 1) := by
  rw [final1_13]
  unfold dgTerm
  simp only [dhT_eq]
  rw [V2_arg0]
  rfl
theorem dwg_at : (dat2 (V3 m ρ) c).arrAt 5 cfg2.N
    = fun i : S2816x1024.Idx => rDwg (aX m c) (aG m c) (aWg m c) (aWu m c) (aWd m c) (aDy m c) (i 0) (i 1) := by
  rw [final2_5, V3_v4_1, V3_v4_3]
  rfl
theorem dwu_at : (dat2 (V3 m ρ) c).arrAt 6 cfg2.N
    = fun i : S2816x1024.Idx => rDwu (aX m c) (aG m c) (aWg m c) (aWd m c) (aDy m c) (i 0) (i 1) := by
  rw [final2_6, V3_v4_2, V3_v4_3]
  rfl
theorem dwd_at : (dat2 (V3 m ρ) c).arrAt 7 cfg2.N
    = fun i : S2816x1024.Idx => rDwd (aX m c) (aG m c) (aWg m c) (aWu m c) (aDy m c) (i 0) (i 1) := by
  rw [final2_7, V3_v3_3, V3_v4_4]
  rfl

end Cert.KernelIdeal.Value

end
-- ==== Proof.RefForms.lean ====
/- The reference's arithmetic, one row at a time, in the order in which the reference carries it out: the derivative of
   the half feed-forward step as it follows from differentiating each operation. The forward formulas are those of
   Forms.lean; the backward ones differ in their order. -/
module

public import proofs.«01_k».proof.Proof.Forms

@[expose] public section

noncomputable section

open Idealize.ShloMosaic

namespace Cert.Ffn.Ref

open Cert.Ffn

/-- Minus one half: the exponent of the reciprocal root, from its derivative. -/
abbrev cMinusHalf : EReal := Ideal.ofBits FTy.f32 0xBF000000#32

/-- The mean square of a row plus the constant. -/
def var (x : Row) : EReal := Ideal.div (∑ k, x k * x k) cLanes + cEps
/-- The gradient at the second projection. -/
def dup (g : Row) (wg wd : Wt) (x dy : Row) : HRow := fun f => sl g wg x f * dact wd dy f
/-- The gradient at the gate's projection: by the product rule through `a · σ(a)`. -/
def dgate (g : Row) (wg wu wd : Wt) (x dy : Row) : HRow := fun f =>
  dact wd dy f * proj (hid g x) wu f * sg (proj (hid g x) wg f)
    + proj (hid g x) wg f * (dact wd dy f * proj (hid g x) wu f)
        * (sg (proj (hid g x) wg f) * (1 - sg (proj (hid g x) wg f)))
/-- The gradient at the normalised row. -/
def dh (g : Row) (wg wu wd : Wt) (x dy : Row) : Row := fun d =>
  ∑ f, dup g wg wd x dy f * wu f d + ∑ f, dgate g wg wu wd x dy f * wg f d
/-- The gradient that reaches each lane of the row through the mean square, up to the lane itself, once. -/
def share (g x e : Row) : EReal :=
  Ideal.div ((∑ k, x k * (e k * g k)) * (cMinusHalf * Ideal.div (rstd x) (var x))) cLanes
/-- The gradient of the row: the residual path, the path through the scale and twice the path through the square. -/
def dxRow (g x dy e : Row) : Row := fun d =>
  dy d + e d * g d * rstd x + x d * share g x e + share g x e * x d

/-- The gradient of the input. -/
def rDx (x : Rows) (g : Row) (wg wu wd : Wt) (dy : Rows) (t : Fin 4096) (d : Fin 1024) : EReal :=
  dxRow g (x t) (dy t) (dh g wg wu wd (x t) (dy t)) d
/-- The gradient of the gain. -/
def rDg (x : Rows) (g : Row) (wg wu wd : Wt) (dy : Rows) (d : Fin 1024) : EReal :=
  ∑ t, xhat (x t) d * dh g wg wu wd (x t) (dy t) d
/-- The gradient of the gate's weight. -/
def rDwg (x : Rows) (g : Row) (wg wu wd : Wt) (dy : Rows) (f : Fin 2816) (d : Fin 1024) : EReal :=
  ∑ t, dgate g wg wu wd (x t) (dy t) f * hid g (x t) d
/-- The gradient of the second projection's weight. -/
def rDwu (x : Rows) (g : Row) (wg wd : Wt) (dy : Rows) (f : Fin 2816) (d : Fin 1024) : EReal :=
  ∑ t, dup g wg wd (x t) (dy t) f * hid g (x t) d
/-- The gradient of the last projection's weight. -/
def rDwd (x : Rows) (g : Row) (wg wu : Wt) (dy : Rows) (f : Fin 2816) (d : Fin 1024) : EReal :=
  ∑ t, dacc (dy t) d * act g wg wu (x t) f

end Cert.Ffn.Ref

end
-- ==== Proof.Reference.lean ====
/- The reference's results, layer by layer: each of its arrays named, each read at an index in the formulas of
   RefForms.lean, and the composed results of its run as these arrays. -/
module

public import proofs.«01_k».proof.Proof.Gen.ReferenceIdeal.Run
public import proofs.«01_k».proof.Proof.RefForms
public import Idealize.ShloMosaic.Lib.Pointwise

@[expose] public section

set_option maxRecDepth 16384

noncomputable section

open Idealize.ShloMosaic Idealize.ShloMosaic.TcCoe Idealize.SL.Sem

namespace Cert.ReferenceIdeal.Layers

open Cert.ReferenceIdeal Cert.ReferenceIdeal.Gen Cert.Ffn

/-! ## The arrays -/

/-- The mean square of each row plus the constant. -/
def hVar (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- Its reciprocal root. -/
def hRs (X : FVec Ideal S4096x1024 .f32) : FVec Ideal S4096x1 .f32 :=
  Host.rsqrt (hVar X)
/-- The reciprocal root over the lanes. -/
def hRsB (X : FVec Ideal S4096x1024 .f32) : FVec Ideal S4096x1024 .f32 :=
  broadcastInDim S4096x1024 ![0, 1] bcast_S4096x1_S4096x1024_0_1 (hRs X)
/-- The normalised rows. -/
def hHat (X : FVec Ideal S4096x1024 .f32) : FVec Ideal S4096x1024 .f32 :=
  mulf X (hRsB X)
/-- The gain over the rows. -/
def hGain (G : FVec Ideal S1x1024 .f32) : FVec Ideal S4096x1024 .f32 :=
  broadcastInDim S4096x1024 ![0, 1] bcast_S1x1024_S4096x1024_0_1 G
/-- The normalised rows with the gain. -/
def hHid (X : FVec Ideal S4096x1024 .f32) (G : FVec Ideal S1x1024 .f32) : FVec Ideal S4096x1024 .f32 :=
  mulf (hHat X) (hGain G)
/-- The rows times the transpose of a weight. -/
def hProj (X : FVec Ideal S4096x1024 .f32) (G : FVec Ideal S1x1024 .f32) (W : FVec Ideal S2816x1024 .f32) : FVec Ideal S4096x2816 .f32 :=
  Host.dotGeneral dot_S4096x1024_S1024x2816_S4096x2816_1_0_0_1_n_n none (hHid X G) (transpose S1024x2816 [1, 0] W transposes_S2816x1024_S1024x2816_1_0)
/-- All ones. -/
def hOne  : FVec Ideal S4096x2816 .f32 :=
  broadcastInDim S4096x2816 ![] bcast_S_S4096x2816 (constant S_ .f32 0x3F800000#32)
/-- The logistic function of the gate. -/
def hSig (X : FVec Ideal S4096x1024 .f32) (G : FVec Ideal S1x1024 .f32) (Wg : FVec Ideal S2816x1024 .f32) : FVec Ideal S4096x2816 .f32 :=
  Host.divf hOne (addf hOne (Host.exp (Host.negf (hProj X G Wg))))
/-- The activated gate. -/
def hSl (X : FVec Ideal S4096x1024 .f32) (G : FVec Ideal S1x1024 .f32) (Wg : FVec Ideal S2816x1024 .f32) : FVec Ideal S4096x2816 .f32 :=
  mulf (hProj X G Wg) (hSig X G Wg)
/-- The hidden activation. -/
def hAct (X : FVec Ideal S4096x1024 .f32) (G : FVec Ideal S1x1024 .f32) (Wg : FVec Ideal S2816x1024 .f32) (Wu : FVec Ideal S2816x1024 .f32) : FVec Ideal S4096x2816 .f32 :=
  mulf (hSl X G Wg) (hProj X G Wu)
/-- All one half. -/
def hHalf  : FVec Ideal S4096x1024 .f32 :=
  broadcastInDim S4096x1024 ![] bcast_S_S4096x1024 (constant S_ .f32 0x3F000000#32)
/-- The branch's share of the result's gradient. -/
def hDa (DY : FVec Ideal S4096x1024 .f32) : FVec Ideal S4096x1024 .f32 :=
  mulf hHalf (shapeCast _ DY shapeCasts_S4096x1024_S4096x1024)
/-- The gradient at the hidden activation. -/
def hDact (Wd : FVec Ideal S2816x1024 .f32) (DY : FVec Ideal S4096x1024 .f32) : FVec Ideal S4096x2816 .f32 :=
  Host.dotGeneral dot_S4096x1024_S2816x1024_S4096x2816_1_1_0_0_n_n none (hDa DY) Wd
/-- The gradient at the second projection. -/
def hDup (X : FVec Ideal S4096x1024 .f32) (G : FVec Ideal S1x1024 .f32) (Wg : FVec Ideal S2816x1024 .f32) (Wd : FVec Ideal S2816x1024 .f32) (DY : FVec Ideal S4096x1024 .f32) : FVec Ideal S4096x2816 .f32 :=
  mulf (hSl X G Wg) (hDact Wd DY)
/-- The gradient at the gate. -/
def hDgate (X : FVec Ideal S4096x1024 .f32) (G : FVec Ideal S1x1024 .f32) (Wg : FVec Ideal S2816x1024 .f32) (Wu : FVec Ideal S2816x1024 .f32) (Wd : FVec Ideal S2816x1024 .f32) (DY : FVec Ideal S4096x1024 .f32) : FVec Ideal S4096x2816 .f32 :=
  addf (mulf (mulf (hDact Wd DY) (hProj X G Wu)) (hSig X G Wg)) (mulf (mulf (hProj X G Wg) (mulf (hDact Wd DY) (hProj X G Wu))) (mulf (hSig X G Wg) (subf hOne (hSig X G Wg))))
/-- The gradient at the normalised rows. -/
def hDh (X : FVec Ideal S4096x1024 .f32) (G : FVec Ideal S1x1024 .f32) (Wg : FVec Ideal S2816x1024 .f32) (Wu : FVec Ideal S2816x1024 .f32) (Wd : FVec Ideal S2816x1024 .f32) (DY : FVec Ideal S4096x1024 .f32) : FVec Ideal S4096x1024 .f32 :=
  addf (Host.dotGeneral dot_S4096x2816_S1024x2816_S4096x1024_1_1_0_0_n_n none (hDup X G Wg Wd DY) (transpose S1024x2816 [1, 0] Wu transposes_S2816x1024_S1024x2816_1_0)) (Host.dotGeneral dot_S4096x2816_S1024x2816_S4096x1024_1_1_0_0_n_n none (hDgate X G Wg Wu Wd DY) (transpose S1024x2816 [1, 0] Wg transposes_S2816x1024_S1024x2816_1_0))
/-- The same times the gain. -/
def hDhg (X : FVec Ideal S4096x1024 .f32) (G : FVec Ideal S1x1024 .f32) (Wg : FVec Ideal S2816x1024 .f32) (Wu : FVec Ideal S2816x1024 .f32) (Wd : FVec Ideal S2816x1024 .f32) (DY : FVec Ideal S4096x1024 .f32) : FVec Ideal S4096x1024 .f32 :=
  mulf (hDh X G Wg Wu Wd DY) (hGain G)
/-- The result. -/
def hOut (X : FVec Ideal S4096x1024 .f32) (G : FVec Ideal S1x1024 .f32) (Wg : FVec Ideal S2816x1024 .f32) (Wu : FVec Ideal S2816x1024 .f32) (Wd : FVec Ideal S2816x1024 .f32) : FVec Ideal S4096x1024 .f32 :=
  addf X (mulf hHalf (Host.dotGeneral dot_S4096x2816_S2816x1024_S4096x1024_1_0_0_1_n_n none (hAct X G Wg Wu) Wd))
/-- The share of the norm in the gradient of the input, over the lanes: a number per row. -/
def hT (X : FVec Ideal S4096x1024 .f32) (G : FVec Ideal S1x1024 .f32) (Wg Wu Wd : FVec Ideal S2816x1024 .f32) (DY : FVec Ideal S4096x1024 .f32) : FVec Ideal S4096x1024 .f32 :=
  broadcastInDim S4096x1024 ![0] bcast_S4096_S4096x1024_0 (Host.reduceAdd (Host.divf (mulf (shapeCast _ (Host.reduceAdd (mulf X (hDhg X G Wg Wu Wd DY)) (constant S_ .f32 0x00000000#32) reducesTo_S4096x1024_S4096_d1 h_S_) shapeCasts_S4096_S4096x1) (mulf (broadcastInDim S4096x1 ![] bcast_S_S4096x1 (constant S_ .f32 0xBF000000#32)) (Host.divf (hRs X) (hVar X)))) (broadcastInDim S4096x1 ![] bcast_S_S4096x1 (constant S_ .f32 0x44800000#32))) (constant S_ .f32 0x00000000#32) reducesTo_S4096x1_S4096_d1 h_S_)
/-- The gradient of the input. -/
def hDx (X : FVec Ideal S4096x1024 .f32) (G : FVec Ideal S1x1024 .f32) (Wg : FVec Ideal S2816x1024 .f32) (Wu : FVec Ideal S2816x1024 .f32) (Wd : FVec Ideal S2816x1024 .f32) (DY : FVec Ideal S4096x1024 .f32) : FVec Ideal S4096x1024 .f32 :=
  addf (addf (addf DY (mulf (hDhg X G Wg Wu Wd DY) (hRsB X))) (mulf X (hT X G Wg Wu Wd DY))) (mulf (hT X G Wg Wu Wd DY) X)
/-- The gradient of the gain. -/
def hDg (X : FVec Ideal S4096x1024 .f32) (G : FVec Ideal S1x1024 .f32) (Wg : FVec Ideal S2816x1024 .f32) (Wu : FVec Ideal S2816x1024 .f32) (Wd : FVec Ideal S2816x1024 .f32) (DY : FVec Ideal S4096x1024 .f32) : FVec Ideal S1x1024 .f32 :=
  shapeCast _ (Host.reduceAdd (mulf (hHat X) (hDh X G Wg Wu Wd DY)) (constant S_ .f32 0x00000000#32) reducesTo_S4096x1024_S1024_d0 h_S_) shapeCasts_S1024_S1x1024
/-- The gradient of the gate's weight. -/
def hDwg (X : FVec Ideal S4096x1024 .f32) (G : FVec Ideal S1x1024 .f32) (Wg : FVec Ideal S2816x1024 .f32) (Wu : FVec Ideal S2816x1024 .f32) (Wd : FVec Ideal S2816x1024 .f32) (DY : FVec Ideal S4096x1024 .f32) : FVec Ideal S2816x1024 .bf16 :=
  truncf .bf16 (transpose S2816x1024 [1, 0] (transpose S1024x2816 [1, 0] (Host.dotGeneral dot_S4096x2816_S4096x1024_S2816x1024_0_0_1_1_n_n none (hDgate X G Wg Wu Wd DY) (hHid X G)) transposes_S2816x1024_S1024x2816_1_0) transposes_S1024x2816_S2816x1024_1_0) bitsLt_bf16_f32
/-- The gradient of the second projection's weight. -/
def hDwu (X : FVec Ideal S4096x1024 .f32) (G : FVec Ideal S1x1024 .f32) (Wg : FVec Ideal S2816x1024 .f32) (Wd : FVec Ideal S2816x1024 .f32) (DY : FVec Ideal S4096x1024 .f32) : FVec Ideal S2816x1024 .bf16 :=
  truncf .bf16 (transpose S2816x1024 [1, 0] (transpose S1024x2816 [1, 0] (Host.dotGeneral dot_S4096x2816_S4096x1024_S2816x1024_0_0_1_1_n_n none (hDup X G Wg Wd DY) (hHid X G)) transposes_S2816x1024_S1024x2816_1_0) transposes_S1024x2816_S2816x1024_1_0) bitsLt_bf16_f32
/-- The gradient of the last projection's weight. -/
def hDwd (X : FVec Ideal S4096x1024 .f32) (G : FVec Ideal S1x1024 .f32) (Wg : FVec Ideal S2816x1024 .f32) (Wu : FVec Ideal S2816x1024 .f32) (DY : FVec Ideal S4096x1024 .f32) : FVec Ideal S2816x1024 .bf16 :=
  truncf .bf16 (transpose S2816x1024 [1, 0] (Host.dotGeneral dot_S4096x1024_S4096x2816_S1024x2816_0_0_1_1_n_n none (hDa DY) (hAct X G Wg Wu)) transposes_S1024x2816_S2816x1024_1_0) bitsLt_bf16_f32

/-! ## The arrays at an index -/

/-- Row `t` of an array of 4096 rows. -/
abbrev rowR (X : FVec Ideal S4096x1024 .f32) (t : Fin 4096) : Row := fun d => X (ix2 t d)
/-- A one-row array as a row. -/
abbrev rowG (G : FVec Ideal S1x1024 .f32) : Row := fun d => G (ix2 0 d)
/-- A weight array by its two indices. -/
abbrev wtR (W : FVec Ideal S2816x1024 .f32) : Wt := fun f d => W (ix2 f d)

variable (X DY : FVec Ideal S4096x1024 .f32) (G : FVec Ideal S1x1024 .f32) (Wg Wu Wd W : FVec Ideal S2816x1024 .f32)
  (t : Fin 4096) (d : Fin 1024) (f : Fin 2816)

theorem hVar_at : hVar X (ix2 t 0) = Ref.var (rowR X t) := by
  pointwise [hVar, Ref.var]
theorem hRs_at : hRs X (ix2 t 0) = rstd (rowR X t) := by
  pointwise [hRs, hVar, rstd]
theorem hRsB_at : hRsB X (ix2 t d) = rstd (rowR X t) := by
  pointwise [hRsB]
  simp only [hRs_at]
theorem hHat_at : hHat X (ix2 t d) = xhat (rowR X t) d := by
  pointwise [hHat, xhat]
  simp only [hRsB_at]
theorem hHid_at : hHid X G (ix2 t d) = hid (rowG G) (rowR X t) d := by
  pointwise [hHid, hGain, hid]
  simp only [hHat_at]
theorem hProj_at : hProj X G W (ix2 t f) = proj (hid (rowG G) (rowR X t)) (wtR W) f := by
  pointwise [hProj, proj]
  simp only [hHid_at]
theorem hSig_at : hSig X G Wg (ix2 t f) = sg (proj (hid (rowG G) (rowR X t)) (wtR Wg) f) := by
  pointwise [hSig, hOne, sg]
  simp only [hProj_at, sub_eq_add_neg, zero_add]
theorem hSl_at : hSl X G Wg (ix2 t f) = sl (rowG G) (wtR Wg) (rowR X t) f := by
  pointwise [hSl, sl, swish]
  simp only [hProj_at, hSig_at]
theorem hAct_at : hAct X G Wg Wu (ix2 t f) = act (rowG G) (wtR Wg) (wtR Wu) (rowR X t) f := by
  pointwise [hAct, act]
  simp only [hProj_at, hSl_at]
theorem hDa_at : hDa DY (ix2 t d) = dacc (rowR DY t) d := by
  pointwise [hDa, hHalf, dacc]
theorem hDact_at : hDact Wd DY (ix2 t f) = dact (wtR Wd) (rowR DY t) f := by
  pointwise [hDact, dact, proj]
  simp only [hDa_at]
theorem hDup_at : hDup X G Wg Wd DY (ix2 t f) = Ref.dup (rowG G) (wtR Wg) (wtR Wd) (rowR X t) (rowR DY t) f := by
  pointwise [hDup, Ref.dup]
  simp only [hDact_at, hSl_at]
theorem hDgate_at : hDgate X G Wg Wu Wd DY (ix2 t f)
    = Ref.dgate (rowG G) (wtR Wg) (wtR Wu) (wtR Wd) (rowR X t) (rowR DY t) f := by
  pointwise [hDgate, hOne, Ref.dgate]
  simp only [hDact_at, hSig_at, hProj_at]
theorem hDh_at : hDh X G Wg Wu Wd DY (ix2 t d)
    = Ref.dh (rowG G) (wtR Wg) (wtR Wu) (wtR Wd) (rowR X t) (rowR DY t) d := by
  pointwise [hDh, Ref.dh]
  simp only [hDup_at, hDgate_at]
theorem hDhg_at : hDhg X G Wg Wu Wd DY (ix2 t d)
    = Ref.dh (rowG G) (wtR Wg) (wtR Wu) (wtR Wd) (rowR X t) (rowR DY t) d * rowG G d := by
  pointwise [hDhg, hGain]
  simp only [hDh_at]
theorem hOut_at : hOut X G Wg Wu Wd (ix2 t d) = rOut (rowR X) (rowG G) (wtR Wg) (wtR Wu) (wtR Wd) t d := by
  pointwise [hOut, hHalf, rOut, outRow]
  simp only [hAct_at]
theorem hT_at : hT X G Wg Wu Wd DY (ix2 t d)
    = Ref.share (rowG G) (rowR X t) (Ref.dh (rowG G) (wtR Wg) (wtR Wu) (wtR Wd) (rowR X t) (rowR DY t)) := by
  pointwise [hT, Ref.share]
  rw [Fintype.sum_unique]
  show Ideal.div (_ * (_ * Ideal.div (hRs X (ix2 t 0)) (hVar X (ix2 t 0)))) _ = _
  simp only [hDhg_at, hRs_at, hVar_at]
theorem hDx_at : hDx X G Wg Wu Wd DY (ix2 t d)
    = Ref.rDx (rowR X) (rowG G) (wtR Wg) (wtR Wu) (wtR Wd) (rowR DY) t d := by
  pointwise [hDx, Ref.rDx, Ref.dxRow]
  simp only [hDhg_at, hRsB_at, hT_at]
theorem hDg_at : hDg X G Wg Wu Wd DY (ix2 0 d)
    = Ref.rDg (rowR X) (rowG G) (wtR Wg) (wtR Wu) (wtR Wd) (rowR DY) d := by
  pointwise [hDg, Ref.rDg]
  simp only [hHat_at, hDh_at]
theorem hDwg_at : hDwg X G Wg Wu Wd DY (ix2 f d)
    = Ref.rDwg (rowR X) (rowG G) (wtR Wg) (wtR Wu) (wtR Wd) (rowR DY) f d := by
  pointwise [hDwg, Ref.rDwg]
  simp only [hHid_at, hDgate_at]
theorem hDwu_at : hDwu X G Wg Wd DY (ix2 f d)
    = Ref.rDwu (rowR X) (rowG G) (wtR Wg) (wtR Wd) (rowR DY) f d := by
  pointwise [hDwu, Ref.rDwu]
  simp only [hHid_at, hDup_at]
theorem hDwd_at : hDwd X G Wg Wu DY (ix2 f d)
    = Ref.rDwd (rowR X) (rowG G) (wtR Wg) (wtR Wu) (rowR DY) f d := by
  pointwise [hDwd, Ref.rDwd]
  simp only [hDa_at, hAct_at]

/-! ## The run -/

variable (m : (ℓ : Loc nD τ sig) → Buf (Elt Ideal) ℓ) (ρ : Dev nD → PrngReg)

/-- Every execution of the reference ends with the named arrays in its results, the arguments unchanged. -/
theorem run : θ_run defs (onTc (τ := τ) (main (F := Ideal))) ⟨m, fun _ => 0, ρ⟩ (fun r => ∀ c : Dev nD,
      r.2.mem ((c.tc : Thread nD τ).loc main_v24) = hOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v62) = hDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v45) = hDg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v63) = hDwg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v64) = hDwu (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v65) = hDwd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h0, h1, h2, h3, h4, h5, h6⟩ := h c
    exact ⟨h0.trans rfl, h1.trans rfl, h2.trans rfl, h3.trans rfl, h4.trans rfl, h5.trans rfl, h6⟩)
    (Cert.ReferenceIdeal.Value.run m ρ)

end Cert.ReferenceIdeal.Layers

end
-- ==== Proof.Equation.lean ====
/- The kernel's formulas equal the reference's on rows of real numbers: the product rule through `a · σ(a)` regroups to
   the saved gate factor, and the two equal paths through the mean square add up to the projection onto the normalised
   row. The result and the activations are equal as they stand. -/
module

public import proofs.«01_k».proof.Proof.RefForms
public import Mathlib.Tactic.FieldSimp
public import Mathlib.Tactic.Linarith
public import Mathlib.Tactic.Positivity

@[expose] public section

noncomputable section

open Idealize.ShloMosaic

namespace Cert.Ffn

/-! ## Real numbers among the extended reals -/

/-- Being a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩
theorem IsReal.add {a b : EReal} (ha : IsReal a) (hb : IsReal b) : IsReal (a + b) := by
  obtain ⟨r, rfl⟩ := ha
  obtain ⟨s, rfl⟩ := hb
  exact ⟨r + s, (EReal.coe_add r s).symm⟩
theorem IsReal.sub {a b : EReal} (ha : IsReal a) (hb : IsReal b) : IsReal (a - b) := by
  obtain ⟨r, rfl⟩ := ha
  obtain ⟨s, rfl⟩ := hb
  exact ⟨r - s, (EReal.coe_sub r s).symm⟩
theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ
theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-! ## The constants -/

theorem cHalf_eq : cHalf = ((1 / 2 : ℝ) : EReal) := by
  simp [cHalf, Ideal.ofBits, Ideal.ieee, -EReal.coe_mul]
  norm_num
theorem cMinusHalf_eq : Ref.cMinusHalf = ((-1 / 2 : ℝ) : EReal) := by
  simp [Ref.cMinusHalf, Ideal.ofBits, Ideal.ieee, -EReal.coe_mul, -EReal.coe_neg]
  norm_num
theorem cLanes_eq : cLanes = ((1024 : ℝ) : EReal) := by
  simp [cLanes, Ideal.ofBits, Ideal.ieee, -EReal.coe_mul]
  norm_num
/-- The constant added to the mean square is a positive real. -/
theorem cEps_pos : ∃ e : ℝ, 0 < e ∧ cEps = (e : EReal) := by
  refine ⟨8796093 * 2 ^ (-43 : ℤ), by positivity, ?_⟩
  simp [cEps, Ideal.ofBits, Ideal.ieee, -EReal.coe_mul]

/-! ## Real rows stay real -/

/-- The logistic function of a real is a real. -/
theorem sg_real {a : EReal} (h : IsReal a) : IsReal (sg a) := by
  obtain ⟨r, rfl⟩ := h
  have e : (1 : EReal) + Ideal.exp (0 - (r : EReal)) = ((1 + Real.exp (-r) : ℝ) : EReal) := by
    rw [sub_eq_add_neg, zero_add, ← EReal.coe_neg, Ideal.exp_coe, EReal.coe_add, EReal.coe_one]
  have hp : (1 + Real.exp (-r) : ℝ) ≠ 0 := by positivity
  refine ⟨1 / (1 + Real.exp (-r)), ?_⟩
  rw [sg, e, Ideal.div_coe hp, one_mul]

/-- A real row's mean square plus the constant is a positive real, and its reciprocal root is that real's. -/
theorem var_rstd {x : Row} (h : ∀ d, IsReal (x d)) :
    ∃ v : ℝ, 0 < v ∧ Ref.var x = (v : EReal) ∧ rstd x = ((Real.sqrt v)⁻¹ : ℝ) := by
  choose y hy using h
  obtain ⟨e, he, hc⟩ := cEps_pos
  have hv : Ref.var x = (((∑ k, y k * y k) * (1 / 1024) + e : ℝ) : EReal) := by
    rw [Ref.var, cLanes_eq, hc, Ideal.div_coe (by norm_num), EReal.coe_add, EReal.coe_mul, coe_sum]
    simp only [hy, EReal.coe_mul]
  have hpos : 0 < (∑ k, y k * y k) * (1 / 1024) + e := by
    have : 0 ≤ ∑ k, y k * y k := Finset.sum_nonneg fun k _ => mul_self_nonneg _
    positivity
  refine ⟨_, hpos, hv, ?_⟩
  show Ideal.rsqrt (Ref.var x) = _
  rw [hv, Ideal.rsqrt_coe, if_neg (not_lt.2 hpos.le), if_neg hpos.ne']

theorem rstd_real {x : Row} (h : ∀ d, IsReal (x d)) : IsReal (rstd x) := by
  obtain ⟨v, -, -, e⟩ := var_rstd h
  exact ⟨_, e⟩

section Rows

variable {x g dy : Row} {wg wu wd : Wt} (hx : ∀ d, IsReal (x d)) (hg : ∀ d, IsReal (g d)) (hdy : ∀ d, IsReal (dy d))
  (hwg : ∀ f d, IsReal (wg f d)) (hwu : ∀ f d, IsReal (wu f d)) (hwd : ∀ f d, IsReal (wd f d))

theorem proj_real {h : Row} {w : Wt} (hh : ∀ d, IsReal (h d)) (hw : ∀ f d, IsReal (w f d)) (f : Fin 2816) :
    IsReal (proj h w f) := IsReal.sum fun d => (hh d).mul (hw f d)
include hx hg in
theorem hid_real (d : Fin 1024) : IsReal (hid g x d) := ((hx d).mul (rstd_real hx)).mul (hg d)
include hdy in
theorem dacc_real (d : Fin 1024) : IsReal (dacc dy d) := IsReal.mul ⟨_, cHalf_eq⟩ (hdy d)
include hdy hwd in
theorem dact_real (f : Fin 2816) : IsReal (dact wd dy f) := proj_real (dacc_real hdy) hwd f

/-! ## The equations -/

theorem dup_eq : Ref.dup g wg wd x dy = dup g wg wd x dy := funext fun _ => mul_comm _ _

include hx hg hdy hwg hwu hwd in
/-- The gate's gradient: the product rule's two terms regroup to the gradient times the saved factor. -/
theorem dgate_eq : Ref.dgate g wg wu wd x dy = dgate g wg wu wd x dy := by
  funext f
  have hp := proj_real (hid_real hx hg) hwg f
  obtain ⟨a, ha⟩ := hp
  obtain ⟨s, hs⟩ := sg_real ⟨a, rfl⟩
  obtain ⟨u, hu⟩ := proj_real (hid_real hx hg) hwu f
  obtain ⟨b, hb⟩ := dact_real hdy hwd f
  simp only [Ref.dgate, dgate, dgf, swish, hs, ha, hu, hb, ← EReal.coe_one, ← EReal.coe_mul, ← EReal.coe_add,
    ← EReal.coe_sub]
  refine EReal.coe_eq_coe_iff.2 ?_
  ring

include hx hg hdy hwg hwu hwd in
/-- The gradient at the normalised row. -/
theorem dh_eq : Ref.dh g wg wu wd x dy = dh g wg wu wd x dy := by
  funext d
  rw [Ref.dh, dgate_eq hx hg hdy hwg hwu hwd, dup_eq, add_comm]
  rfl

include hx hg hdy hwg hwu hwd in
/-- The gradient at the normalised row is real. -/
theorem dh_real (d : Fin 1024) : IsReal (dh g wg wu wd x dy d) := by
  have hu := fun f => proj_real (hid_real hx hg) hwu f
  have ha := fun f => proj_real (hid_real hx hg) hwg f
  have hs := fun f => sg_real (ha f)
  have hb := fun f => dact_real hdy hwd f
  have h1 : IsReal 1 := ⟨1, EReal.coe_one.symm⟩
  exact (IsReal.sum fun f => (((hb f).mul ((hu f).mul ((hs f).add (((ha f).mul (hs f)).mul (h1.sub (hs f)))))).mul
    (hwg f d))).add (IsReal.sum fun f => ((hb f).mul ((ha f).mul (hs f))).mul (hwu f d))

include hx hg hdy in
/-- The row's gradient: twice the share through the mean square is the projection onto the normalised row. -/
theorem dxRow_eq {e : Row} (he : ∀ d, IsReal (e d)) : Ref.dxRow g x dy e = dxRow g x dy e := by
  obtain ⟨v, hv, hvar, hrs⟩ := var_rstd hx
  choose X hX using hx
  choose G hG using hg
  choose Y hY using hdy
  choose E hE using he
  have hsq : Real.sqrt v * Real.sqrt v = v := Real.mul_self_sqrt hv.le
  have hs0 : Real.sqrt v ≠ 0 := (Real.sqrt_pos.2 hv).ne'
  funext d
  have hS : ∑ k, (E k * G k * (X k * (Real.sqrt v)⁻¹)) = (∑ k, X k * (E k * G k)) * (Real.sqrt v)⁻¹ := by
    rw [Finset.sum_mul]
    exact Finset.sum_congr rfl fun k _ => by ring
  simp only [Ref.dxRow, Ref.share, dxRow, xhat, hvar, hrs, cLanes_eq, cMinusHalf_eq, Ideal.div_coe hv.ne',
    Ideal.div_coe (show (1024 : ℝ) ≠ 0 by norm_num), hX, hG, hY, hE, ← EReal.coe_mul, ← coe_sum, ← EReal.coe_add,
    ← EReal.coe_sub]
  refine EReal.coe_eq_coe_iff.2 ?_
  rw [hS]
  generalize ∑ k, X k * (E k * G k) = S
  generalize Real.sqrt v = q at hsq hs0
  subst hsq
  field_simp
  ring

end Rows

/-! ## The six results -/

section Results

variable {x dy : Rows} {g : Row} {wg wu wd : Wt} (hx : ∀ t d, IsReal (x t d)) (hg : ∀ d, IsReal (g d))
  (hdy : ∀ t d, IsReal (dy t d)) (hwg : ∀ f d, IsReal (wg f d)) (hwu : ∀ f d, IsReal (wu f d))
  (hwd : ∀ f d, IsReal (wd f d))

include hx hg hdy hwg hwu hwd in
theorem rDx_eq (t : Fin 4096) (d : Fin 1024) : Ref.rDx x g wg wu wd dy t d = rDx x g wg wu wd dy t d := by
  rw [Ref.rDx, dh_eq (hx t) hg (hdy t) hwg hwu hwd, dxRow_eq (hx t) hg (hdy t) (dh_real (hx t) hg (hdy t) hwg hwu hwd)]
  rfl
include hx hg hdy hwg hwu hwd in
theorem rDg_eq (d : Fin 1024) : Ref.rDg x g wg wu wd dy d = rDg x g wg wu wd dy d :=
  Finset.sum_congr rfl fun t _ => by rw [dh_eq (hx t) hg (hdy t) hwg hwu hwd, mul_comm]
include hx hg hdy hwg hwu hwd in
theorem rDwg_eq (f : Fin 2816) (d : Fin 1024) : Ref.rDwg x g wg wu wd dy f d = rDwg x g wg wu wd dy f d :=
  Finset.sum_congr rfl fun t _ => by rw [dgate_eq (hx t) hg (hdy t) hwg hwu hwd]
theorem rDwu_eq (f : Fin 2816) (d : Fin 1024) : Ref.rDwu x g wg wd dy f d = rDwu x g wg wd dy f d :=
  Finset.sum_congr rfl fun t _ => by rw [dup_eq]
theorem rDwd_eq (f : Fin 2816) (d : Fin 1024) : Ref.rDwd x g wg wu dy f d = rDwd x g wg wu dy f d :=
  Finset.sum_congr rfl fun t _ => mul_comm _ _

end Results

end Cert.Ffn

end
-- ==== Proof.Precondition.lean ====
/- What the precondition says: the printed predicate is one exactly when every entry of the six arguments has an absolute
   value below infinity, that is, when every entry is a real number. -/
module

public import proofs.«01_k».proof.Defs
public import proofs.«01_k».proof.Proof.Gen.Pre_finite
public import proofs.«01_k».proof.Proof.Equation
public import Idealize.ShloMosaic.Lib.ReduceAll
public import Idealize.ShloMosaic.Lib.Pointwise

@[expose] public section

set_option maxRecDepth 16384

noncomputable section

open Idealize.ShloMosaic

namespace Cert.Ffn

/-- An extended real whose absolute value is below infinity is a real. -/
theorem real_of_abs_lt {a : EReal} (h : max a (-a) < ⊤) : IsReal a := by
  refine ⟨a.toReal, (EReal.coe_toReal (fun e => ?_) (fun e => ?_)).symm⟩
  · rw [e] at h
    exact absurd h (by simp)
  · rw [e] at h
    exact absurd h (by simp)

theorem inf_eq : Ideal.ofBits FTy.f32 0x7F800000#32 = ⊤ := by
  simp [Ideal.ofBits, Ideal.ieee]

/-- An absolute value that compares below infinity is a real's. -/
theorem real_of_cmp {a : EReal} (h : Ideal.cmp .olt (max a (-a)) (Ideal.ofBits FTy.f32 0x7F800000#32) = 1#1) :
    IsReal a := by
  rw [inf_eq] at h
  refine real_of_abs_lt (not_not.1 fun hn => ?_)
  simp [Ideal.cmp, hn] at h

open Cert.Pre_finite Cert.Pre_finite.Facts in
/-- The predicate reads: every entry of every argument is a real number. -/
theorem real_of_pre [Cert.Pre_finite.Facts] (x : FVec Ideal S4096x1024 .f32) (g : FVec Ideal S1x1024 .f32)
    (wg wu wd : FVec Ideal S2816x1024 .f32) (dy : FVec Ideal S4096x1024 .f32)
    (h : Cert.Pre_finite.fn (F := Ideal) x g wg wu wd dy = fun _ => 1#1) :
    (∀ i, IsReal (x i)) ∧ (∀ i, IsReal (g i)) ∧ (∀ i, IsReal (wg i)) ∧ (∀ i, IsReal (wu i)) ∧ (∀ i, IsReal (wd i))
      ∧ ∀ i, IsReal (dy i) := by
  have e := congrFun h (fun a => a.elim0)
  unfold Cert.Pre_finite.fn Cert.Pre_finite.fn_part1 at e
  simp only [andi_apply] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_cmp (Host.reduce_andi_all _ _ _ _ _ e0 i), fun i => real_of_cmp (Host.reduce_andi_all _ _ _ _ _ e1 i),
    fun i => real_of_cmp (Host.reduce_andi_all _ _ _ _ _ e2 i), fun i => real_of_cmp (Host.reduce_andi_all _ _ _ _ _ e3 i),
    fun i => real_of_cmp (Host.reduce_andi_all _ _ _ _ _ e4 i), fun i => real_of_cmp (Host.reduce_andi_all _ _ _ _ _ e5 i)⟩

end Cert.Ffn

end
-- ==== Proof.Algebraic.lean ====
/- The value claim: over the reals, from arguments whose entries are real numbers, the kernel's six results are the
   reference's. Both runs end at the same arrays: the formulas of Forms.lean over the arguments. -/
module

public import proofs.«01_k».proof.Defs
public import proofs.«01_k».proof.Proof.Gen.Kernel
public import proofs.«01_k».proof.Proof.Gen.Pre_finite
public import proofs.«01_k».proof.Proof.Entry
public import proofs.«01_k».proof.Proof.Reference
public import proofs.«01_k».proof.Proof.Equation
public import proofs.«01_k».proof.Proof.Precondition

@[expose] public section

set_option maxRecDepth 16384

noncomputable section

open Idealize.ShloMosaic Idealize.ShloMosaic.TcCoe Idealize.SL.Sem

namespace Cert.Ffn

open Cert.KernelIdeal.Value Cert.ReferenceIdeal.Layers

/-! ## The reference's arrays are the kernel's formulas -/

section Arrays

open Cert.ReferenceIdeal

variable {X DY : FVec Ideal S4096x1024 .f32} {G : FVec Ideal S1x1024 .f32} {Wg Wu Wd : FVec Ideal S2816x1024 .f32}

theorem hOut_eq : hOut X G Wg Wu Wd
    = fun i : S4096x1024.Idx => rOut (rowR X) (rowG G) (wtR Wg) (wtR Wu) (wtR Wd) (i 0) (i 1) := by
  funext i
  idx_vars i
  exact hOut_at X G Wg Wu Wd i0 i1

variable (hX : ∀ i, IsReal (X i)) (hG : ∀ i, IsReal (G i)) (hWg : ∀ i, IsReal (Wg i)) (hWu : ∀ i, IsReal (Wu i))
  (hWd : ∀ i, IsReal (Wd i)) (hDY : ∀ i, IsReal (DY i))

include hX hG hWg hWu hWd hDY in
theorem hDx_eq : hDx X G Wg Wu Wd DY
    = fun i : S4096x1024.Idx => rDx (rowR X) (rowG G) (wtR Wg) (wtR Wu) (wtR Wd) (rowR DY) (i 0) (i 1) := by
  funext i
  idx_vars i
  exact (hDx_at X DY G Wg Wu Wd i0 i1).trans (rDx_eq (fun _ _ => hX _) (fun _ => hG _) (fun _ _ => hDY _) (fun _ _ => hWg _)
    (fun _ _ => hWu _) (fun _ _ => hWd _) i0 i1)
include hX hG hWg hWu hWd hDY in
theorem hDg_eq : hDg X G Wg Wu Wd DY
    = fun i : S1x1024.Idx => rDg (rowR X) (rowG G) (wtR Wg) (wtR Wu) (wtR Wd) (rowR DY) (i 1) := by
  funext i
  idx_vars i
  obtain rfl : i0 = 0 := Subsingleton.elim _ _
  exact (hDg_at X DY G Wg Wu Wd i1).trans (rDg_eq (fun _ _ => hX _) (fun _ => hG _) (fun _ _ => hDY _) (fun _ _ => hWg _)
    (fun _ _ => hWu _) (fun _ _ => hWd _) i1)
include hX hG hWg hWu hWd hDY in
theorem hDwg_eq : hDwg X G Wg Wu Wd DY
    = fun i : S2816x1024.Idx => rDwg (rowR X) (rowG G) (wtR Wg) (wtR Wu) (wtR Wd) (rowR DY) (i 0) (i 1) := by
  funext i
  idx_vars i
  exact (hDwg_at X DY G Wg Wu Wd i1 i0).trans (rDwg_eq (fun _ _ => hX _) (fun _ => hG _) (fun _ _ => hDY _) (fun _ _ => hWg _)
    (fun _ _ => hWu _) (fun _ _ => hWd _) i0 i1)
theorem hDwu_eq : hDwu X G Wg Wd DY
    = fun i : S2816x1024.Idx => rDwu (rowR X) (rowG G) (wtR Wg) (wtR Wd) (rowR DY) (i 0) (i 1) := by
  funext i
  idx_vars i
  exact (hDwu_at X DY G Wg Wd i1 i0).trans (rDwu_eq i0 i1)
theorem hDwd_eq : hDwd X G Wg Wu DY
    = fun i : S2816x1024.Idx => rDwd (rowR X) (rowG G) (wtR Wg) (wtR Wu) (rowR DY) (i 0) (i 1) := by
  funext i
  idx_vars i
  exact (hDwd_at X DY G Wg Wu i1 i0).trans (rDwd_eq i0 i1)

end Arrays

/-! ## The claim -/

theorem algebraic : Cert.algebraic_KernelIdeal_ReferenceIdeal_pre_finite := by
  intro m g m' g' hpre hagree
  refine ⟨fun c i => rOut (aX m c) (aG m c) (aWg m c) (aWu m c) (aWd m c) (i 0) (i 1),
    fun c i => rDx (aX m c) (aG m c) (aWg m c) (aWu m c) (aWd m c) (aDy m c) (i 0) (i 1),
    fun c i => rDg (aX m c) (aG m c) (aWg m c) (aWu m c) (aWd m c) (aDy m c) (i 1),
    fun c i => rDwg (aX m c) (aG m c) (aWg m c) (aWu m c) (aWd m c) (aDy m c) (i 0) (i 1),
    fun c i => rDwu (aX m c) (aG m c) (aWg m c) (aWd m c) (aDy m c) (i 0) (i 1),
    fun c i => rDwd (aX m c) (aG m c) (aWg m c) (aWu m c) (aDy m c) (i 0) (i 1), ?_, ?_⟩
  · refine (θ_run _ _ _).mono (fun _ h c => ?_) (Cert.KernelIdeal.Value.run m g)
    obtain ⟨h0, h1, h2, h3, h4, h5, h6⟩ := h c
    exact ⟨h0.trans (out_at m g c), h1.trans (dx_at m g c), h2.trans (dg_at m g c), h3.trans (dwg_at m g c),
      h4.trans (dwu_at m g c), h5.trans (dwd_at m g c), h6⟩
  · refine (θ_run _ _ _).mono (fun _ h c => ?_) (Cert.ReferenceIdeal.Layers.run m' g')
    obtain ⟨h0, h1, h2, h3, h4, h5, h6⟩ := h c
    obtain ⟨e0, e1, e2, e3, e4, e5⟩ := hagree c
    obtain ⟨r0, r1, r2, r3, r4, r5⟩ := real_of_pre _ _ _ _ _ _ (hpre c)
    rw [e0, e1, e2, e3, e4] at h0
    rw [e0, e1, e2, e3, e4, e5] at h1 h2 h3
    rw [e0, e1, e2, e4, e5] at h4
    rw [e0, e1, e2, e3, e5] at h5
    exact ⟨h0.trans hOut_eq, h1.trans (hDx_eq r0 r1 r2 r3 r4 r5), h2.trans (hDg_eq r0 r1 r2 r3 r4 r5),
      h3.trans (hDwg_eq r0 r1 r2 r3 r4 r5), h4.trans hDwu_eq, h5.trans hDwd_eq, h6⟩

end Cert.Ffn

end
-- ==== Proof.Half2Region0.lean ====
/- What the second half-step's forward call leaves in its five arrays, from the arrays it is entered with: the row with the
   mixers' output projection added, and from that row the formulas of Forms.lean. -/
module

public import proofs.«01_k».proof.Proof.Gen.Kernel2Ideal.Frame
public import proofs.«01_k».proof.Proof.Forms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Ffn

/-! ## The body's values at an index -/

/-- Row `r` of an array of 256 rows. -/
abbrev row256 (x : Vec Ideal S256x1024 .f32) (r : Fin 256) : Row := fun d => x (ix2 r d)
/-- Row `r` of a short array of 256 rows. -/
abbrev yrow256 (x : Vec Ideal S256x1024 .bf16) (r : Fin 256) : Row := fun d => x (ix2 r d)
/-- A one-row array as a row. -/
abbrev row1 (g : Vec Ideal S1x1024 .f32) : Row := fun d => g (ix2 0 d)
/-- A weight array by its two indices. -/
abbrev wt (w : Vec Ideal S2816x1024 .bf16) : Wt := fun f d => w (ix2 f d)
/-- A square weight by its two indices. -/
abbrev sq (w : Vec Ideal S1024x1024 .bf16) : SqWt := fun k d => w (ix2 k d)

section Body

variable (x : Vec Ideal S256x1024 .f32) (y : Vec Ideal S256x1024 .bf16) (wo : Vec Ideal S1024x1024 .bf16)
  (g : Vec Ideal S1x1024 .f32) (w w' w'' : Vec Ideal S2816x1024 .bf16) (r : Fin 256) (d : Fin 1024) (f : Fin 2816)

/-- Row `r` of the block, the projection added. -/
abbrev mixB : Row := mixRow (row256 x r) (yrow256 y r) (sq wo)

theorem k0_pay7_at : k0_pay7 (F := Ideal) x y wo (ix2 r d) = mixB x y wo r d := by
  pointwise [k0_pay7, mixRow]
theorem k0_pay8_at : k0_pay8 (F := Ideal) x y wo g (ix2 r d) = hid (row1 g) (mixB x y wo r) d := by
  pointwise [k0_pay8, hid, xhat, rstd]
  simp only [k0_pay7_at]
theorem k0_pay9_at : k0_pay9 (F := Ideal) x y wo g w (ix2 r f) = proj (hid (row1 g) (mixB x y wo r)) (wt w) f := by
  pointwise [k0_pay9, proj]
  simp only [k0_pay8_at]
theorem k0_pay10_at : k0_pay10 (F := Ideal) x y wo g w (ix2 r f) = proj (hid (row1 g) (mixB x y wo r)) (wt w) f := by
  pointwise [k0_pay10, proj]
  simp only [k0_pay8_at]
theorem k0_pay11_at : k0_pay11 (F := Ideal) x y wo g w (ix2 r f) = sg (proj (hid (row1 g) (mixB x y wo r)) (wt w) f) := by
  pointwise [k0_pay11, sg]
  simp only [k0_pay9_at]
theorem k0_pay1_at : k0_pay1 (F := Ideal) (k0_pay9 x y wo g w) (k0_pay11 x y wo g w) (ix2 r f)
    = sl (row1 g) (wt w) (mixB x y wo r) f := by
  pointwise [k0_pay1, sl, swish]
  simp only [k0_pay9_at, k0_pay11_at]
theorem k0_pay3_at : k0_pay3 (F := Ideal) (k0_pay9 x y wo g w) (k0_pay11 x y wo g w) (ix2 r f)
    = sl (row1 g) (wt w) (mixB x y wo r) f := by
  pointwise [k0_pay3]
  simp only [k0_pay1_at]
theorem k0_pay2_at : k0_pay2 (F := Ideal) (k0_pay9 x y wo g w) (k0_pay10 x y wo g w') (k0_pay11 x y wo g w) (ix2 r f)
    = dgf (row1 g) (wt w) (wt w') (mixB x y wo r) f := by
  pointwise [k0_pay2, dgf]
  simp only [k0_pay1_at, k0_pay10_at, k0_pay11_at, sl]
theorem k0_pay4_at : k0_pay4 (F := Ideal) (k0_pay9 x y wo g w) (k0_pay10 x y wo g w') (k0_pay11 x y wo g w) (ix2 r f)
    = act (row1 g) (wt w) (wt w') (mixB x y wo r) f := by
  pointwise [k0_pay4, act]
  simp only [k0_pay1_at, k0_pay10_at]
theorem k0_pay5_at : k0_pay5 (F := Ideal) (k0_pay9 x y wo g w) (k0_pay10 x y wo g w') (k0_pay11 x y wo g w) (ix2 f r)
    = act (row1 g) (wt w) (wt w') (mixB x y wo r) f := by
  pointwise [k0_pay5]
  simp only [k0_pay4_at]
theorem k0_pay6_at : k0_pay6 (F := Ideal) (k0_pay7 x y wo) (k0_pay9 x y wo g w) (k0_pay10 x y wo g w')
      (k0_pay11 x y wo g w) w'' (ix2 r d)
    = outRow (row1 g) (wt w) (wt w') (wt w'') (mixB x y wo r) d := by
  pointwise [k0_pay6, outRow]
  simp only [k0_pay4_at, k0_pay7_at]

end Body

/-! ## The arrays after the call -/

variable (V : (c : Dev nD) → (b : Ref sig .tc) → Buf (Elt Ideal) ((c : Thread nD τ).loc b)) (c : Dev nD)

/-- Row `t` of an array of 4096 rows. -/
abbrev rowT (x : Vec Ideal S4096x1024 .f32) (t : Fin 4096) : Row := fun d => x (ix2 t d)
/-- Row `t` of a short array of 4096 rows. -/
abbrev yrowT (x : Vec Ideal S4096x1024 .bf16) (t : Fin 4096) : Row := fun d => x (ix2 t d)
/-- Row `t` of the arrays the call is entered with, the projection added. -/
abbrev mixT (t : Fin 4096) : Row := mixRow (rowT (V c main_arg0) t) (yrowT (V c main_v0) t) (sq (V c main_v1))

/-- Where the blocks of the forward call's windows sit. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![0, t.val] :=
  (by decide +kernel : ∀ t : Fin grid0.N, _)

/-- Row `r` of point `t`'s block, as a row of the array. -/
abbrev at16 (t : ℕ) (ht : t < 16) (r : Fin 256) : Fin 4096 := ⟨t * 256 + r, by omega⟩

theorem blk0_1 (t : Fin cfg0.N) : iblk0 V c 1 t = V c main_arg3 := by blk_ext! [iblk0, idx0 t]
theorem blk0_2 (t : Fin cfg0.N) : iblk0 V c 2 t = V c main_v2 := by blk_ext! [iblk0, idx0 t]
theorem blk0_3 (t : Fin cfg0.N) : iblk0 V c 3 t = V c main_v3 := by blk_ext! [iblk0, idx0 t]
theorem blk0_4 (t : Fin cfg0.N) : iblk0 V c 4 t = V c main_v4 := by blk_ext! [iblk0, idx0 t]
theorem blk0_6 (t : Fin cfg0.N) : iblk0 V c 6 t = V c main_v1 := by blk_ext! [iblk0, idx0 t]
theorem blk0_0 (t : Fin cfg0.N) (r : Fin 256) (j : Fin 4096) (hj : (j : ℕ) = t.val * 256 + r) :
    row256 (iblk0 V c 0 t) r = rowT (V c main_arg0) j := by
  funext d
  show iblk0 V c 0 t (ix2 r d) = V c main_arg0 (ix2 j d)
  blk_ext [iblk0, idx0 t]
theorem blk0_5 (t : Fin cfg0.N) (r : Fin 256) (j : Fin 4096) (hj : (j : ℕ) = t.val * 256 + r) :
    yrow256 (iblk0 V c 5 t) r = yrowT (V c main_v0) j := by
  funext d
  show iblk0 V c 5 t (ix2 r d) = V c main_v0 (ix2 j d)
  blk_ext [iblk0, idx0 t]
theorem mix0 (t : Fin cfg0.N) (r : Fin 256) (j : Fin 4096) (hj : (j : ℕ) = t.val * 256 + r) :
    mixB (iblk0 V c 0 t) (iblk0 V c 5 t) (V c main_v1) r = mixT V c j := by
  unfold mixB mixT
  rw [blk0_0 V c t r j hj, blk0_5 V c t r j hj]

theorem final0_7 : (dat0 V c).arrAt 7 cfg0.N = fun i : S4096x1024.Idx => mixT V c (i 0) (i 1) := by
  refine (dat0 V c).arrAt_eq_of_covers 7 _ (by decide +kernel) fun t _ y => ?_
  blk_simp
  rw [after0_7]
  frame_out
  idx_vars y
  rw [k0_pay7_at, blk0_6]
  have hj : ((((cfg0.win 7).blk t).view.emb (ix2 y0 y1) 0 : Fin 4096) : ℕ) = t.val * 256 + y0 := by blk_simp [idx0 t]
  rw [mix0 V c t y0 _ hj]
  congr 1
  exact Fin.ext (by blk_simp [idx0 t])

theorem final0_8 : (dat0 V c).arrAt 8 cfg0.N = fun i : S4096x1024.Idx =>
    outRow (row1 (V c main_arg3)) (wt (V c main_v2)) (wt (V c main_v3)) (wt (V c main_v4)) (mixT V c (i 0)) (i 1) := by
  refine (dat0 V c).arrAt_eq_of_covers 8 _ (by decide +kernel) fun t _ y => ?_
  blk_simp
  rw [after0_8]
  frame_out
  unfold k0_pay12 k0_pay13 k0_pay14
  frame_out
  idx_vars y
  rw [k0_pay6_at, blk0_1, blk0_2, blk0_3, blk0_4, blk0_6]
  have hj : ((((cfg0.win 8).blk t).view.emb (ix2 y0 y1) 0 : Fin 4096) : ℕ) = t.val * 256 + y0 := by blk_simp [idx0 t]
  rw [mix0 V c t y0 _ hj]
  congr 1
  exact Fin.ext (by blk_simp [idx0 t])

theorem final0_9 : (dat0 V c).arrAt 9 cfg0.N = fun i : S4096x2816.Idx =>
    dgf (row1 (V c main_arg3)) (wt (V c main_v2)) (wt (V c main_v3)) (mixT V c (i 0)) (i 1) := by
  refine (dat0 V c).arrAt_eq_of_covers 9 _ (by decide +kernel) fun t _ y => ?_
  blk_simp
  rw [after0_9]
  frame_out
  unfold k0_pay12 k0_pay13 k0_pay14
  frame_out
  idx_vars y
  rw [k0_pay2_at, blk0_1, blk0_2, blk0_3, blk0_6]
  have hj : ((((cfg0.win 9).blk t).view.emb (ix2 y0 y1) 0 : Fin 4096) : ℕ) = t.val * 256 + y0 := by blk_simp [idx0 t]
  rw [mix0 V c t y0 _ hj]
  congr 1
  exact Fin.ext (by blk_simp [idx0 t])

theorem final0_10 : (dat0 V c).arrAt 10 cfg0.N = fun i : S4096x2816.Idx =>
    sl (row1 (V c main_arg3)) (wt (V c main_v2)) (mixT V c (i 0)) (i 1) := by
  refine (dat0 V c).arrAt_eq_of_covers 10 _ (by decide +kernel) fun t _ y => ?_
  blk_simp
  rw [after0_10]
  frame_out
  unfold k0_pay12 k0_pay14
  frame_out
  idx_vars y
  rw [k0_pay3_at, blk0_1, blk0_2, blk0_6]
  have hj : ((((cfg0.win 10).blk t).view.emb (ix2 y0 y1) 0 : Fin 4096) : ℕ) = t.val * 256 + y0 := by blk_simp [idx0 t]
  rw [mix0 V c t y0 _ hj]
  congr 1
  exact Fin.ext (by blk_simp [idx0 t])

theorem final0_11 : (dat0 V c).arrAt 11 cfg0.N = fun i : S2816x4096.Idx =>
    act (row1 (V c main_arg3)) (wt (V c main_v2)) (wt (V c main_v3)) (mixT V c (i 1)) (i 0) := by
  refine (dat0 V c).arrAt_eq_of_covers 11 _ (by decide +kernel) fun t _ y => ?_
  blk_simp
  rw [after0_11]
  frame_out
  unfold k0_pay12 k0_pay13 k0_pay14
  frame_out
  idx_vars y
  rw [k0_pay5_at, blk0_1, blk0_2, blk0_3, blk0_6]
  have hj : ((((cfg0.win 11).blk t).view.emb (ix2 y0 y1) 1 : Fin 4096) : ℕ) = t.val * 256 + y1 := by blk_simp [idx0 t]
  rw [mix0 V c t y1 _ hj]
  congr 1
  exact Fin.ext (by blk_simp [idx0 t])

end Cert.Kernel2Ideal.Value

end
-- ==== Proof.Half2Region1.lean ====
/- What the backward call leaves in its six arrays, from the arrays it is entered with: row by row the formulas of
   Forms.lean over the saved activations; the gain's gradient, accumulated from point to point, is the sum over all rows. -/
module

public import proofs.«01_k».proof.Proof.Gen.Kernel2Ideal.Frame
public import proofs.«01_k».proof.Proof.Forms
public import proofs.«01_k».proof.Proof.Half2Region0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Ffn

/-! ## The body's values at an index -/

/-- Row `r` of a hidden array of 256 rows. -/
abbrev hrow256 (x : Vec Ideal S256x2816 .bf16) (r : Fin 256) : HRow := fun f => x (ix2 r f)

theorem k1_pay3_at (x : Vec Ideal S256x1024 .f32) (r : Fin 256) :
    k1_pay3 (F := Ideal) x (ix2 r 0) = rstd (row256 x r) := by
  pointwise [k1_pay3, k1_pay2, rstd]

theorem k1_pay4_at (x : Vec Ideal S256x1024 .f32) (r : Fin 256) (d : Fin 1024) :
    k1_pay4 (F := Ideal) x (ix2 r d) = xhat (row256 x r) d := by
  pointwise [k1_pay4, k1_pay3, k1_pay2, xhat, rstd]

theorem k1_pay5_at (g : Vec Ideal S1x1024 .f32) (x : Vec Ideal S256x1024 .f32) (r : Fin 256) (d : Fin 1024) :
    k1_pay5 (F := Ideal) g x (ix2 r d) = hid (row1 g) (row256 x r) d := by
  pointwise [k1_pay5, hid]
  simp only [k1_pay4_at]

theorem k1_pay6_at (dy : Vec Ideal S256x1024 .f32) (r : Fin 256) (d : Fin 1024) :
    k1_pay6 (F := Ideal) dy (ix2 r d) = dacc (row256 dy r) d := by
  pointwise [k1_pay6, dacc]

theorem k1_pay7_at (dy : Vec Ideal S256x1024 .f32) (w : Vec Ideal S2816x1024 .bf16) (r : Fin 256) (f : Fin 2816) :
    k1_pay7 (F := Ideal) dy w (ix2 r f) = dact (wt w) (row256 dy r) f := by
  pointwise [k1_pay7, dact, proj]
  simp only [k1_pay6_at]

theorem k1_pay8_at (dy : Vec Ideal S256x1024 .f32) (w : Vec Ideal S2816x1024 .bf16) (a : Vec Ideal S256x2816 .bf16)
    (r : Fin 256) (f : Fin 2816) :
    k1_pay8 (F := Ideal) dy w a (ix2 r f) = dact (wt w) (row256 dy r) f * hrow256 a r f := by
  pointwise [k1_pay8]
  simp only [k1_pay7_at]

theorem k1_pay9_at (dy : Vec Ideal S256x1024 .f32) (w : Vec Ideal S2816x1024 .bf16) (a : Vec Ideal S256x2816 .bf16)
    (r : Fin 256) (f : Fin 2816) :
    k1_pay9 (F := Ideal) (k1_pay7 dy w) a (ix2 r f) = dact (wt w) (row256 dy r) f * hrow256 a r f := by
  pointwise [k1_pay9]
  simp only [k1_pay7_at]

theorem k1_pay10_at (dy : Vec Ideal S256x1024 .f32) (w : Vec Ideal S2816x1024 .bf16) (a : Vec Ideal S256x2816 .bf16)
    (r : Fin 256) (f : Fin 2816) :
    k1_pay10 (F := Ideal) (k1_pay8 dy w a) (ix2 f r) = dact (wt w) (row256 dy r) f * hrow256 a r f := by
  pointwise [k1_pay10]
  simp only [k1_pay8_at]

theorem k1_pay11_at (dy : Vec Ideal S256x1024 .f32) (w : Vec Ideal S2816x1024 .bf16) (a : Vec Ideal S256x2816 .bf16)
    (r : Fin 256) (f : Fin 2816) :
    k1_pay11 (F := Ideal) (k1_pay7 dy w) a (ix2 f r) = dact (wt w) (row256 dy r) f * hrow256 a r f := by
  pointwise [k1_pay11]
  simp only [k1_pay9_at]

/-- The gradient at the normalised row from the saved activations `a` (the gate's factor) and `b` (the activated gate). -/
def dhOf (wg wu wd : Wt) (a b : HRow) (dy : Row) : Row :=
  dhid wg wu (fun f => dact wd dy f * a f) (fun f => dact wd dy f * b f)

theorem k1_pay12_at (dy : Vec Ideal S256x1024 .f32) (wg wu wd : Vec Ideal S2816x1024 .bf16)
    (a b : Vec Ideal S256x2816 .bf16) (r : Fin 256) (d : Fin 1024) :
    k1_pay12 (F := Ideal) (k1_pay7 dy wd) (k1_pay8 dy wd a) b wg wu (ix2 r d)
      = dhOf (wt wg) (wt wu) (wt wd) (hrow256 a r) (hrow256 b r) (row256 dy r) d := by
  pointwise [k1_pay12, dhOf, dhid]
  simp only [k1_pay8_at, k1_pay9_at]

theorem k1_pay13_at (g : Vec Ideal S1x1024 .f32) (dy x : Vec Ideal S256x1024 .f32) (wg wu wd : Vec Ideal S2816x1024 .bf16)
    (a b : Vec Ideal S256x2816 .bf16) (r : Fin 256) (d : Fin 1024) :
    k1_pay13 (F := Ideal) g dy (k1_pay3 x) (k1_pay4 x) (k1_pay7 dy wd) (k1_pay8 dy wd a) b wg wu (ix2 r d)
      = dxRow (row1 g) (row256 x r) (row256 dy r)
          (dhOf (wt wg) (wt wu) (wt wd) (hrow256 a r) (hrow256 b r) (row256 dy r)) d := by
  pointwise [k1_pay13, dxRow]
  simp only [k1_pay12_at, k1_pay3_at, k1_pay4_at]

theorem k1_pay14_at (g0 : Vec Ideal S1x1024 .f32) (dy x : Vec Ideal S256x1024 .f32) (wg wu wd : Vec Ideal S2816x1024 .bf16)
    (a b : Vec Ideal S256x2816 .bf16) (d : Fin 1024) :
    k1_pay14 (F := Ideal) (k1_pay4 x) (k1_pay7 dy wd) (k1_pay8 dy wd a) b wg wu g0 (ix2 0 d)
      = g0 (ix2 0 d) + ∑ r : Fin 256, dhOf (wt wg) (wt wu) (wt wd) (hrow256 a r) (hrow256 b r) (row256 dy r) d
          * xhat (row256 x r) d := by
  pointwise [k1_pay14]
  simp only [k1_pay12_at, k1_pay4_at]

theorem k1_pay1_at (j : S1x1024.Idx) : k1_pay1 (F := Ideal) j = 0 := by pointwise [k1_pay1]

/-! ## The arrays after the call -/

variable (V : (c : Dev nD) → (b : Ref sig .tc) → Buf (Elt Ideal) ((c : Thread nD τ).loc b)) (c : Dev nD)

/-- Row `t` of a hidden array of 4096 rows. -/
abbrev hrowT (x : Vec Ideal S4096x2816 .bf16) (t : Fin 4096) : HRow := fun f => x (ix2 t f)

/-- Where the blocks of the backward call's windows sit. -/
theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![0, t.val] ∧ win1_10.index t = ![0, t.val]
    ∧ win1_11.index t = ![t.val, 0] ∧ win1_12.index t = ![t.val, 0] ∧ win1_13.index t = ![0, 0] :=
  (by decide +kernel : ∀ t : Fin grid1.N, _)

theorem blk1_2 (t : Fin cfg1.N) : iblk1 V c 2 t = V c main_arg3 := by blk_ext! [iblk1, idx1 t]
theorem blk1_5 (t : Fin cfg1.N) : iblk1 V c 5 t = V c main_v2 := by blk_ext! [iblk1, idx1 t]
theorem blk1_6 (t : Fin cfg1.N) : iblk1 V c 6 t = V c main_v3 := by blk_ext! [iblk1, idx1 t]
theorem blk1_7 (t : Fin cfg1.N) : iblk1 V c 7 t = V c main_v4 := by blk_ext! [iblk1, idx1 t]
theorem blk1_0 (t : Fin cfg1.N) (r : Fin 256) (j : Fin 4096) (hj : (j : ℕ) = t.val * 256 + r) :
    row256 (iblk1 V c 0 t) r = rowT (V c main_arg7) j := by
  funext d
  show iblk1 V c 0 t (ix2 r d) = V c main_arg7 (ix2 j d)
  blk_ext [iblk1, idx1 t]
theorem blk1_1 (t : Fin cfg1.N) (r : Fin 256) (j : Fin 4096) (hj : (j : ℕ) = t.val * 256 + r) :
    row256 (iblk1 V c 1 t) r = rowT (V c main_v5_0) j := by
  funext d
  show iblk1 V c 1 t (ix2 r d) = V c main_v5_0 (ix2 j d)
  blk_ext [iblk1, idx1 t]
theorem blk1_3 (t : Fin cfg1.N) (r : Fin 256) (j : Fin 4096) (hj : (j : ℕ) = t.val * 256 + r) :
    hrow256 (iblk1 V c 3 t) r = hrowT (V c main_v5_2) j := by
  funext d
  show iblk1 V c 3 t (ix2 r d) = V c main_v5_2 (ix2 j d)
  blk_ext [iblk1, idx1 t]
theorem blk1_4 (t : Fin cfg1.N) (r : Fin 256) (j : Fin 4096) (hj : (j : ℕ) = t.val * 256 + r) :
    hrow256 (iblk1 V c 4 t) r = hrowT (V c main_v5_3) j := by
  funext d
  show iblk1 V c 4 t (ix2 r d) = V c main_v5_3 (ix2 j d)
  blk_ext [iblk1, idx1 t]

/-- What a point leaves in the block of the input's gradient. -/
theorem outs1_8 (t : Fin cfg1.N) : (outsAt1 V c t.val t.isLt).1
    = k1_pay13 (iblk1 V c 2 t) (iblk1 V c 0 t) (k1_pay3 (iblk1 V c 1 t)) (k1_pay4 (iblk1 V c 1 t))
        (k1_pay7 (iblk1 V c 0 t) (iblk1 V c 7 t)) (k1_pay8 (iblk1 V c 0 t) (iblk1 V c 7 t) (iblk1 V c 3 t))
        (iblk1 V c 4 t) (iblk1 V c 5 t) (iblk1 V c 6 t) := by
  by_cases h : t.val % 16 = 0
  · rw [outsAt1_A V c t h]; frame_out
  · rw [outsAt1_B V c t h]; frame_out
theorem outs1_9 (t : Fin cfg1.N) : (outsAt1 V c t.val t.isLt).2.1
    = k1_pay10 (k1_pay8 (iblk1 V c 0 t) (iblk1 V c 7 t) (iblk1 V c 3 t)) := by
  by_cases h : t.val % 16 = 0
  · rw [outsAt1_A V c t h]; frame_out
  · rw [outsAt1_B V c t h]; frame_out
theorem outs1_10 (t : Fin cfg1.N) : (outsAt1 V c t.val t.isLt).2.2.1
    = k1_pay11 (k1_pay7 (iblk1 V c 0 t) (iblk1 V c 7 t)) (iblk1 V c 4 t) := by
  by_cases h : t.val % 16 = 0
  · rw [outsAt1_A V c t h]; frame_out
  · rw [outsAt1_B V c t h]; frame_out
theorem outs1_11 (t : Fin cfg1.N) : (outsAt1 V c t.val t.isLt).2.2.2.1
    = k1_pay5 (iblk1 V c 2 t) (iblk1 V c 1 t) := by
  by_cases h : t.val % 16 = 0
  · rw [outsAt1_A V c t h]; frame_out
  · rw [outsAt1_B V c t h]; frame_out
theorem outs1_12 (t : Fin cfg1.N) : (outsAt1 V c t.val t.isLt).2.2.2.2.1 = k1_pay6 (iblk1 V c 0 t) := by
  by_cases h : t.val % 16 = 0
  · rw [outsAt1_A V c t h]; frame_out
  · rw [outsAt1_B V c t h]; frame_out

/-- The gradient at the normalised row from the arrays the call is entered with. -/
abbrev dhT (t : Fin 4096) : Row := dhOf (wt (V c main_v2)) (wt (V c main_v3)) (wt (V c main_v4))
  (hrowT (V c main_v5_2) t) (hrowT (V c main_v5_3) t) (rowT (V c main_arg7) t)

theorem final1_8 : (dat1 V c).arrAt 8 cfg1.N = fun i : S4096x1024.Idx =>
    dxRow (row1 (V c main_arg3)) (rowT (V c main_v5_0) (i 0)) (rowT (V c main_arg7) (i 0)) (dhT V c (i 0)) (i 1) := by
  refine (dat1 V c).arrAt_eq_of_covers 8 _ (by decide +kernel) fun t _ y => ?_
  blk_simp
  rw [after1_8, outs1_8]
  idx_vars y
  rw [k1_pay13_at, blk1_2, blk1_5, blk1_6, blk1_7]
  have hj : ((((cfg1.win 8).blk t).view.emb (ix2 y0 y1) 0 : Fin 4096) : ℕ) = t.val * 256 + y0 := by blk_simp [idx1 t]
  rw [blk1_0 V c t y0 _ hj, blk1_1 V c t y0 _ hj, blk1_3 V c t y0 _ hj, blk1_4 V c t y0 _ hj]
  congr 1
  exact Fin.ext (by blk_simp [idx1 t])

theorem final1_9 : (dat1 V c).arrAt 9 cfg1.N = fun i : S2816x4096.Idx =>
    dact (wt (V c main_v4)) (rowT (V c main_arg7) (i 1)) (i 0) * hrowT (V c main_v5_2) (i 1) (i 0) := by
  refine (dat1 V c).arrAt_eq_of_covers 9 _ (by decide +kernel) fun t _ y => ?_
  blk_simp
  rw [after1_9, outs1_9]
  idx_vars y
  rw [k1_pay10_at, blk1_7]
  have hj : ((((cfg1.win 9).blk t).view.emb (ix2 y0 y1) 1 : Fin 4096) : ℕ) = t.val * 256 + y1 := by blk_simp [idx1 t]
  have hf : (((cfg1.win 9).blk t).view.emb (ix2 y0 y1) 0 : Fin 2816) = y0 := Fin.ext (by blk_simp [idx1 t])
  rw [blk1_0 V c t y1 _ hj, blk1_3 V c t y1 _ hj]
  exact congrArg (fun f : Fin 2816 => dact (wt (V c main_v4)) (rowT (V c main_arg7) _) f * hrowT (V c main_v5_2) _ f) hf.symm

theorem final1_10 : (dat1 V c).arrAt 10 cfg1.N = fun i : S2816x4096.Idx =>
    dact (wt (V c main_v4)) (rowT (V c main_arg7) (i 1)) (i 0) * hrowT (V c main_v5_3) (i 1) (i 0) := by
  refine (dat1 V c).arrAt_eq_of_covers 10 _ (by decide +kernel) fun t _ y => ?_
  blk_simp
  rw [after1_10, outs1_10]
  idx_vars y
  rw [k1_pay11_at, blk1_7]
  have hj : ((((cfg1.win 10).blk t).view.emb (ix2 y0 y1) 1 : Fin 4096) : ℕ) = t.val * 256 + y1 := by blk_simp [idx1 t]
  have hf : (((cfg1.win 10).blk t).view.emb (ix2 y0 y1) 0 : Fin 2816) = y0 := Fin.ext (by blk_simp [idx1 t])
  rw [blk1_0 V c t y1 _ hj, blk1_4 V c t y1 _ hj]
  exact congrArg (fun f : Fin 2816 => dact (wt (V c main_v4)) (rowT (V c main_arg7) _) f * hrowT (V c main_v5_3) _ f) hf.symm

theorem final1_11 : (dat1 V c).arrAt 11 cfg1.N = fun i : S4096x1024.Idx =>
    hid (row1 (V c main_arg3)) (rowT (V c main_v5_0) (i 0)) (i 1) := by
  refine (dat1 V c).arrAt_eq_of_covers 11 _ (by decide +kernel) fun t _ y => ?_
  blk_simp
  rw [after1_11, outs1_11]
  idx_vars y
  rw [k1_pay5_at, blk1_2]
  have hj : ((((cfg1.win 11).blk t).view.emb (ix2 y0 y1) 0 : Fin 4096) : ℕ) = t.val * 256 + y0 := by blk_simp [idx1 t]
  rw [blk1_1 V c t y0 _ hj]
  congr 1
  exact Fin.ext (by blk_simp [idx1 t])

theorem final1_12 : (dat1 V c).arrAt 12 cfg1.N = fun i : S4096x1024.Idx =>
    dacc (rowT (V c main_arg7) (i 0)) (i 1) := by
  refine (dat1 V c).arrAt_eq_of_covers 12 _ (by decide +kernel) fun t _ y => ?_
  blk_simp
  rw [after1_12, outs1_12]
  idx_vars y
  rw [k1_pay6_at]
  have hj : ((((cfg1.win 12).blk t).view.emb (ix2 y0 y1) 0 : Fin 4096) : ℕ) = t.val * 256 + y0 := by blk_simp [idx1 t]
  rw [blk1_0 V c t y0 _ hj]
  congr 1
  exact Fin.ext (by blk_simp [idx1 t])

/-- One row's term of the gain's gradient. -/
abbrev dgTerm (j : Fin 4096) (d : Fin 1024) : EReal := dhT V c j d * xhat (rowT (V c main_v5_0) j) d

/-- A row of a point's blocks gives that row's term. -/
theorem row13 (t : Fin cfg1.N) (r : Fin 256) (d : Fin 1024) (j : Fin 4096) (hj : (j : ℕ) = t.val * 256 + r) :
    dhOf (wt (V c main_v2)) (wt (V c main_v3)) (wt (V c main_v4)) (hrow256 (iblk1 V c 3 t) r) (hrow256 (iblk1 V c 4 t) r)
        (row256 (iblk1 V c 0 t) r) d * xhat (row256 (iblk1 V c 1 t) r) d = dgTerm V c j d := by
  rw [blk1_0 V c t r j hj, blk1_1 V c t r j hj, blk1_3 V c t r j hj, blk1_4 V c t r j hj]

/-- A point's share of the gain's gradient: the sum over the point's 256 rows. -/
def part13 (t : Fin cfg1.N) (j : S1x1024.Idx) : EReal :=
  ∑ r : Fin 256, dgTerm V c (at16 t.val (lt_of_lt_of_eq t.isLt N_1) r) (j 1)

theorem pay13_iblk (t : Fin cfg1.N) (g0 : Vec Ideal S1x1024 .f32) (j : S1x1024.Idx) :
    k1_pay14 (F := Ideal) (k1_pay4 (iblk1 V c 1 t)) (k1_pay7 (iblk1 V c 0 t) (iblk1 V c 7 t))
        (k1_pay8 (iblk1 V c 0 t) (iblk1 V c 7 t) (iblk1 V c 3 t)) (iblk1 V c 4 t) (iblk1 V c 5 t) (iblk1 V c 6 t) g0 j
      = g0 j + part13 V c t j := by
  idx_vars j
  obtain rfl : j0 = 0 := Subsingleton.elim _ _
  rw [k1_pay14_at, blk1_5, blk1_6, blk1_7]
  exact congrArg (fun e : EReal => g0 (ix2 0 j1) + e) (Finset.sum_congr rfl fun r _ => row13 V c t r j1 _ rfl)

theorem final1_13 : (dat1 V c).arrAt 13 cfg1.N = fun i : S1x1024.Idx => ∑ t : Fin 4096, dgTerm V c t (i 1) := by
  refine (dat1 V c).arrAt_eq_of_covers 13 _ (by decide +kernel) fun t hf y => ?_
  blk_simp
  rw [after1_13, Pipeline.eq_sum_fin_of_reset_step_apply_of_flush (fun n h => (outsAt1 V c n h).2.2.2.2.2) 16 (fun _ => 0)
    (part13 V c)
    (fun t h j => by rw [outsAt1_A V c t h]; frame_out; rw [pay13_iblk, k1_pay1_at])
    (fun t h j => by rw [outsAt1_B V c t h]; frame_out; rw [pay13_iblk])
    t ((flush1_13 t).mp hf) _, zero_add]
  have h15 := (flush1_13 t).mp hf
  have hN : t.val < 16 := lt_of_lt_of_eq t.isLt N_1
  idx_vars y
  have hd : (((cfg1.win 13).blk t).view.emb (ix2 y0 y1) 1 : Fin 1024) = y1 := Fin.ext (by blk_simp [idx1 t])
  refine Fin.sum_mul_add_congr fun s k hl => ?_
  exact congrArg₂ (dgTerm V c) (Fin.ext (show (16 * (t.val / 16) + s.val) * 256 + k.val = s.val * 256 + k.val by omega)) hd.symm

end Cert.Kernel2Ideal.Value

end
-- ==== Proof.Half2Region2.lean ====
/- What the weight-gradient call leaves in its three arrays: products of the transposed hidden arrays with the row
   arrays, over the arrays it is entered with. -/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-- The product of a [2816, 4096] array with a [4096, 1024] array. -/
abbrev mulT (a : Vec Ideal S2816x4096 .bf16) (b : Vec Ideal S4096x1024 .bf16) : Vec Ideal S2816x1024 .bf16 :=
  fun i => ∑ t : Fin 4096, (a (ix2 (i 0) t) : EReal) * b (ix2 t (i 1))

theorem k2_pay2_at (b : Vec Ideal S4096x1024 .bf16) (a : Vec Ideal S256x4096 .bf16) (r : Fin 256) (d : Fin 1024) :
    k2_pay2 (F := Ideal) b a (ix2 r d) = ∑ t : Fin 4096, (a (ix2 r t) : EReal) * b (ix2 t d) := by
  pointwise [k2_pay2, k2_pay1]

theorem k2_pay3_at (b : Vec Ideal S4096x1024 .bf16) (a : Vec Ideal S256x4096 .bf16) (r : Fin 256) (d : Fin 1024) :
    k2_pay3 (F := Ideal) b a (ix2 r d) = ∑ t : Fin 4096, (a (ix2 r t) : EReal) * b (ix2 t d) := by
  pointwise [k2_pay3, k2_pay1]

theorem k2_pay4_at (a : Vec Ideal S256x4096 .bf16) (b : Vec Ideal S4096x1024 .bf16) (r : Fin 256) (d : Fin 1024) :
    k2_pay4 (F := Ideal) a b (ix2 r d) = ∑ t : Fin 4096, (a (ix2 r t) : EReal) * b (ix2 t d) := by
  pointwise [k2_pay4]

variable (V : (c : Dev nD) → (b : Ref sig .tc) → Buf (Elt Ideal) ((c : Thread nD τ).loc b)) (c : Dev nD)

/-- Where the blocks of the weight-gradient call's windows sit. -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] ∧ win2_5.index t = ![t.val, 0] ∧ win2_6.index t = ![t.val, 0]
    ∧ win2_7.index t = ![t.val, 0] :=
  (by decide +kernel : ∀ t : Fin grid2.N, _)

theorem final2_5 : (dat2 V c).arrAt 5 cfg2.N = mulT (V c main_v6_1) (V c main_v6_3) := by
  refine (dat2 V c).arrAt_eq_of_covers 5 _ (by decide +kernel) fun p _ y => ?_
  blk_simp
  rw [after2_5]
  frame_out
  idx_vars y
  rw [k2_pay2_at]
  dsimp only [mulT]
  blk_point [iblk2, idx2 p]

theorem final2_6 : (dat2 V c).arrAt 6 cfg2.N = mulT (V c main_v6_2) (V c main_v6_3) := by
  refine (dat2 V c).arrAt_eq_of_covers 6 _ (by decide +kernel) fun p _ y => ?_
  blk_simp
  rw [after2_6]
  frame_out
  idx_vars y
  rw [k2_pay3_at]
  dsimp only [mulT]
  blk_point [iblk2, idx2 p]

theorem final2_7 : (dat2 V c).arrAt 7 cfg2.N = mulT (V c main_v5_4) (V c main_v6_4) := by
  refine (dat2 V c).arrAt_eq_of_covers 7 _ (by decide +kernel) fun p _ y => ?_
  blk_simp
  rw [after2_7]
  frame_out
  idx_vars y
  rw [k2_pay4_at]
  dsimp only [mulT]
  blk_point [iblk2, idx2 p]

end Cert.Kernel2Ideal.Value

end
-- ==== Proof.Half2Region3.lean ====
/- What the call for the gradient at the mixers' output leaves: the rows it is entered with times the transposed square
   weight. -/
module

public import proofs.«01_k».proof.Proof.Half2Region0
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Ffn

theorem k3_pay1_at (a : Vec Ideal S1024x1024 .f32) (w : Vec Ideal S1024x1024 .bf16) (r : Fin 1024) (k : Fin 1024) :
    k3_pay1 (F := Ideal) a w (ix2 r k) = ∑ d : Fin 1024, (a (ix2 r d) : EReal) * w (ix2 k d) := by
  pointwise [k3_pay1]

/-- The product of a [4096, 1024] array with a transposed square one. -/
abbrev mulSq (a : Vec Ideal S4096x1024 .f32) (w : Vec Ideal S1024x1024 .bf16) : Vec Ideal S4096x1024 .f32 :=
  fun i => ∑ d : Fin 1024, (a (ix2 (i 0) d) : EReal) * w (ix2 (i 1) d)

variable (V : (c : Dev nD) → (b : Ref sig .tc) → Buf (Elt Ideal) ((c : Thread nD τ).loc b)) (c : Dev nD)

/-- Where the blocks of the call's windows sit. -/
theorem idx3 : ∀ t : Fin cfg3.N, win3_0.index t = ![t.val, 0] ∧ win3_1.index t = ![0, 0] ∧ win3_2.index t = ![t.val, 0] :=
  (by decide +kernel : ∀ t : Fin grid3.N, _)

theorem final3_2 : (dat3 V c).arrAt 2 cfg3.N = mulSq (V c main_v6_0) (V c main_v1) := by
  refine (dat3 V c).arrAt_eq_of_covers 2 _ (by decide +kernel) fun p _ y => ?_
  blk_simp
  rw [after3_2]
  frame_out
  idx_vars y
  rw [k3_pay1_at]
  dsimp only [mulSq]
  blk_point [iblk3, idx3 p]

end Cert.Kernel2Ideal.Value

end
-- ==== Proof.Half2Run.lean ====
/- The kernel's run: every weakly fair execution terminates with the seven results at the arrays the four calls leave
   and the arguments as launched. The launch follows the frame's. -/
module

public import proofs.«01_k».proof.Proof.Gen.Kernel2Ideal.Frame

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the kernels' own scopes ends at the contents after the last call. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-! ## The results and arguments at the end -/

theorem W5_v5_1 (c : Dev nD) : W5 m ρ c (Proc.devRef .tc main_v5_1) = (dat0 (V1 m ρ) c).arrAt 8 cfg0.N :=
  (W5_of m ρ c main_v5_1 (by decide +kernel)).trans ((W4_of m ρ c main_v5_1 (by decide +kernel)).trans ((W3_of m ρ c main_v5_1 (by decide +kernel)).trans (W2_arr m ρ c 8)))
theorem W5_v6_0 (c : Dev nD) : W5 m ρ c (Proc.devRef .tc main_v6_0) = (dat1 (V2 m ρ) c).arrAt 8 cfg1.N :=
  (W5_of m ρ c main_v6_0 (by decide +kernel)).trans ((W4_of m ρ c main_v6_0 (by decide +kernel)).trans (W3_arr m ρ c 8))
theorem W5_v8 (c : Dev nD) : W5 m ρ c (Proc.devRef .tc main_v8) = (dat3 (V4 m ρ) c).arrAt 2 cfg3.N :=
  W5_arr m ρ c 2
theorem W5_v6_5 (c : Dev nD) : W5 m ρ c (Proc.devRef .tc main_v6_5) = (dat1 (V2 m ρ) c).arrAt 13 cfg1.N :=
  (W5_of m ρ c main_v6_5 (by decide +kernel)).trans ((W4_of m ρ c main_v6_5 (by decide +kernel)).trans (W3_arr m ρ c 13))
theorem W5_v7_0 (c : Dev nD) : W5 m ρ c (Proc.devRef .tc main_v7_0) = (dat2 (V3 m ρ) c).arrAt 5 cfg2.N :=
  (W5_of m ρ c main_v7_0 (by decide +kernel)).trans (W4_arr m ρ c 5)
theorem W5_v7_1 (c : Dev nD) : W5 m ρ c (Proc.devRef .tc main_v7_1) = (dat2 (V3 m ρ) c).arrAt 6 cfg2.N :=
  (W5_of m ρ c main_v7_1 (by decide +kernel)).trans (W4_arr m ρ c 6)
theorem W5_v7_2 (c : Dev nD) : W5 m ρ c (Proc.devRef .tc main_v7_2) = (dat2 (V3 m ρ) c).arrAt 7 cfg2.N :=
  (W5_of m ρ c main_v7_2 (by decide +kernel)).trans (W4_arr m ρ c 7)

/-- Every execution ends with the results at what the calls leave in their arrays and the arguments as launched. -/
theorem run : θ_run defs (onTc (τ := τ) (main (F := F))) ⟨m, fun _ => 0, ρ⟩ (fun r => ∀ c : Dev nD,
      r.2.mem ((c.tc : Thread nD τ).loc main_v5_1) = (dat0 (V1 m ρ) c).arrAt 8 cfg0.N
      ∧ r.2.mem ((c.tc : Thread nD τ).loc main_v6_0) = (dat1 (V2 m ρ) c).arrAt 8 cfg1.N
      ∧ r.2.mem ((c.tc : Thread nD τ).loc main_v8) = (dat3 (V4 m ρ) c).arrAt 2 cfg3.N
      ∧ r.2.mem ((c.tc : Thread nD τ).loc main_v6_5) = (dat1 (V2 m ρ) c).arrAt 13 cfg1.N
      ∧ r.2.mem ((c.tc : Thread nD τ).loc main_v7_0) = (dat2 (V3 m ρ) c).arrAt 5 cfg2.N
      ∧ r.2.mem ((c.tc : Thread nD τ).loc main_v7_1) = (dat2 (V3 m ρ) c).arrAt 6 cfg2.N
      ∧ r.2.mem ((c.tc : Thread nD τ).loc main_v7_2) = (dat2 (V3 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h.1 c _ (mem_uc main_v5_1 (by decide))).trans (W5_v5_1 m ρ c),
     (h.1 c _ (mem_uc main_v6_0 (by decide))).trans (W5_v6_0 m ρ c),
     (h.1 c _ (mem_uc main_v8 (by decide))).trans (W5_v8 m ρ c),
     (h.1 c _ (mem_uc main_v6_5 (by decide))).trans (W5_v6_5 m ρ c),
     (h.1 c _ (mem_uc main_v7_0 (by decide))).trans (W5_v7_0 m ρ c),
     (h.1 c _ (mem_uc main_v7_1 (by decide))).trans (W5_v7_1 m ρ c),
     (h.1 c _ (mem_uc main_v7_2 (by decide))).trans (W5_v7_2 m ρ c),
     (h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c),
     (h.1 c _ (mem_uc main_arg5 (by decide))).trans (W5_main_arg5 m ρ c),
     (h.1 c _ (mem_uc main_arg6 (by decide))).trans (W5_main_arg6 m ρ c),
     (h.1 c _ (mem_uc main_arg7 (by decide))).trans (W5_main_arg7 m ρ c)⟩) (run_all m ρ)

end Cert.Kernel2Ideal.Value

end
-- ==== Proof.Half2Entry.lean ====
/- The seven results of the second half-step's calls over the launched arguments: what each call is entered with is what the
   calls before it leave, so the four calls' arrays compose to the results of Forms.lean at the rows with the mixers' output
   projection added. -/
module

public import proofs.«01_k».proof.Proof.Half2Region1
public import proofs.«01_k».proof.Proof.Half2Region2
public import proofs.«01_k».proof.Proof.Half2Region3
public import proofs.«01_k».proof.Proof.Half2Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Ffn

variable (m : (ℓ : Loc nD τ sig) → Buf (Elt Ideal) ℓ) (ρ : Dev nD → PrngReg) (c : Dev nD)

/-! ## The launched arguments, by row and lane -/

/-- The rows of an array argument. -/
abbrev rowsA (x : Vec Ideal S4096x1024 .f32) : Rows := fun t d => x (ix2 t d)
/-- The gain. -/
abbrev gainA (g : Vec Ideal S1x1024 .f32) : Row := fun d => g (ix2 0 d)
/-- A weight argument. -/
abbrev wtA (w : Vec Ideal S2816x1024 .f32) : Wt := fun f d => w (ix2 f d)
/-- A square weight argument. -/
abbrev sqA (w : Vec Ideal S1024x1024 .f32) : SqWt := fun k d => w (ix2 k d)

/-- The half-step's input rows before the projection is added. -/
abbrev aX1 : Rows := rowsA (m ((c.tc : Thread nD τ).loc main_arg0))
/-- The mixers' rows. -/
abbrev aY : Rows := rowsA (m ((c.tc : Thread nD τ).loc main_arg1))
/-- The output projection's weight. -/
abbrev aWo : SqWt := sqA (m ((c.tc : Thread nD τ).loc main_arg2))
/-- The rows with the projection added. -/
abbrev aX : Rows := fun t => mixRow (aX1 m c t) (aY m c t) (aWo m c)
/-- The gain. -/
abbrev aG : Row := gainA (m ((c.tc : Thread nD τ).loc main_arg3))
/-- The gate's weight. -/
abbrev aWg : Wt := wtA (m ((c.tc : Thread nD τ).loc main_arg4))
/-- The second projection's weight. -/
abbrev aWu : Wt := wtA (m ((c.tc : Thread nD τ).loc main_arg5))
/-- The last projection's weight. -/
abbrev aWd : Wt := wtA (m ((c.tc : Thread nD τ).loc main_arg6))
/-- The result's gradient. -/
abbrev aDy : Rows := rowsA (m ((c.tc : Thread nD τ).loc main_arg7))

/-! ## The forward call's entry: the arguments, some in the short format (over the reals the same numbers) -/

theorem V1_v0 (t : Fin 4096) : yrowT (V1 m ρ c main_v0) t = aY m c t := by
  show yrowT (StableHlo.after hostOps0 (W0 m ρ c) (Proc.devRef .tc main_v0)) t = _
  after_results
  rfl
theorem V1_v1 : sq (V1 m ρ c main_v1) = aWo m c := by
  show sq (StableHlo.after hostOps0 (W0 m ρ c) (Proc.devRef .tc main_v1)) = _
  after_results
  rfl
theorem V1_v2 : wt (V1 m ρ c main_v2) = aWg m c := by
  show wt (StableHlo.after hostOps0 (W0 m ρ c) (Proc.devRef .tc main_v2)) = _
  after_results
  rfl
theorem V1_v3 : wt (V1 m ρ c main_v3) = aWu m c := by
  show wt (StableHlo.after hostOps0 (W0 m ρ c) (Proc.devRef .tc main_v3)) = _
  after_results
  rfl
theorem V1_v4 : wt (V1 m ρ c main_v4) = aWd m c := by
  show wt (StableHlo.after hostOps0 (W0 m ρ c) (Proc.devRef .tc main_v4)) = _
  after_results
  rfl
theorem V1_arg0 : V1 m ρ c main_arg0 = m ((c.tc : Thread nD τ).loc main_arg0) := W1_args m ρ c main_arg0 (by decide)
theorem V1_arg3 : V1 m ρ c main_arg3 = m ((c.tc : Thread nD τ).loc main_arg3) := W1_args m ρ c main_arg3 (by decide)
theorem mixT_eq (t : Fin 4096) : mixT (V1 m ρ) c t = aX m c t := by
  unfold mixT
  rw [V1_v0, V1_v1, V1_arg0]

/-! ## The backward call's entry -/

theorem V2_v2 : wt (V2 m ρ c main_v2) = aWg m c :=
  (congrArg wt (W2_of m ρ c main_v2 (by decide +kernel))).trans (V1_v2 m ρ c)
theorem V2_v3 : wt (V2 m ρ c main_v3) = aWu m c :=
  (congrArg wt (W2_of m ρ c main_v3 (by decide +kernel))).trans (V1_v3 m ρ c)
theorem V2_v4 : wt (V2 m ρ c main_v4) = aWd m c :=
  (congrArg wt (W2_of m ρ c main_v4 (by decide +kernel))).trans (V1_v4 m ρ c)
theorem V2_arg3 : V2 m ρ c main_arg3 = m ((c.tc : Thread nD τ).loc main_arg3) := W2_args m ρ c main_arg3 (by decide)
theorem V2_arg7 : V2 m ρ c main_arg7 = m ((c.tc : Thread nD τ).loc main_arg7) := W2_args m ρ c main_arg7 (by decide)
/-- The rows with the projection added. -/
theorem V2_v5_0 : V2 m ρ c main_v5_0 = fun i : S4096x1024.Idx => aX m c (i 0) (i 1) :=
  (W2_arr m ρ c 7).trans (by rw [final0_7]; funext i; exact congrFun (mixT_eq m ρ c (i 0)) (i 1))
/-- The saved gate factor. -/
theorem V2_v5_2 : V2 m ρ c main_v5_2 = fun i : S4096x2816.Idx => dgf (aG m c) (aWg m c) (aWu m c) (aX m c (i 0)) (i 1) :=
  (W2_arr m ρ c 9).trans (by rw [final0_9, V1_v2, V1_v3, V1_arg3]; funext i; exact congrArg (fun e => dgf _ _ _ e (i 1)) (mixT_eq m ρ c (i 0)))
/-- The saved activated gate. -/
theorem V2_v5_3 : V2 m ρ c main_v5_3 = fun i : S4096x2816.Idx => sl (aG m c) (aWg m c) (aX m c (i 0)) (i 1) :=
  (W2_arr m ρ c 10).trans (by rw [final0_10, V1_v2, V1_arg3]; funext i; exact congrArg (fun e => sl _ _ e (i 1)) (mixT_eq m ρ c (i 0)))

theorem dhT_eq (t : Fin 4096) :
    dhT (V2 m ρ) c t = dh (aG m c) (aWg m c) (aWu m c) (aWd m c) (aX m c t) (aDy m c t) := by
  unfold dhT
  rw [V2_v2, V2_v3, V2_v4, V2_v5_2, V2_v5_3, V2_arg7]
  rfl

/-! ## The weight gradients' entry -/

/-- The saved activation, transposed. -/
theorem V3_v5_4 : V3 m ρ c main_v5_4
    = fun i : S2816x4096.Idx => act (aG m c) (aWg m c) (aWu m c) (aX m c (i 1)) (i 0) :=
  (W3_of m ρ c main_v5_4 (by decide +kernel)).trans
    ((W2_arr m ρ c 11).trans (by rw [final0_11, V1_v2, V1_v3, V1_arg3]; funext i; exact congrArg (fun e => act _ _ _ e (i 0)) (mixT_eq m ρ c (i 1))))
/-- The gate's gradient, transposed. -/
theorem V3_v6_1 : V3 m ρ c main_v6_1
    = fun i : S2816x4096.Idx => dgate (aG m c) (aWg m c) (aWu m c) (aWd m c) (aX m c (i 1)) (aDy m c (i 1)) (i 0) :=
  (W3_arr m ρ c 9).trans (by rw [final1_9, V2_v4, V2_v5_2, V2_arg7]; rfl)
/-- The second projection's gradient, transposed. -/
theorem V3_v6_2 : V3 m ρ c main_v6_2
    = fun i : S2816x4096.Idx => dup (aG m c) (aWg m c) (aWd m c) (aX m c (i 1)) (aDy m c (i 1)) (i 0) :=
  (W3_arr m ρ c 10).trans (by rw [final1_10, V2_v4, V2_v5_3, V2_arg7]; rfl)
/-- The normalised rows. -/
theorem V3_v6_3 : V3 m ρ c main_v6_3 = fun i : S4096x1024.Idx => hid (aG m c) (aX m c (i 0)) (i 1) :=
  (W3_arr m ρ c 11).trans (by rw [final1_11, V2_v5_0, V2_arg3]; rfl)
/-- The branch's gradient. -/
theorem V3_v6_4 : V3 m ρ c main_v6_4 = fun i : S4096x1024.Idx => dacc (aDy m c (i 0)) (i 1) :=
  (W3_arr m ρ c 12).trans (by rw [final1_12, V2_arg7])

/-! ## The seven results -/

theorem out_at : (dat0 (V1 m ρ) c).arrAt 8 cfg0.N
    = fun i : S4096x1024.Idx => rOut (aX m c) (aG m c) (aWg m c) (aWu m c) (aWd m c) (i 0) (i 1) := by
  rw [final0_8, V1_v2, V1_v3, V1_v4, V1_arg3]
  funext i
  exact congrArg (fun e => outRow _ _ _ _ e (i 1)) (mixT_eq m ρ c (i 0))
theorem dx_at : (dat1 (V2 m ρ) c).arrAt 8 cfg1.N
    = fun i : S4096x1024.Idx => rDx (aX m c) (aG m c) (aWg m c) (aWu m c) (aWd m c) (aDy m c) (i 0) (i 1) := by
  rw [final1_8, V2_v5_0, V2_arg3, V2_arg7]
  funext i
  exact congrArg (fun e => dxRow (aG m c) (aX m c (i 0)) (aDy m c (i 0)) e (i 1)) (dhT_eq m ρ c (i 0))
theorem dg_at : (dat1 (V2 m ρ) c).arrAt 13 cfg1.N
    = fun i : S1x1024.Idx => rDg (aX m c) (aG m c) (aWg m c) (aWu m c) (aWd m c) (aDy m c) (i 1) := by
  rw [final1_13]
  unfold dgTerm
  simp only [dhT_eq]
  rw [V2_v5_0]
  rfl
theorem dwg_at : (dat2 (V3 m ρ) c).arrAt 5 cfg2.N
    = fun i : S2816x1024.Idx => rDwg (aX m c) (aG m c) (aWg m c) (aWu m c) (aWd m c) (aDy m c) (i 0) (i 1) := by
  rw [final2_5, V3_v6_1, V3_v6_3]
  rfl
theorem dwu_at : (dat2 (V3 m ρ) c).arrAt 6 cfg2.N
    = fun i : S2816x1024.Idx => rDwu (aX m c) (aG m c) (aWg m c) (aWd m c) (aDy m c) (i 0) (i 1) := by
  rw [final2_6, V3_v6_2, V3_v6_3]
  rfl
theorem dwd_at : (dat2 (V3 m ρ) c).arrAt 7 cfg2.N
    = fun i : S2816x1024.Idx => rDwd (aX m c) (aG m c) (aWg m c) (aWu m c) (aDy m c) (i 0) (i 1) := by
  rw [final2_7, V3_v5_4, V3_v6_4]
  rfl

/-! ## The last call's entry -/

/-- The gradient at the rows with the projection added. -/
theorem V4_v6_0 : V4 m ρ c main_v6_0
    = fun i : S4096x1024.Idx => rDx (aX m c) (aG m c) (aWg m c) (aWu m c) (aWd m c) (aDy m c) (i 0) (i 1) :=
  (W4_of m ρ c main_v6_0 (by decide +kernel)).trans ((W3_arr m ρ c 8).trans (dx_at m ρ c))
theorem V4_v1 : sq (V4 m ρ c main_v1) = aWo m c :=
  (congrArg sq (W4_of m ρ c main_v1 (by decide +kernel))).trans
    ((congrArg sq (W3_of m ρ c main_v1 (by decide +kernel))).trans
      ((congrArg sq (W2_of m ρ c main_v1 (by decide +kernel))).trans (V1_v1 m ρ c)))
/-- The gradient at the mixers' output. -/
theorem dy_at : (dat3 (V4 m ρ) c).arrAt 2 cfg3.N
    = fun i : S4096x1024.Idx =>
      ∑ d, rDx (aX m c) (aG m c) (aWg m c) (aWu m c) (aWd m c) (aDy m c) (i 0) d * aWo m c (i 1) d := by
  rw [final3_2, V4_v6_0]
  funext i
  exact Finset.sum_congr rfl fun d _ => congrArg (_ * ·) (congrFun (congrFun (V4_v1 m ρ c) (i 1)) d)

end Cert.Kernel2Ideal.Value

end
-- ==== Proof.Half2Reference.lean ====
/- The second half-step's reference: its rows with the mixers' output projection added, and its results as the arrays of
   Reference.lean at these rows. -/
module

public import proofs.«01_k».proof.Proof.Gen.Reference2Ideal.Run
public import proofs.«01_k».proof.Proof.Reference

@[expose] public section

set_option maxRecDepth 16384

noncomputable section

open Idealize.ShloMosaic Idealize.ShloMosaic.TcCoe Idealize.SL.Sem

namespace Cert.Reference2Ideal.Layers

open Cert.Reference2Ideal Cert.Reference2Ideal.Gen Cert.Ffn
open Cert.ReferenceIdeal.Layers hiding run

/-! ## The arrays -/

/-- The rows with the projection added. -/
def hMix (X1 Y : FVec Ideal S4096x1024 .f32) (Wo : FVec Ideal S1024x1024 .f32) : FVec Ideal S4096x1024 .f32 :=
  addf X1 (Host.dotGeneral dot_S4096x1024_S1024x1024_S4096x1024_1_0_0_1_n_n none Y Wo)
/-- The gradient of these rows. -/
def hDxc (X : FVec Ideal S4096x1024 .f32) (G : FVec Ideal S1x1024 .f32) (Wg Wu Wd : FVec Ideal S2816x1024 .f32) (DY : FVec Ideal S4096x1024 .f32) : FVec Ideal S4096x1024 .f32 :=
  addf (addf (addf (shapeCast _ DY shapeCasts_S4096x1024_S4096x1024) (mulf (hDhg X G Wg Wu Wd DY) (hRsB X))) (mulf X (hT X G Wg Wu Wd DY))) (mulf (hT X G Wg Wu Wd DY) X)
/-- The gradient of the mixers' rows. -/
def hDy (X : FVec Ideal S4096x1024 .f32) (G : FVec Ideal S1x1024 .f32) (Wg Wu Wd : FVec Ideal S2816x1024 .f32) (DY : FVec Ideal S4096x1024 .f32) (Wo : FVec Ideal S1024x1024 .f32) : FVec Ideal S4096x1024 .f32 :=
  Host.dotGeneral dot_S4096x1024_S1024x1024_S4096x1024_1_1_0_0_n_n none (hDxc X G Wg Wu Wd DY) Wo

/-! ## The arrays at an index -/

/-- A square weight by its two indices. -/
abbrev sqR (W : FVec Ideal S1024x1024 .f32) : SqWt := fun k d => W (ix2 k d)

variable (X1 Y X DY : FVec Ideal S4096x1024 .f32) (G : FVec Ideal S1x1024 .f32) (Wg Wu Wd : FVec Ideal S2816x1024 .f32)
  (Wo : FVec Ideal S1024x1024 .f32) (t : Fin 4096) (d k : Fin 1024)

theorem hMix_at : hMix X1 Y Wo (ix2 t d) = mixRow (rowR X1 t) (rowR Y t) (sqR Wo) d := by
  pointwise [hMix, mixRow]
theorem rowR_hMix : rowR (hMix X1 Y Wo) = fun t => mixRow (rowR X1 t) (rowR Y t) (sqR Wo) := by
  funext t d
  exact hMix_at X1 Y Wo t d
theorem hDxc_at : hDxc X G Wg Wu Wd DY (ix2 t d)
    = Ref.rDx (rowR X) (rowG G) (wtR Wg) (wtR Wu) (wtR Wd) (rowR DY) t d := by
  pointwise [hDxc, Ref.rDx, Ref.dxRow]
  simp only [hDhg_at, hRsB_at, hT_at]
theorem hDy_at : hDy X G Wg Wu Wd DY Wo (ix2 t k)
    = ∑ d, Ref.rDx (rowR X) (rowG G) (wtR Wg) (wtR Wu) (wtR Wd) (rowR DY) t d * sqR Wo k d := by
  pointwise [hDy]
  simp only [hDxc_at]

/-! ## The run -/

variable (m : (ℓ : Loc nD τ sig) → Buf (Elt Ideal) ℓ) (ρ : Dev nD → PrngReg)

/-- Every execution of the reference ends with the named arrays in its results, the arguments unchanged. -/
theorem run : θ_run defs (onTc (τ := τ) (main (F := Ideal))) ⟨m, fun _ => 0, ρ⟩ (fun r => ∀ c : Dev nD,
      r.2.mem ((c.tc : Thread nD τ).loc main_v26) = hOut (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v65) = hDxc (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v68) = hDy (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2))
      ∧ r.2.mem ((c.tc : Thread nD τ).loc main_v48) = hDg (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v69) = hDwg (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v70) = hDwu (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_v71) = hDwd (hMix (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => by
    obtain ⟨h0, h1, h2, h3, h4, h5, h6, h7⟩ := h c
    exact ⟨h0.trans rfl, h1.trans rfl, h2.trans rfl, h3.trans rfl, h4.trans rfl, h5.trans rfl, h6.trans rfl, h7⟩)
    (Cert.Reference2Ideal.Value.run m ρ)

end Cert.Reference2Ideal.Layers

end
-- ==== Proof.Half2Algebraic.lean ====
/- The value claim of the second half-step: over the reals, from arguments whose entries are real numbers, the kernel's
   seven results are the reference's. Both runs end at the formulas of Forms.lean over the rows with the mixers' output
   projection added. -/
module

public import proofs.«01_k».proof.Defs
public import proofs.«01_k».proof.Proof.Gen.Kernel2
public import proofs.«01_k».proof.Proof.Gen.Pre_finite2
public import proofs.«01_k».proof.Proof.Half2Entry
public import proofs.«01_k».proof.Proof.Half2Reference
public import proofs.«01_k».proof.Proof.Algebraic

@[expose] public section

set_option maxRecDepth 16384

noncomputable section

open Idealize.ShloMosaic Idealize.ShloMosaic.TcCoe Idealize.SL.Sem

namespace Cert.Half2

open Cert.Ffn Cert.Kernel2Ideal.Value Cert.Reference2Ideal.Layers
open Cert.ReferenceIdeal.Layers hiding run

/-! ## The precondition -/

open Cert.Pre_finite2 Cert.Pre_finite2.Facts in
/-- The predicate reads: every entry of every argument is a real number. -/
theorem real_of_pre2 [Cert.Pre_finite2.Facts] (x y : FVec Ideal S4096x1024 .f32) (wo : FVec Ideal S1024x1024 .f32)
    (g : FVec Ideal S1x1024 .f32) (wg wu wd : FVec Ideal S2816x1024 .f32) (dy : FVec Ideal S4096x1024 .f32)
    (h : Cert.Pre_finite2.fn (F := Ideal) x y wo g wg wu wd dy = fun _ => 1#1) :
    (∀ i, IsReal (x i)) ∧ (∀ i, IsReal (y i)) ∧ (∀ i, IsReal (wo i)) ∧ (∀ i, IsReal (g i)) ∧ (∀ i, IsReal (wg i))
      ∧ (∀ i, IsReal (wu i)) ∧ (∀ i, IsReal (wd i)) ∧ ∀ i, IsReal (dy i) := by
  have e := congrFun h (fun a => a.elim0)
  unfold Cert.Pre_finite2.fn Cert.Pre_finite2.fn_part1 Cert.Pre_finite2.fn_part2 at e
  simp only [andi_apply] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_cmp (Host.reduce_andi_all _ _ _ _ _ e0 i), fun i => real_of_cmp (Host.reduce_andi_all _ _ _ _ _ e1 i),
    fun i => real_of_cmp (Host.reduce_andi_all _ _ _ _ _ e2 i), fun i => real_of_cmp (Host.reduce_andi_all _ _ _ _ _ e3 i),
    fun i => real_of_cmp (Host.reduce_andi_all _ _ _ _ _ e4 i), fun i => real_of_cmp (Host.reduce_andi_all _ _ _ _ _ e5 i),
    fun i => real_of_cmp (Host.reduce_andi_all _ _ _ _ _ e6 i), fun i => real_of_cmp (Host.reduce_andi_all _ _ _ _ _ e7 i)⟩

/-! ## The reference's arrays are the kernel's formulas -/

section Arrays

open Cert.Reference2Ideal

variable {X1 Y X DY : FVec Ideal S4096x1024 .f32} {Wo : FVec Ideal S1024x1024 .f32} {G : FVec Ideal S1x1024 .f32}
  {Wg Wu Wd : FVec Ideal S2816x1024 .f32}

/-- The rows with the projection added are rows of real numbers. -/
theorem real_hMix (h1 : ∀ i, IsReal (X1 i)) (hY : ∀ i, IsReal (Y i)) (hWo : ∀ i, IsReal (Wo i)) (i : S4096x1024.Idx) :
    IsReal (hMix X1 Y Wo i) := by
  idx_vars i
  rw [hMix_at]
  exact (h1 _).add (IsReal.sum fun k => (hY _).mul (hWo _))

variable (hX : ∀ i, IsReal (X i)) (hG : ∀ i, IsReal (G i)) (hWg : ∀ i, IsReal (Wg i)) (hWu : ∀ i, IsReal (Wu i))
  (hWd : ∀ i, IsReal (Wd i)) (hDY : ∀ i, IsReal (DY i))

include hX hG hWg hWu hWd hDY in
theorem hDxc_eq : hDxc X G Wg Wu Wd DY
    = fun i : S4096x1024.Idx => rDx (rowR X) (rowG G) (wtR Wg) (wtR Wu) (wtR Wd) (rowR DY) (i 0) (i 1) := by
  funext i
  idx_vars i
  exact (hDxc_at X DY G Wg Wu Wd i0 i1).trans (rDx_eq (fun _ _ => hX _) (fun _ => hG _) (fun _ _ => hDY _)
    (fun _ _ => hWg _) (fun _ _ => hWu _) (fun _ _ => hWd _) i0 i1)
include hX hG hWg hWu hWd hDY in
theorem hDy_eq : hDy X G Wg Wu Wd DY Wo = fun i : S4096x1024.Idx =>
    ∑ d, rDx (rowR X) (rowG G) (wtR Wg) (wtR Wu) (wtR Wd) (rowR DY) (i 0) d * sqR Wo (i 1) d := by
  funext i
  idx_vars i
  refine (hDy_at X DY G Wg Wu Wd Wo i0 i1).trans (Finset.sum_congr rfl fun d _ => ?_)
  exact congrArg (· * sqR Wo i1 d) (rDx_eq (fun _ _ => hX _) (fun _ => hG _) (fun _ _ => hDY _)
    (fun _ _ => hWg _) (fun _ _ => hWu _) (fun _ _ => hWd _) i0 d)

/-- The rows with the projection added, by row and lane. -/
abbrev mixR (X1 Y : FVec Ideal S4096x1024 .f32) (Wo : FVec Ideal S1024x1024 .f32) : Rows :=
  fun t => mixRow (rowR X1 t) (rowR Y t) (sqR Wo)
/-- The gradient at the mixers' rows, from the gradient at the rows the projection is added to. -/
def mixGrad (D : Rows) (w : SqWt) : Rows := fun t k => ∑ d, D t d * w k d

/-- The reference's seven results over equal arguments, as formulas. -/
theorem results {a0 a1 b0 b1 a7 b7 : FVec Ideal S4096x1024 .f32} {a2 b2 : FVec Ideal S1024x1024 .f32}
    {a3 b3 : FVec Ideal S1x1024 .f32} {a4 a5 a6 b4 b5 b6 : FVec Ideal S2816x1024 .f32}
    (e0 : a0 = b0) (e1 : a1 = b1) (e2 : a2 = b2) (e3 : a3 = b3) (e4 : a4 = b4) (e5 : a5 = b5) (e6 : a6 = b6) (e7 : a7 = b7)
    (r0 : ∀ i, IsReal (b0 i)) (r1 : ∀ i, IsReal (b1 i)) (r2 : ∀ i, IsReal (b2 i)) (r3 : ∀ i, IsReal (b3 i))
    (r4 : ∀ i, IsReal (b4 i)) (r5 : ∀ i, IsReal (b5 i)) (r6 : ∀ i, IsReal (b6 i)) (r7 : ∀ i, IsReal (b7 i)) :
    (hOut (hMix a0 a1 a2) a3 a4 a5 a6 = fun i : S4096x1024.Idx => rOut (mixR b0 b1 b2) (rowG b3) (wtR b4) (wtR b5) (wtR b6) (i 0) (i 1))
    ∧ (hDxc (hMix a0 a1 a2) a3 a4 a5 a6 a7 = fun i : S4096x1024.Idx => rDx (mixR b0 b1 b2) (rowG b3) (wtR b4) (wtR b5) (wtR b6) (rowR b7) (i 0) (i 1))
    ∧ (hDy (hMix a0 a1 a2) a3 a4 a5 a6 a7 a2 = fun i : S4096x1024.Idx => mixGrad (rDx (mixR b0 b1 b2) (rowG b3) (wtR b4) (wtR b5) (wtR b6) (rowR b7)) (sqR b2) (i 0) (i 1))
    ∧ (hDg (hMix a0 a1 a2) a3 a4 a5 a6 a7 = fun i : S1x1024.Idx => rDg (mixR b0 b1 b2) (rowG b3) (wtR b4) (wtR b5) (wtR b6) (rowR b7) (i 1))
    ∧ (hDwg (hMix a0 a1 a2) a3 a4 a5 a6 a7 = fun i : S2816x1024.Idx => rDwg (mixR b0 b1 b2) (rowG b3) (wtR b4) (wtR b5) (wtR b6) (rowR b7) (i 0) (i 1))
    ∧ (hDwu (hMix a0 a1 a2) a3 a4 a6 a7 = fun i : S2816x1024.Idx => rDwu (mixR b0 b1 b2) (rowG b3) (wtR b4) (wtR b6) (rowR b7) (i 0) (i 1))
    ∧ (hDwd (hMix a0 a1 a2) a3 a4 a5 a7 = fun i : S2816x1024.Idx => rDwd (mixR b0 b1 b2) (rowG b3) (wtR b4) (wtR b5) (rowR b7) (i 0) (i 1)) := by
  subst e0 e1 e2 e3 e4 e5 e6 e7
  have rX := real_hMix r0 r1 r2
  have h0 := hOut_eq (X := hMix a0 a1 a2) (G := a3) (Wg := a4) (Wu := a5) (Wd := a6)
  have h1 := hDxc_eq rX r3 r4 r5 r6 r7
  have h2 := hDy_eq (Wo := a2) rX r3 r4 r5 r6 r7
  have h3 := hDg_eq rX r3 r4 r5 r6 r7
  have h4 := hDwg_eq rX r3 r4 r5 r6 r7
  have h5 := hDwu_eq (X := hMix a0 a1 a2) (G := a3) (Wg := a4) (Wd := a6) (DY := a7)
  have h6 := hDwd_eq (X := hMix a0 a1 a2) (G := a3) (Wg := a4) (Wu := a5) (DY := a7)
  rw [rowR_hMix] at h0 h1 h2 h3 h4 h5 h6
  exact ⟨h0, h1, h2, h3, h4, h5, h6⟩

end Arrays

/-! ## The claim -/

theorem algebraic : Cert.algebraic_Kernel2Ideal_Reference2Ideal_pre_finite2 := by
  intro m g m' g' hpre hagree
  refine ⟨fun c i => rOut (aX m c) (aG m c) (aWg m c) (aWu m c) (aWd m c) (i 0) (i 1),
    fun c i => rDx (aX m c) (aG m c) (aWg m c) (aWu m c) (aWd m c) (aDy m c) (i 0) (i 1),
    fun c i => mixGrad (rDx (aX m c) (aG m c) (aWg m c) (aWu m c) (aWd m c) (aDy m c)) (aWo m c) (i 0) (i 1),
    fun c i => rDg (aX m c) (aG m c) (aWg m c) (aWu m c) (aWd m c) (aDy m c) (i 1),
    fun c i => rDwg (aX m c) (aG m c) (aWg m c) (aWu m c) (aWd m c) (aDy m c) (i 0) (i 1),
    fun c i => rDwu (aX m c) (aG m c) (aWg m c) (aWd m c) (aDy m c) (i 0) (i 1),
    fun c i => rDwd (aX m c) (aG m c) (aWg m c) (aWu m c) (aDy m c) (i 0) (i 1), ?_, ?_⟩
  · refine (θ_run _ _ _).mono (fun _ h c => ?_) (Cert.Kernel2Ideal.Value.run m g)
    obtain ⟨h0, h1, h2, h3, h4, h5, h6, h7⟩ := h c
    exact ⟨h0.trans (out_at m g c), h1.trans (dx_at m g c), h2.trans (dy_at m g c), h3.trans (dg_at m g c),
      h4.trans (dwg_at m g c), h5.trans (dwu_at m g c), h6.trans (dwd_at m g c), h7⟩
  · refine (θ_run _ _ _).mono (fun _ h c => ?_) (Cert.Reference2Ideal.Layers.run m' g')
    obtain ⟨h0, h1, h2, h3, h4, h5, h6, h7⟩ := h c
    obtain ⟨e0, e1, e2, e3, e4, e5, e6, e7⟩ := hagree c
    obtain ⟨r0, r1, r2, r3, r4, r5, r6, r7⟩ := real_of_pre2 _ _ _ _ _ _ _ _ (hpre c)
    obtain ⟨k0, k1, k2, k3, k4, k5, k6⟩ := results e0 e1 e2 e3 e4 e5 e6 e7 r0 r1 r2 r3 r4 r5 r6 r7
    exact ⟨h0.trans k0, h1.trans k1, h2.trans k2, h3.trans k3, h4.trans k4, h5.trans k5, h6.trans k6, h7⟩

end Cert.Half2

end
-- ==== Proof.InForms.lean ====
/- The arithmetic of the input projection behind its norm, and of its gradient, one row at a time: as the kernel carries
   it out, as the reference does, and the two equal on real rows. -/
module

public import proofs.«01_k».proof.Proof.Equation

@[expose] public section

noncomputable section

open Idealize.ShloMosaic

namespace Cert.InProj

open Cert.Ffn

/-- A token's 3072 projected lanes. -/
abbrev PRow := Fin 3072 → EReal
/-- The projection's weight: 1024 rows of 3072 lanes. -/
abbrev PWt := Fin 1024 → Fin 3072 → EReal
/-- The projected rows of an array. -/
abbrev PRows := Fin 4096 → Fin 3072 → EReal

/-- A row times the weight. -/
def projRow (h : Row) (w : PWt) : PRow := fun p => ∑ d, h d * w d p
/-- The gradient at the normalised row: the projection's gradient times the transposed weight. -/
def dhRow (w : PWt) (dp : PRow) : Row := fun d => ∑ p, dp p * w d p

/-! ## The kernel's four results -/

/-- The projection. -/
def kProj (x : Rows) (g : Row) (w : PWt) (t : Fin 4096) (p : Fin 3072) : EReal := projRow (hid g (x t)) w p
/-- The gradient of the input, the residual path's gradient included. -/
def kDx (x : Rows) (g : Row) (w : PWt) (dr : Rows) (dp : PRows) (t : Fin 4096) (d : Fin 1024) : EReal :=
  dxRow g (x t) (dr t) (dhRow w (dp t)) d
/-- The gradient of the gain. -/
def kDg (x : Rows) (w : PWt) (dp : PRows) (d : Fin 1024) : EReal := ∑ t, dhRow w (dp t) d * xhat (x t) d
/-- The gradient of the weight. -/
def kDw (x : Rows) (g : Row) (dp : PRows) (d : Fin 1024) (p : Fin 3072) : EReal := ∑ t, hid g (x t) d * dp t p

/-! ## The reference's results that differ in order -/

/-- The gradient of the input. -/
def refDx (x : Rows) (g : Row) (w : PWt) (dr : Rows) (dp : PRows) (t : Fin 4096) (d : Fin 1024) : EReal :=
  Ref.dxRow g (x t) (dr t) (dhRow w (dp t)) d
/-- The gradient of the gain. -/
def refDg (x : Rows) (w : PWt) (dp : PRows) (d : Fin 1024) : EReal := ∑ t, xhat (x t) d * dhRow w (dp t) d
/-- The gradient of the weight. -/
def refDw (x : Rows) (g : Row) (dp : PRows) (d : Fin 1024) (p : Fin 3072) : EReal := ∑ t, dp t p * hid g (x t) d

/-! ## The equations -/

variable {x dr : Rows} {dp : PRows} {g : Row} {w : PWt}

theorem refDx_eq (hx : ∀ t d, IsReal (x t d)) (hg : ∀ d, IsReal (g d)) (hw : ∀ d p, IsReal (w d p))
    (hdr : ∀ t d, IsReal (dr t d)) (hdp : ∀ t p, IsReal (dp t p)) (t : Fin 4096) (d : Fin 1024) :
    refDx x g w dr dp t d = kDx x g w dr dp t d :=
  congrFun (dxRow_eq (hx t) hg (hdr t) fun d => IsReal.sum fun p => (hdp t p).mul (hw d p)) d
theorem refDg_eq (d : Fin 1024) : refDg x w dp d = kDg x w dp d := Finset.sum_congr rfl fun _ _ => mul_comm _ _
theorem refDw_eq (d : Fin 1024) (p : Fin 3072) : refDw x g dp d p = kDw x g dp d p :=
  Finset.sum_congr rfl fun _ _ => mul_comm _ _

end Cert.InProj

end
-- ==== Proof.InRegions.lean ====
/- What the three calls of the input projection leave in their arrays, from the arrays each is entered with: row by row
   the formulas of InForms.lean. -/
module

public import proofs.«01_k».proof.Proof.Gen.Kernel3Ideal.Frame
public import proofs.«01_k».proof.Proof.InForms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Ffn Cert.InProj

/-! ## Rows -/

/-- Row `r` of an array of 512 rows. -/
abbrev row512 (x : Vec Ideal S512x1024 .f32) (r : Fin 512) : Row := fun d => x (ix2 r d)
/-- Row `r` of a projected array of 512 rows. -/
abbrev prow512 (x : Vec Ideal S512x3072 .bf16) (r : Fin 512) : PRow := fun p => x (ix2 r p)
/-- A one-row array as a row. -/
abbrev row1 (g : Vec Ideal S1x1024 .f32) : Row := fun d => g (ix2 0 d)
/-- The weight by its two indices. -/
abbrev wt (w : Vec Ideal S1024x3072 .bf16) : PWt := fun d p => w (ix2 d p)
/-- Row `t` of an array of 4096 rows. -/
abbrev rowT (x : Vec Ideal S4096x1024 .f32) (t : Fin 4096) : Row := fun d => x (ix2 t d)
/-- Row `t` of a projected array. -/
abbrev prowT (x : Vec Ideal S4096x3072 .bf16) (t : Fin 4096) : PRow := fun p => x (ix2 t p)

/-! ## The bodies' values at an index -/

theorem k0_pay1_at (x : Vec Ideal S512x1024 .f32) (g : Vec Ideal S1x1024 .f32) (r : Fin 512) (d : Fin 1024) :
    k0_pay1 (F := Ideal) x g (ix2 r d) = hid (row1 g) (row512 x r) d := by
  pointwise [k0_pay1, hid, xhat, rstd]
theorem k0_pay2_at (x : Vec Ideal S512x1024 .f32) (g : Vec Ideal S1x1024 .f32) (r : Fin 512) (d : Fin 1024) :
    k0_pay2 (F := Ideal) x g (ix2 d r) = hid (row1 g) (row512 x r) d := by
  pointwise [k0_pay2]
  simp only [k0_pay1_at]
theorem k0_pay3_at (x : Vec Ideal S512x1024 .f32) (g : Vec Ideal S1x1024 .f32) (w : Vec Ideal S1024x3072 .bf16) (r : Fin 512)
    (p : Fin 3072) : k0_pay3 (F := Ideal) x g w (ix2 r p) = projRow (hid (row1 g) (row512 x r)) (wt w) p := by
  pointwise [k0_pay3, projRow]
  simp only [k0_pay1_at]
theorem k1_pay1_at (a : Vec Ideal S1024x4096 .bf16) (b : Vec Ideal S4096x512 .bf16) (d : Fin 1024) (p : Fin 512) :
    k1_pay1 (F := Ideal) a b (ix2 d p) = ∑ t : Fin 4096, (a (ix2 d t) : EReal) * b (ix2 t p) := by
  pointwise [k1_pay1]
theorem k2_pay3_at (dp : Vec Ideal S512x3072 .bf16) (w : Vec Ideal S1024x3072 .bf16) (r : Fin 512) (d : Fin 1024) :
    k2_pay3 (F := Ideal) dp w (ix2 r d) = dhRow (wt w) (prow512 dp r) d := by
  pointwise [k2_pay3, dhRow]
theorem k2_pay4_at (x : Vec Ideal S512x1024 .f32) (r : Fin 512) : k2_pay4 (F := Ideal) x (ix2 r 0) = rstd (row512 x r) := by
  pointwise [k2_pay4, rstd]
theorem k2_pay5_at (x : Vec Ideal S512x1024 .f32) (r : Fin 512) (d : Fin 1024) :
    k2_pay5 (F := Ideal) x (ix2 r d) = xhat (row512 x r) d := by
  pointwise [k2_pay5, xhat]
  simp only [k2_pay4_at]
theorem k2_pay7_at (g : Vec Ideal S1x1024 .f32) (dp : Vec Ideal S512x3072 .bf16) (w : Vec Ideal S1024x3072 .bf16)
    (x dr : Vec Ideal S512x1024 .f32) (r : Fin 512) (d : Fin 1024) :
    k2_pay7 (F := Ideal) g dp w x dr (ix2 r d)
      = dxRow (row1 g) (row512 x r) (row512 dr r) (dhRow (wt w) (prow512 dp r)) d := by
  pointwise [k2_pay7, dxRow]
  simp only [k2_pay3_at, k2_pay4_at, k2_pay5_at]
theorem k2_pay1_at (dp : Vec Ideal S512x3072 .bf16) (w : Vec Ideal S1024x3072 .bf16) (x : Vec Ideal S512x1024 .f32)
    (g0 : Vec Ideal S1x1024 .f32) (d : Fin 1024) :
    k2_pay1 (F := Ideal) (k2_pay6 dp w x) g0 (ix2 0 d)
      = g0 (ix2 0 d) + ∑ r : Fin 512, dhRow (wt w) (prow512 dp r) d * xhat (row512 x r) d := by
  pointwise [k2_pay1, k2_pay6]
  simp only [k2_pay3_at, k2_pay5_at]
theorem k2_pay2_at (j : S1x1024.Idx) : k2_pay2 (F := Ideal) j = 0 := by pointwise [k2_pay2]

variable (V : (c : Dev nD) → (b : Ref sig .tc) → Buf (Elt Ideal) ((c : Thread nD τ).loc b)) (c : Dev nD)

/-! ## The forward call -/

theorem idx0 : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

theorem blk0_1 (t : Fin cfg0.N) : iblk0 V c 1 t = V c main_arg1 := by blk_ext! [iblk0, idx0 t]
theorem blk0_2 (t : Fin cfg0.N) : iblk0 V c 2 t = V c main_v0 := by blk_ext! [iblk0, idx0 t]
theorem blk0_0 (t : Fin cfg0.N) (r : Fin 512) (j : Fin 4096) (hj : (j : ℕ) = t.val * 512 + r) :
    row512 (iblk0 V c 0 t) r = rowT (V c main_arg0) j := by
  funext d
  show iblk0 V c 0 t (ix2 r d) = V c main_arg0 (ix2 j d)
  blk_ext [iblk0, idx0 t]

theorem final0_3 : (dat0 V c).arrAt 3 cfg0.N = fun i : S4096x3072.Idx =>
    projRow (hid (row1 (V c main_arg1)) (rowT (V c main_arg0) (i 0))) (wt (V c main_v0)) (i 1) := by
  refine (dat0 V c).arrAt_eq_of_covers 3 _ (by decide +kernel) fun t _ y => ?_
  blk_simp
  rw [after0_3]
  frame_out
  idx_vars y
  rw [k0_pay3_at, blk0_1, blk0_2]
  have hj : ((((cfg0.win 3).blk t).view.emb (ix2 y0 y1) 0 : Fin 4096) : ℕ) = t.val * 512 + y0 := by blk_simp [idx0 t]
  rw [blk0_0 V c t y0 _ hj]
  congr 1
  exact Fin.ext (by blk_simp [idx0 t])

theorem final0_4 : (dat0 V c).arrAt 4 cfg0.N = fun i : S1024x4096.Idx =>
    hid (row1 (V c main_arg1)) (rowT (V c main_arg0) (i 1)) (i 0) := by
  refine (dat0 V c).arrAt_eq_of_covers 4 _ (by decide +kernel) fun t _ y => ?_
  blk_simp
  rw [after0_4]
  frame_out
  idx_vars y
  rw [k0_pay2_at, blk0_1]
  have hj : ((((cfg0.win 4).blk t).view.emb (ix2 y0 y1) 1 : Fin 4096) : ℕ) = t.val * 512 + y1 := by blk_simp [idx0 t]
  rw [blk0_0 V c t y1 _ hj]
  congr 1
  exact Fin.ext (by blk_simp [idx0 t])

/-! ## The weight's gradient -/

theorem idx1 : ∀ t : Fin cfg1.N, win1_0.index t = ![0, 0] ∧ win1_1.index t = ![0, t.val] ∧ win1_2.index t = ![0, t.val] :=
  (by decide +kernel : ∀ t : Fin grid1.N, _)

/-- The product of a [1024, 4096] array with a [4096, 3072] array. -/
abbrev mulP (a : Vec Ideal S1024x4096 .bf16) (b : Vec Ideal S4096x3072 .bf16) : Vec Ideal S1024x3072 .bf16 :=
  fun i => ∑ t : Fin 4096, (a (ix2 (i 0) t) : EReal) * b (ix2 t (i 1))

theorem final1_2 : (dat1 V c).arrAt 2 cfg1.N = fun i : S1024x3072.Idx =>
    mulP (V c main_v2_1) (V c main_v1) i := by
  refine (dat1 V c).arrAt_eq_of_covers 2 _ (by decide +kernel) fun p _ y => ?_
  blk_simp
  rw [after1_2]
  frame_out
  idx_vars y
  rw [k1_pay1_at]
  dsimp only [mulP]
  blk_point [iblk1, idx1 p]

/-! ## The backward call -/

theorem idx2 : ∀ t : Fin cfg2.N, win2_0.index t = ![t.val, 0] ∧ win2_1.index t = ![t.val, 0] ∧ win2_2.index t = ![0, 0]
    ∧ win2_3.index t = ![0, 0] ∧ win2_4.index t = ![t.val, 0] ∧ win2_5.index t = ![t.val, 0] ∧ win2_6.index t = ![0, 0] :=
  (by decide +kernel : ∀ t : Fin grid2.N, _)

theorem blk2_2 (t : Fin cfg2.N) : iblk2 V c 2 t = V c main_arg1 := by blk_ext! [iblk2, idx2 t]
theorem blk2_3 (t : Fin cfg2.N) : iblk2 V c 3 t = V c main_v0 := by blk_ext! [iblk2, idx2 t]
theorem blk2_0 (t : Fin cfg2.N) (r : Fin 512) (j : Fin 4096) (hj : (j : ℕ) = t.val * 512 + r) :
    prow512 (iblk2 V c 0 t) r = prowT (V c main_v1) j := by
  funext d
  show iblk2 V c 0 t (ix2 r d) = V c main_v1 (ix2 j d)
  blk_ext [iblk2, idx2 t]
theorem blk2_1 (t : Fin cfg2.N) (r : Fin 512) (j : Fin 4096) (hj : (j : ℕ) = t.val * 512 + r) :
    row512 (iblk2 V c 1 t) r = rowT (V c main_arg0) j := by
  funext d
  show iblk2 V c 1 t (ix2 r d) = V c main_arg0 (ix2 j d)
  blk_ext [iblk2, idx2 t]
theorem blk2_4 (t : Fin cfg2.N) (r : Fin 512) (j : Fin 4096) (hj : (j : ℕ) = t.val * 512 + r) :
    row512 (iblk2 V c 4 t) r = rowT (V c main_arg3) j := by
  funext d
  show iblk2 V c 4 t (ix2 r d) = V c main_arg3 (ix2 j d)
  blk_ext [iblk2, idx2 t]

/-- What a point leaves in the block of the input's gradient. -/
theorem outs2_5 (t : Fin cfg2.N) : (outsAt2 V c t.val t.isLt).1
    = k2_pay7 (iblk2 V c 2 t) (iblk2 V c 0 t) (iblk2 V c 3 t) (iblk2 V c 1 t) (iblk2 V c 4 t) := by
  by_cases h : t.val % 8 = 0
  · rw [outsAt2_A V c t h]; frame_out
  · rw [outsAt2_B V c t h]; frame_out

theorem final2_5 : (dat2 V c).arrAt 5 cfg2.N = fun i : S4096x1024.Idx =>
    dxRow (row1 (V c main_arg1)) (rowT (V c main_arg0) (i 0)) (rowT (V c main_arg3) (i 0))
      (dhRow (wt (V c main_v0)) (prowT (V c main_v1) (i 0))) (i 1) := by
  refine (dat2 V c).arrAt_eq_of_covers 5 _ (by decide +kernel) fun t _ y => ?_
  blk_simp
  rw [after2_5, outs2_5]
  idx_vars y
  rw [k2_pay7_at, blk2_2, blk2_3]
  have hj : ((((cfg2.win 5).blk t).view.emb (ix2 y0 y1) 0 : Fin 4096) : ℕ) = t.val * 512 + y0 := by blk_simp [idx2 t]
  rw [blk2_0 V c t y0 _ hj, blk2_1 V c t y0 _ hj, blk2_4 V c t y0 _ hj]
  congr 1
  exact Fin.ext (by blk_simp [idx2 t])

/-- One row's term of the gain's gradient. -/
abbrev dgTerm (j : Fin 4096) (d : Fin 1024) : EReal :=
  dhRow (wt (V c main_v0)) (prowT (V c main_v1) j) d * xhat (rowT (V c main_arg0) j) d

/-- Row `r` of point `t`'s block, as a row of the array. -/
abbrev at8 (t : ℕ) (ht : t < 8) (r : Fin 512) : Fin 4096 := ⟨t * 512 + r, by omega⟩

/-- A point's share of the gain's gradient: the sum over the point's 512 rows. -/
def part6 (t : Fin cfg2.N) (j : S1x1024.Idx) : EReal :=
  ∑ r : Fin 512, dgTerm V c (at8 t.val (lt_of_lt_of_eq t.isLt N_2) r) (j 1)

theorem pay6_iblk (t : Fin cfg2.N) (g0 : Vec Ideal S1x1024 .f32) (j : S1x1024.Idx) :
    k2_pay1 (F := Ideal) (k2_pay6 (iblk2 V c 0 t) (iblk2 V c 3 t) (iblk2 V c 1 t)) g0 j = g0 j + part6 V c t j := by
  idx_vars j
  obtain rfl : j0 = 0 := Subsingleton.elim _ _
  rw [k2_pay1_at, blk2_3]
  refine congrArg (fun e : EReal => g0 (ix2 0 j1) + e) (Finset.sum_congr rfl fun r _ => ?_)
  rw [blk2_0 V c t r (at8 t.val (lt_of_lt_of_eq t.isLt N_2) r) rfl, blk2_1 V c t r (at8 t.val (lt_of_lt_of_eq t.isLt N_2) r) rfl]
  rfl

theorem final2_6 : (dat2 V c).arrAt 6 cfg2.N = fun i : S1x1024.Idx => ∑ t : Fin 4096, dgTerm V c t (i 1) := by
  refine (dat2 V c).arrAt_eq_of_covers 6 _ (by decide +kernel) fun t hf y => ?_
  blk_simp
  rw [after2_6, Pipeline.eq_sum_fin_of_reset_step_apply_of_flush (fun n h => (outsAt2 V c n h).2) 8 (fun _ => 0)
    (part6 V c)
    (fun t h j => by rw [outsAt2_A V c t h]; frame_out; rw [pay6_iblk, k2_pay2_at])
    (fun t h j => by rw [outsAt2_B V c t h]; frame_out; rw [pay6_iblk])
    t ((flush2_6 t).mp hf) _, zero_add]
  have h7 := (flush2_6 t).mp hf
  have hN : t.val < 8 := lt_of_lt_of_eq t.isLt N_2
  idx_vars y
  have hd : (((cfg2.win 6).blk t).view.emb (ix2 y0 y1) 1 : Fin 1024) = y1 := Fin.ext (by blk_simp [idx2 t])
  refine Fin.sum_mul_add_congr fun s k hl => ?_
  exact congrArg₂ (dgTerm V c) (Fin.ext (show (8 * (t.val / 8) + s.val) * 512 + k.val = s.val * 512 + k.val by omega)) hd.symm

end Cert.Kernel3Ideal.Value

end
-- ==== Proof.InRun.lean ====
/- The kernel's run: every weakly fair execution terminates with the four results at the arrays the three calls leave
   and the arguments as launched. The launch follows the frame's. -/
module

public import proofs.«01_k».proof.Proof.Gen.Kernel3Ideal.Frame

@[expose] public section

set_option maxRecDepth 16384

noncomputable section

namespace Cert.Kernel3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the kernels' own scopes ends at the contents after the last call. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-! ## The results and arguments at the end -/

theorem W4_v2_0 (c : Dev nD) : W4 m ρ c (Proc.devRef .tc main_v2_0) = (dat0 (V1 m ρ) c).arrAt 3 cfg0.N :=
  (W4_of m ρ c main_v2_0 (by decide +kernel)).trans ((W3_of m ρ c main_v2_0 (by decide +kernel)).trans (W2_arr m ρ c 3))
theorem W4_v4_0 (c : Dev nD) : W4 m ρ c (Proc.devRef .tc main_v4_0) = (dat2 (V3 m ρ) c).arrAt 5 cfg2.N :=
  W4_arr m ρ c 5
theorem W4_v4_1 (c : Dev nD) : W4 m ρ c (Proc.devRef .tc main_v4_1) = (dat2 (V3 m ρ) c).arrAt 6 cfg2.N :=
  W4_arr m ρ c 6
theorem W4_v3 (c : Dev nD) : W4 m ρ c (Proc.devRef .tc main_v3) = (dat1 (V2 m ρ) c).arrAt 2 cfg1.N :=
  (W4_of m ρ c main_v3 (by decide +kernel)).trans (W3_arr m ρ c 2)

/-- Every execution ends with the results at what the calls leave in their arrays and the arguments as launched. -/
theorem run : θ_run defs (onTc (τ := τ) (main (F := F))) ⟨m, fun _ => 0, ρ⟩ (fun r => ∀ c : Dev nD,
      r.2.mem ((c.tc : Thread nD τ).loc main_v2_0) = (dat0 (V1 m ρ) c).arrAt 3 cfg0.N
      ∧ r.2.mem ((c.tc : Thread nD τ).loc main_v4_0) = (dat2 (V3 m ρ) c).arrAt 5 cfg2.N
      ∧ r.2.mem ((c.tc : Thread nD τ).loc main_v4_1) = (dat2 (V3 m ρ) c).arrAt 6 cfg2.N
      ∧ r.2.mem ((c.tc : Thread nD τ).loc main_v3) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c _ (mem_uc main_v2_0 (by decide))).trans (W4_v2_0 m ρ c),
     (h.1 c _ (mem_uc main_v4_0 (by decide))).trans (W4_v4_0 m ρ c),
     (h.1 c _ (mem_uc main_v4_1 (by decide))).trans (W4_v4_1 m ρ c),
     (h.1 c _ (mem_uc main_v3 (by decide))).trans (W4_v3 m ρ c),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c)⟩) (run_all m ρ)

end Cert.Kernel3Ideal.Value

end
-- ==== Proof.InEntry.lean ====
/- The input projection's four results over the launched arguments: the arrays of its three calls compose to the results
   of InForms.lean. -/
module

public import proofs.«01_k».proof.Proof.InRegions
public import proofs.«01_k».proof.Proof.InRun
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Ffn Cert.InProj

variable (m : (ℓ : Loc nD τ sig) → Buf (Elt Ideal) ℓ) (ρ : Dev nD → PrngReg) (c : Dev nD)

/-- The input's rows. -/
abbrev aX : Rows := fun t d => (m ((c.tc : Thread nD τ).loc main_arg0) : Vec Ideal S4096x1024 .f32) (ix2 t d)
/-- The gain. -/
abbrev aG : Row := fun d => (m ((c.tc : Thread nD τ).loc main_arg1) : Vec Ideal S1x1024 .f32) (ix2 0 d)
/-- The weight. -/
abbrev aW : PWt := fun d p => (m ((c.tc : Thread nD τ).loc main_arg2) : Vec Ideal S1024x3072 .f32) (ix2 d p)
/-- The gradient on the residual path. -/
abbrev aDr : Rows := fun t d => (m ((c.tc : Thread nD τ).loc main_arg3) : Vec Ideal S4096x1024 .f32) (ix2 t d)
/-- The projection's gradient. -/
abbrev aDp : PRows := fun t p => (m ((c.tc : Thread nD τ).loc main_arg4) : Vec Ideal S4096x3072 .f32) (ix2 t p)

theorem V1_v0 : wt (V1 m ρ c main_v0) = aW m c := by
  show wt (StableHlo.after hostOps0 (W0 m ρ c) (Proc.devRef .tc main_v0)) = _
  after_results
  rfl
theorem V1_v1 : prowT (V1 m ρ c main_v1) = aDp m c := by
  show prowT (StableHlo.after hostOps0 (W0 m ρ c) (Proc.devRef .tc main_v1)) = _
  after_results
  rfl
theorem V1_arg0 : V1 m ρ c main_arg0 = m ((c.tc : Thread nD τ).loc main_arg0) := W1_args m ρ c main_arg0 (by decide)
theorem V1_arg1 : V1 m ρ c main_arg1 = m ((c.tc : Thread nD τ).loc main_arg1) := W1_args m ρ c main_arg1 (by decide)

/-- The saved normalised rows, transposed. -/
theorem V2_v2_1 : V2 m ρ c main_v2_1 = fun i : S1024x4096.Idx => hid (aG m c) (aX m c (i 1)) (i 0) :=
  (W2_arr m ρ c 4).trans (by rw [final0_4, V1_arg0, V1_arg1])
theorem V2_v1 : prowT (V2 m ρ c main_v1) = aDp m c :=
  (congrArg prowT (W2_of m ρ c main_v1 (by decide +kernel))).trans (V1_v1 m ρ c)

theorem V3_v0 : wt (V3 m ρ c main_v0) = aW m c :=
  (congrArg wt ((W3_of m ρ c main_v0 (by decide +kernel)).trans (W2_of m ρ c main_v0 (by decide +kernel)))).trans (V1_v0 m ρ c)
theorem V3_v1 : prowT (V3 m ρ c main_v1) = aDp m c :=
  (congrArg prowT (W3_of m ρ c main_v1 (by decide +kernel))).trans (V2_v1 m ρ c)
theorem V3_arg0 : V3 m ρ c main_arg0 = m ((c.tc : Thread nD τ).loc main_arg0) := W3_args m ρ c main_arg0 (by decide)
theorem V3_arg1 : V3 m ρ c main_arg1 = m ((c.tc : Thread nD τ).loc main_arg1) := W3_args m ρ c main_arg1 (by decide)
theorem V3_arg3 : V3 m ρ c main_arg3 = m ((c.tc : Thread nD τ).loc main_arg3) := W3_args m ρ c main_arg3 (by decide)

theorem proj_at : (dat0 (V1 m ρ) c).arrAt 3 cfg0.N
    = fun i : S4096x3072.Idx => kProj (aX m c) (aG m c) (aW m c) (i 0) (i 1) := by
  rw [final0_3, V1_v0, V1_arg0, V1_arg1]
  rfl
theorem dx_at : (dat2 (V3 m ρ) c).arrAt 5 cfg2.N
    = fun i : S4096x1024.Idx => kDx (aX m c) (aG m c) (aW m c) (aDr m c) (aDp m c) (i 0) (i 1) := by
  rw [final2_5, V3_v0, V3_v1, V3_arg0, V3_arg1, V3_arg3]
  rfl
theorem dg_at : (dat2 (V3 m ρ) c).arrAt 6 cfg2.N
    = fun i : S1x1024.Idx => kDg (aX m c) (aW m c) (aDp m c) (i 1) := by
  rw [final2_6]
  unfold dgTerm
  rw [V3_v0, V3_v1, V3_arg0]
  rfl
theorem dw_at : (dat1 (V2 m ρ) c).arrAt 2 cfg1.N
    = fun i : S1024x3072.Idx => kDw (aX m c) (aG m c) (aDp m c) (i 0) (i 1) := by
  rw [final1_2, V2_v2_1]
  funext i
  exact Finset.sum_congr rfl fun t _ =>
    congrArg (fun e : PRows => hid (aG m c) (aX m c t) (i 0) * e t (i 1)) (V2_v1 m ρ c)

end Cert.Kernel3Ideal.Value

end
-- ==== Proof.InReference.lean ====
/- The input projection's reference, layer by layer: each of its arrays named and read at an index. -/
module

public import proofs.«01_k».proof.Proof.Gen.Reference3Ideal.Run
public import proofs.«01_k».proof.Proof.InForms
public import Idealize.ShloMosaic.Lib.Pointwise

@[expose] public section

set_option maxRecDepth 16384

noncomputable section

open Idealize.ShloMosaic Idealize.ShloMosaic.TcCoe Idealize.SL.Sem

namespace Cert.Reference3Ideal.Layers

open Cert.Reference3Ideal Cert.Reference3Ideal.Gen Cert.Ffn Cert.InProj

/-! ## The arrays -/

/-- The mean square of each row plus the constant. -/
def nVar (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- Its reciprocal root over the lanes. -/
def nRsB (X : FVec Ideal S4096x1024 .f32) : FVec Ideal S4096x1024 .f32 :=
  broadcastInDim S4096x1024 ![0, 1] bcast_S4096x1_S4096x1024_0_1 (Host.rsqrt (nVar X))
/-- The gain over the rows. -/
def nGain (G : FVec Ideal S1x1024 .f32) : FVec Ideal S4096x1024 .f32 :=
  broadcastInDim S4096x1024 ![0, 1] bcast_S1x1024_S4096x1024_0_1 G
/-- The normalised rows with the gain. -/
def nHid (X : FVec Ideal S4096x1024 .f32) (G : FVec Ideal S1x1024 .f32) : FVec Ideal S4096x1024 .f32 :=
  mulf (mulf X (nRsB X)) (nGain G)
/-- The gradient at the normalised rows. -/
def nDh (W : FVec Ideal S1024x3072 .f32) (DP : FVec Ideal S4096x3072 .f32) : FVec Ideal S4096x1024 .f32 :=
  Host.dotGeneral dot_S4096x3072_S1024x3072_S4096x1024_1_1_0_0_n_n none DP W
/-- The share of the norm in the gradient of the input: a number per row, over the lanes. -/
def nShare (X : FVec Ideal S4096x1024 .f32) (G : FVec Ideal S1x1024 .f32) (W : FVec Ideal S1024x3072 .f32)
    (DP : FVec Ideal S4096x3072 .f32) : FVec Ideal S4096x1024 .f32 :=
  broadcastInDim S4096x1024 ![0] bcast_S4096_S4096x1024_0 (Host.reduceAdd (Host.divf (mulf (shapeCast _ (Host.reduceAdd (mulf X (mulf (nDh W DP) (nGain G))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (nVar X)) (nVar X)))) (broadcastInDim S4096x1 ![] bcast_S_S4096x1 (constant S_ .f32 0x44800000#32))) (constant S_ .f32 0x00000000#32) reducesTo_S4096x1_S4096_d1 h_S_)
/-- The projection. -/
def nProj (X : FVec Ideal S4096x1024 .f32) (G : FVec Ideal S1x1024 .f32) (W : FVec Ideal S1024x3072 .f32) :
    FVec Ideal S4096x3072 .f32 :=
  Host.dotGeneral dot_S4096x1024_S1024x3072_S4096x3072_1_0_0_1_n_n none (nHid X G) W
/-- The gradient of the input. -/
def nDx (X : FVec Ideal S4096x1024 .f32) (G : FVec Ideal S1x1024 .f32) (W : FVec Ideal S1024x3072 .f32)
    (DR : FVec Ideal S4096x1024 .f32) (DP : FVec Ideal S4096x3072 .f32) : FVec Ideal S4096x1024 .f32 :=
  addf (addf (addf DR (mulf (mulf (nDh W DP) (nGain G)) (nRsB X))) (mulf X (nShare X G W DP))) (mulf (nShare X G W DP) X)
/-- The gradient of the gain. -/
def nDg (X : FVec Ideal S4096x1024 .f32) (W : FVec Ideal S1024x3072 .f32) (DP : FVec Ideal S4096x3072 .f32) :
    FVec Ideal S1x1024 .f32 :=
  shapeCast _ (Host.reduceAdd (mulf (mulf X (nRsB X)) (nDh W DP)) (constant S_ .f32 0x00000000#32) reducesTo_S4096x1024_S1024_d0 h_S_) shapeCasts_S1024_S1x1024
/-- The gradient of the weight. -/
def nDw (X : FVec Ideal S4096x1024 .f32) (G : FVec Ideal S1x1024 .f32) (DP : FVec Ideal S4096x3072 .f32) :
    FVec Ideal S1024x3072 .bf16 :=
  truncf .bf16 (transpose S1024x3072 [1, 0] (Host.dotGeneral dot_S4096x3072_S4096x1024_S3072x1024_0_0_1_1_n_n none DP (nHid X G)) transposes_S3072x1024_S1024x3072_1_0) bitsLt_bf16_f32

/-! ## The arrays at an index -/

/-- The rows of an array. -/
abbrev rowR (X : FVec Ideal S4096x1024 .f32) : Rows := fun t d => X (ix2 t d)
/-- A one-row array as a row. -/
abbrev rowG (G : FVec Ideal S1x1024 .f32) : Row := fun d => G (ix2 0 d)
/-- The weight by its two indices. -/
abbrev wtR (W : FVec Ideal S1024x3072 .f32) : PWt := fun d p => W (ix2 d p)
/-- The rows of a projected array. -/
abbrev prowR (DP : FVec Ideal S4096x3072 .f32) : PRows := fun t p => DP (ix2 t p)

variable (X DR : FVec Ideal S4096x1024 .f32) (G : FVec Ideal S1x1024 .f32) (W : FVec Ideal S1024x3072 .f32)
  (DP : FVec Ideal S4096x3072 .f32) (t : Fin 4096) (d : Fin 1024) (p : Fin 3072)

theorem nVar_at : nVar X (ix2 t 0) = Ref.var (rowR X t) := by
  pointwise [nVar, Ref.var]
theorem nRsB_at : nRsB X (ix2 t d) = rstd (rowR X t) := by
  pointwise [nRsB, nVar, rstd]
theorem nHid_at : nHid X G (ix2 t d) = hid (rowG G) (rowR X t) d := by
  pointwise [nHid, nGain, hid, xhat]
  simp only [nRsB_at]
theorem nDh_at : nDh W DP (ix2 t d) = dhRow (wtR W) (prowR DP t) d := by
  pointwise [nDh, dhRow]
theorem nShare_at : nShare X G W DP (ix2 t d) = Ref.share (rowG G) (rowR X t) (dhRow (wtR W) (prowR DP t)) := by
  pointwise [nShare, nGain, Ref.share]
  rw [Fintype.sum_unique]
  show Ideal.div (_ * (_ * Ideal.div (Ideal.rsqrt (nVar X (ix2 t 0))) (nVar X (ix2 t 0)))) _ = _
  simp only [nDh_at, nVar_at]
  rfl
theorem nProj_at : nProj X G W (ix2 t p) = kProj (rowR X) (rowG G) (wtR W) t p := by
  pointwise [nProj, kProj, projRow]
  simp only [nHid_at]
theorem nDx_at : nDx X G W DR DP (ix2 t d) = refDx (rowR X) (rowG G) (wtR W) (rowR DR) (prowR DP) t d := by
  pointwise [nDx, nGain, refDx, Ref.dxRow]
  simp only [nDh_at, nRsB_at, nShare_at]
theorem nDg_at : nDg X W DP (ix2 0 d) = refDg (rowR X) (wtR W) (prowR DP) d := by
  pointwise [nDg, refDg, xhat]
  simp only [nRsB_at, nDh_at]
theorem nDw_at : nDw X G DP (ix2 d p) = refDw (rowR X) (rowG G) (prowR DP) d p := by
  pointwise [nDw, refDw]
  simp only [nHid_at]

/-! ## The run -/

variable (m : (ℓ : Loc nD τ sig) → Buf (Elt Ideal) ℓ) (ρ : Dev nD → PrngReg)

/-- Every execution of the reference ends with the named arrays in its results, the arguments unchanged. -/
theorem run : θ_run defs (onTc (τ := τ) (main (F := Ideal))) ⟨m, fun _ => 0, ρ⟩ (fun r => ∀ c : Dev nD,
      r.2.mem ((c.tc : Thread nD τ).loc main_v15) = nProj (m ((c.tc : Thread nD τ).loc main_arg0)) (m ((c.tc : Thread nD τ).loc main_arg1)) (m ((c.tc : Thread nD τ).loc main_arg2))
      ∧ r.2.mem ((c.tc : Thread nD τ).loc main_v38) = nDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v21) = nDg (m ((c.tc : Thread nD τ).loc main_arg0)) (m ((c.tc : Thread nD τ).loc main_arg2)) (m ((c.tc : Thread nD τ).loc main_arg4))
      ∧ r.2.mem ((c.tc : Thread nD τ).loc main_v39) = nDw (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    obtain ⟨h0, h1, h2, h3, h4⟩ := h c
    exact ⟨h0.trans rfl, h1.trans rfl, h2.trans rfl, h3.trans rfl, h4⟩)
    (Cert.Reference3Ideal.Value.run m ρ)

end Cert.Reference3Ideal.Layers

end
-- ==== Proof.InAlgebraic.lean ====
/- The value claim of the input projection: over the reals, from arguments whose entries are real numbers, the kernel's
   four results are the reference's. -/
module

public import proofs.«01_k».proof.Defs
public import proofs.«01_k».proof.Proof.Gen.Kernel3
public import proofs.«01_k».proof.Proof.Gen.Pre_finite3
public import proofs.«01_k».proof.Proof.InEntry
public import proofs.«01_k».proof.Proof.InReference
public import proofs.«01_k».proof.Proof.Precondition

@[expose] public section

set_option maxRecDepth 16384

noncomputable section

open Idealize.ShloMosaic Idealize.ShloMosaic.TcCoe Idealize.SL.Sem

namespace Cert.InProj

open Cert.Ffn Cert.Kernel3Ideal.Value Cert.Reference3Ideal.Layers

open Cert.Pre_finite3 Cert.Pre_finite3.Facts in
/-- The predicate reads: every entry of every argument is a real number. -/
theorem real_of_pre [Cert.Pre_finite3.Facts] (x : FVec Ideal S4096x1024 .f32) (g : FVec Ideal S1x1024 .f32)
    (w : FVec Ideal S1024x3072 .f32) (dr : FVec Ideal S4096x1024 .f32) (dp : FVec Ideal S4096x3072 .f32)
    (h : Cert.Pre_finite3.fn (F := Ideal) x g w dr dp = fun _ => 1#1) :
    (∀ i, IsReal (x i)) ∧ (∀ i, IsReal (g i)) ∧ (∀ i, IsReal (w i)) ∧ (∀ i, IsReal (dr i)) ∧ ∀ i, IsReal (dp i) := by
  have e := congrFun h (fun a => a.elim0)
  unfold Cert.Pre_finite3.fn Cert.Pre_finite3.fn_part1 at e
  simp only [andi_apply] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_cmp (Host.reduce_andi_all _ _ _ _ _ e0 i), fun i => real_of_cmp (Host.reduce_andi_all _ _ _ _ _ e1 i),
    fun i => real_of_cmp (Host.reduce_andi_all _ _ _ _ _ e2 i), fun i => real_of_cmp (Host.reduce_andi_all _ _ _ _ _ e3 i),
    fun i => real_of_cmp (Host.reduce_andi_all _ _ _ _ _ e4 i)⟩

section Arrays

open Cert.Reference3Ideal

variable {X DR : FVec Ideal S4096x1024 .f32} {G : FVec Ideal S1x1024 .f32} {W : FVec Ideal S1024x3072 .f32}
  {DP : FVec Ideal S4096x3072 .f32}

theorem nProj_eq : nProj X G W = fun i : S4096x3072.Idx => kProj (rowR X) (rowG G) (wtR W) (i 0) (i 1) := by
  funext i
  idx_vars i
  exact nProj_at X G W i0 i1
theorem nDx_eq (hX : ∀ i, IsReal (X i)) (hG : ∀ i, IsReal (G i)) (hW : ∀ i, IsReal (W i)) (hDR : ∀ i, IsReal (DR i))
    (hDP : ∀ i, IsReal (DP i)) : nDx X G W DR DP
    = fun i : S4096x1024.Idx => kDx (rowR X) (rowG G) (wtR W) (rowR DR) (prowR DP) (i 0) (i 1) := by
  funext i
  idx_vars i
  exact (nDx_at X DR G W DP i0 i1).trans (refDx_eq (fun _ _ => hX _) (fun _ => hG _) (fun _ _ => hW _) (fun _ _ => hDR _)
    (fun _ _ => hDP _) i0 i1)
theorem nDg_eq : nDg X W DP = fun i : S1x1024.Idx => kDg (rowR X) (wtR W) (prowR DP) (i 1) := by
  funext i
  idx_vars i
  obtain rfl : i0 = 0 := Subsingleton.elim _ _
  exact (nDg_at X W DP i1).trans (refDg_eq i1)
theorem nDw_eq : nDw X G DP = fun i : S1024x3072.Idx => kDw (rowR X) (rowG G) (prowR DP) (i 0) (i 1) := by
  funext i
  idx_vars i
  exact (nDw_at X G DP i0 i1).trans (refDw_eq i0 i1)

end Arrays

theorem algebraic : Cert.algebraic_Kernel3Ideal_Reference3Ideal_pre_finite3 := by
  intro m g m' g' hpre hagree
  refine ⟨fun c i => kProj (aX m c) (aG m c) (aW m c) (i 0) (i 1),
    fun c i => kDx (aX m c) (aG m c) (aW m c) (aDr m c) (aDp m c) (i 0) (i 1),
    fun c i => kDg (aX m c) (aW m c) (aDp m c) (i 1),
    fun c i => kDw (aX m c) (aG m c) (aDp m c) (i 0) (i 1), ?_, ?_⟩
  · refine (θ_run _ _ _).mono (fun _ h c => ?_) (Cert.Kernel3Ideal.Value.run m g)
    obtain ⟨h0, h1, h2, h3, h4⟩ := h c
    exact ⟨h0.trans (proj_at m g c), h1.trans (dx_at m g c), h2.trans (dg_at m g c), h3.trans (dw_at m g c), h4⟩
  · refine (θ_run _ _ _).mono (fun _ h c => ?_) (Cert.Reference3Ideal.Layers.run m' g')
    obtain ⟨h0, h1, h2, h3, h4⟩ := h c
    obtain ⟨e0, e1, e2, e3, e4⟩ := hagree c
    obtain ⟨r0, r1, r2, r3, r4⟩ := real_of_pre _ _ _ _ _ (hpre c)
    rw [e0, e1, e2] at h0
    rw [e0, e1, e2, e3, e4] at h1
    rw [e0, e2, e4] at h2
    rw [e0, e1, e4] at h3
    exact ⟨h0.trans nProj_eq, h1.trans (nDx_eq r0 r1 r2 r3 r4), h2.trans nDg_eq, h3.trans nDw_eq, h4⟩

end Cert.InProj

end
-- ==== Proof.WeightGradient.lean ====
/- One weight gradient on its own: the kernel's product of a transposed hidden array with a row array, taken in eleven
   blocks of rows, is the reference's product. -/
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WeightGradient

/-! ## The kernel's array -/

section Kernel

open Cert.Kernel4Ideal Cert.Kernel4Ideal.Gen Cert.Kernel4Ideal.Value

/-- The product at an index: the sum over the 4096 tokens. -/
abbrev prodK (a : Vec Ideal S2816x4096 .f32) (b : Vec Ideal S4096x1024 .f32) : Vec Ideal S2816x1024 .bf16 :=
  fun i => ∑ t : Fin 4096, (a (ix2 (i 0) t) : EReal) * b (ix2 t (i 1))

theorem pay_at (a : Vec Ideal S256x4096 .bf16) (b : Vec Ideal S4096x1024 .bf16) (r : Fin 256) (d : Fin 1024) :
    k0_pay1 (F := Ideal) a b (ix2 r d) = ∑ t : Fin 4096, (a (ix2 r t) : EReal) * b (ix2 t d) := by
  pointwise [k0_pay1]

variable (m : (ℓ : Loc nD τ sig) → Buf (Elt Ideal) ℓ) (c : Dev nD)

/-- The first factor as the call finds it: over the reals the argument. -/
theorem V_v0 : V m c main_v0 = (m ((c.tc : Thread nD τ).loc main_arg0) : Vec Ideal S2816x4096 .f32) := by
  show StableHlo.after hostOps0 (fun b => m (c, b)) (Proc.devRef .tc main_v0) = _
  after_results
  rfl
/-- The second factor as the call finds it. -/
theorem V_v1 : V m c main_v1 = (m ((c.tc : Thread nD τ).loc main_arg1) : Vec Ideal S4096x1024 .f32) := by
  show StableHlo.after hostOps0 (fun b => m (c, b)) (Proc.devRef .tc main_v1) = _
  after_results
  rfl

/-- Where the blocks of the call's windows sit. -/
theorem idx0 : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 cfg0.N
    = prodK (m ((c.tc : Thread nD τ).loc main_arg0)) (m ((c.tc : Thread nD τ).loc main_arg1)) := by
  rw [← V_v0 m c, ← V_v1 m c]
  refine (dats m 0 c).arrAt_eq_of_covers 2 _ (by decide +kernel) fun p _ y => ?_
  blk_simp
  rw [after0_2]
  frame_out
  idx_vars y
  rw [pay_at]
  dsimp only [prodK]
  blk_point [iblk, idx0 p]

end Kernel

/-! ## The claim -/

section Reference

open Cert.Reference4Ideal Cert.Reference4Ideal.Gen

theorem ref_at (a : FVec Ideal S2816x4096 .f32) (b : FVec Ideal S4096x1024 .f32) :
    truncf .bf16 (Host.dotGeneral dot_S2816x4096_S4096x1024_S2816x1024_1_0_0_1_n_n none a b) bitsLt_bf16_f32
      = prodK a b := by
  funext i
  idx_vars i
  pointwise []
  rfl

end Reference

theorem algebraic : Cert.algebraic_Kernel4Ideal_Reference4Ideal := by
  intro m g m' g' _ hagree
  refine ⟨fun c => prodK (m ((c.tc : Thread _ _).loc Cert.Kernel4Ideal.main_arg0))
    (m ((c.tc : Thread _ _).loc Cert.Kernel4Ideal.main_arg1)), ?_, ?_⟩
  · refine (θ_run _ _ _).mono (fun _ h c => ?_) (Cert.Kernel4Ideal.Value.run_blocks m g)
    obtain ⟨h0, h1⟩ := h c
    exact ⟨h0.trans (final m c), h1⟩
  · refine (θ_run _ _ _).mono (fun _ h c => ?_) (Cert.Reference4Ideal.Value.run m' g')
    obtain ⟨h0, h1⟩ := h c
    obtain ⟨e0, e1⟩ := hagree c
    rw [e0, e1] at h0
    exact ⟨h0.trans (ref_at _ _), h1⟩

end Cert.WeightGradient

end
-- ==== Proof.OutWeight.lean ====
/- The weight gradient of the mixers' output projection on its own: the kernel takes the product of a transposed row array
   with another in eight blocks of 512 tokens and adds them up in scratch memory; the sum is the reference's product. -/
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutWeight

/-! ## The kernel's array -/

section Kernel

open Cert.Kernel5Ideal Cert.Kernel5Ideal.Gen Cert.Kernel5Ideal.Value

/-- The product at an index: the sum over the 4096 tokens. -/
abbrev prodK (a : Vec Ideal S4096x1024 .f32) (b : Vec Ideal S4096x1024 .f32) : Vec Ideal S1024x1024 .bf16 :=
  fun i => ∑ t : Fin 4096, (a (ix2 t (i 0)) : EReal) * b (ix2 t (i 1))

theorem zero_at (r d : Fin 1024) : k0_pay1 (F := Ideal) (ix2 r d) = (0 : EReal) := by
  pointwise [k0_pay1]

theorem step_at (acc : Vec Ideal S1024x1024 .f32) (a : Vec Ideal S512x1024 .bf16) (b : Vec Ideal S512x1024 .f32)
    (r d : Fin 1024) :
    k0_pay2 (F := Ideal) acc a b (ix2 r d) = (acc (ix2 r d) : EReal) + ∑ t : Fin 512, (a (ix2 t r) : EReal) * b (ix2 t d) := by
  pointwise [k0_pay2]

theorem last_eq (acc : Vec Ideal S1024x1024 .f32) : k0_pay3 (F := Ideal) acc = acc := rfl

variable (m : (ℓ : Loc nD τ sig) → Buf (Elt Ideal) ℓ) (c : Dev nD)

/-- The first factor as the call finds it: over the reals the argument. -/
theorem V_v0 : V m c main_v0 = (m ((c.tc : Thread nD τ).loc main_arg0) : Vec Ideal S4096x1024 .f32) := by
  show StableHlo.after hostOps0 (fun b => m (c, b)) (Proc.devRef .tc main_v0) = _
  after_results
  rfl

/-- Where the blocks of the call's windows sit. -/
theorem idx0 : ∀ t : Fin cfg0.N, win0_0.index t = ![t.val, 0] ∧ win0_1.index t = ![t.val, 0] ∧ win0_2.index t = ![0, 0] :=
  (by decide +kernel : ∀ t : Fin grid0.N, _)

/-- A block's share of the product, over the call's own arrays. -/
def part (a : Vec Ideal S4096x1024 .f32) (b : Vec Ideal S4096x1024 .f32) (r d : Fin 1024) (k : Fin 8) : EReal :=
  ∑ s : Fin 512, (a (ix2 ⟨k.val * 512 + s.val, by omega⟩ r) : EReal) * b (ix2 ⟨k.val * 512 + s.val, by omega⟩ d)

/-- What a grid point adds. -/
theorem added (acc : Vec Ideal S1024x1024 .f32) (t : Fin cfg0.N) (k : Fin 8) (hk : k.val = t.val) (r d : Fin 1024) :
    k0_pay2 (F := Ideal) acc (iblk m c 0 t) (iblk m c 1 t) (ix2 r d)
      = (acc (ix2 r d) : EReal) + part (V m c main_v0) (V m c main_arg1) r d k := by
  rw [step_at]
  unfold part
  refine congrArg _ (Finset.sum_congr rfl fun s _ => ?_)
  refine congrArg₂ (fun x y : EReal => x * y) ?_ ?_ <;> blk_point [iblk, idx0 t, hk]

theorem first_at (h : 0 < cfg0.N) (r d : Fin 1024) :
    (outsAt0 m c 0 h).2 (ix2 r d) = part (V m c main_v0) (V m c main_arg1) r d 0 := by
  rw [outsAt0_A m c ⟨0, h⟩ (Nat.zero_mod _) (by simp)]
  dsimp only
  frame_out
  rw [added m c _ ⟨0, h⟩ 0 rfl, zero_at, zero_add]

theorem next_at (n : ℕ) (h : n + 1 < cfg0.N) (hn : n + 1 < 8) (r d : Fin 1024) :
    (outsAt0 m c (n + 1) h).2 (ix2 r d)
      = ((outsAt0 m c n (Nat.lt_of_succ_lt h)).2 (ix2 r d) : EReal) + part (V m c main_v0) (V m c main_arg1) r d ⟨n + 1, hn⟩ := by
  have h0 : ¬ (n + 1) % 8 = 0 := by omega
  by_cases h1 : (n + 1) % 8 = 7
  · rw [outsAt0_C m c ⟨n + 1, h⟩ h0 h1]
    dsimp only
    frame_out
    rw [added m c _ ⟨n + 1, h⟩ ⟨n + 1, hn⟩ rfl, (Memref.isWhole_whole _).read_unread]
    rfl
  · rw [outsAt0_B m c ⟨n + 1, h⟩ h0 h1]
    dsimp only
    frame_out
    rw [added m c _ ⟨n + 1, h⟩ ⟨n + 1, hn⟩ rfl, (Memref.isWhole_whole _).read_unread]
    rfl

/-- After a grid point the scratch memory holds the sum of the blocks so far. -/
theorem scratch_at (r d : Fin 1024) : ∀ (n : ℕ) (h : n < cfg0.N) (hn : n < 8),
    (outsAt0 m c n h).2 (ix2 r d)
      = ∑ k : Fin (n + 1), part (V m c main_v0) (V m c main_arg1) r d ⟨k.val, by omega⟩
  | 0, h, _ => by rw [first_at, Fin.sum_univ_one]; rfl
  | n + 1, h, hn => by
    rw [next_at m c n h hn, scratch_at r d n (Nat.lt_of_succ_lt h) (by omega), Fin.sum_univ_castSucc (n := n + 1)]
    rfl

theorem final : G2 m c = prodK (m ((c.tc : Thread nD τ).loc main_arg0)) (m ((c.tc : Thread nD τ).loc main_arg1)) := by
  have h7 : 7 < cfg0.N := lt_of_lt_of_eq (by decide) N_0.symm
  rw [G2_last, ← outsAt0_sweep m c 7 h7, ← V_v0 m c, ← V_main_arg1 m c]
  have e : (outsAt0 m c 7 h7).1 = (outsAt0 m c 7 h7).2 := by
    rw [outsAt0_C m c ⟨7, h7⟩ (by simp) (by simp)]
    dsimp only
    frame_out
    exact last_eq _
  rw [e]
  funext i
  idx_vars i
  rw [scratch_at m c _ _ 7 h7 (by decide)]
  dsimp only [prodK]
  unfold part
  refine Fin.sum_mul_add_congr fun s k hl => ?_
  rfl

end Kernel

/-! ## The claim -/

section Reference

open Cert.Reference5Ideal Cert.Reference5Ideal.Gen

theorem ref_at (a b : FVec Ideal S4096x1024 .f32) :
    truncf .bf16 (transpose S1024x1024 [1, 0] (Host.dotGeneral dot_S4096x1024_S4096x1024_S1024x1024_0_0_1_1_n_n none b a)
      transposes_S1024x1024_S1024x1024_1_0) bitsLt_bf16_f32 = prodK a b := by
  funext i
  idx_vars i
  pointwise []
  exact Finset.sum_congr rfl fun t _ => mul_comm _ _

end Reference

theorem algebraic : Cert.algebraic_Kernel5Ideal_Reference5Ideal := by
  intro m g m' g' _ hagree
  refine ⟨fun c => prodK (m ((c.tc : Thread _ _).loc Cert.Kernel5Ideal.main_arg0))
    (m ((c.tc : Thread _ _).loc Cert.Kernel5Ideal.main_arg1)), ?_, ?_⟩
  · refine (θ_run _ _ _).mono (fun _ h c => ?_) (Cert.Kernel5Ideal.Value.run m g)
    obtain ⟨h0, h1⟩ := h c
    exact ⟨h0.trans (final m c), h1⟩
  · refine (θ_run _ _ _).mono (fun _ h c => ?_) (Cert.Reference5Ideal.Value.run m' g')
    obtain ⟨h0, h1⟩ := h c
    obtain ⟨e0, e1⟩ := hagree c
    rw [e0, e1] at h0
    exact ⟨h0.trans (ref_at _ _), h1⟩

end Cert.OutWeight

end
-- ==== Proof.ConvGrad.lean ====
/- The gradient of the convolution over the four latest tokens. The kernel shifts a sequence by rotating its rows and blanking
   the ones that came round, and adds the gradient of the weights up over the two sequences; the reference is the adjoint of
   slices of the sequence behind three rows of zeros. -/
module

public import proofs.«01_k».proof.Defs
public import proofs.«01_k».proof.Proof.Gen.Kernel6
public import proofs.«01_k».proof.Proof.Gen.Kernel6Ideal.Frame
public import proofs.«01_k».proof.Proof.Gen.Reference6Ideal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvGrad

/-! ## The gradients -/

section Kernel

open Cert.Kernel6Ideal Cert.Kernel6Ideal.Gen

/-- Lane `d` of the convolved columns `k` tokens before token `t`, nothing before the start of its sequence. -/
def past (x : Vec Ideal S4096x3072 .f32) (k : ℕ) (t : Fin 4096) (d : Fin 896) : EReal :=
  if t.val % 2048 < k then 0 else x (ix2 ⟨t.val - k, by omega⟩ ⟨1792 + d.val, by omega⟩)

/-- A weight times lane `d` of the gradient `k` tokens after token `t`, nothing past the end of its sequence. -/
def later (w : EReal) (g : Vec Ideal S4096x896 .f32) (k : ℕ) (t : Fin 4096) (d : Fin 896) : EReal :=
  if h : t.val % 2048 + k < 2048 then w * g (ix2 ⟨t.val + k, by omega⟩ d) else 0

/-- The gradient of the convolved columns. -/
abbrev dx (w : Vec Ideal S4x896 .f32) (g : Vec Ideal S4096x896 .f32) : Vec Ideal S4096x896 .bf16 :=
  fun i => ((later (w (ix2 3 (i 1))) g 0 (i 0) (i 1) + later (w (ix2 2 (i 1))) g 1 (i 0) (i 1))
    + later (w (ix2 1 (i 1))) g 2 (i 0) (i 1)) + later (w (ix2 0 (i 1))) g 3 (i 0) (i 1)

/-- The part of sequence `b` in the gradient of the weight of the token `k` before. -/
def dwPart (x : Vec Ideal S4096x3072 .f32) (g : Vec Ideal S4096x896 .f32) (k : ℕ) (d : Fin 896) (b : Fin 2) : EReal :=
  ∑ s : Fin 2048, (g (ix2 ⟨b.val * 2048 + s.val, by omega⟩ d) : EReal) * past x k ⟨b.val * 2048 + s.val, by omega⟩ d

/-- The part of sequence `b` in the gradient of the bias. -/
def dbPart (g : Vec Ideal S4096x896 .f32) (d : Fin 896) (b : Fin 2) : EReal :=
  ∑ s : Fin 2048, (g (ix2 ⟨b.val * 2048 + s.val, by omega⟩ d) : EReal)

/-- The gradient of the weights. -/
abbrev dw (x : Vec Ideal S4096x3072 .f32) (g : Vec Ideal S4096x896 .f32) : Vec Ideal S4x896 .f32 :=
  fun i => ∑ b : Fin 2, dwPart x g (3 - (i 0).val) (i 1) b

/-- The gradient of the bias. -/
abbrev db (g : Vec Ideal S4096x896 .f32) : Vec Ideal S1x896 .f32 :=
  fun i => ∑ b : Fin 2, dbPart g (i 1) b

/-- What sequence `b` gives to the kernel's one array of both: four rows of weights, one of the bias, three empty. -/
def rowPart (x : Vec Ideal S4096x3072 .f32) (g : Vec Ideal S4096x896 .f32) (j : Fin 8) (d : Fin 896) (b : Fin 2) : EReal :=
  if j.val < 4 then dwPart x g (3 - j.val) d b else if j.val = 4 then dbPart g d b else 0

abbrev rows (x : Vec Ideal S4096x3072 .f32) (g : Vec Ideal S4096x896 .f32) : Vec Ideal S8x896 .f32 :=
  fun i => rowPart x g (i 0) (i 1) 0 + rowPart x g (i 0) (i 1) 1

theorem rows_weights (x : Vec Ideal S4096x3072 .f32) (g : Vec Ideal S4096x896 .f32) (j : Fin 4) (d : Fin 896) :
    rows x g (ix2 ⟨j.val, by omega⟩ d) = dw x g (ix2 j d) := by
  show rowPart x g ⟨j.val, by omega⟩ d 0 + rowPart x g ⟨j.val, by omega⟩ d 1 = ∑ b : Fin 2, dwPart x g (3 - j.val) d b
  have e : ∀ b : Fin 2, rowPart x g ⟨j.val, by omega⟩ d b = dwPart x g (3 - j.val) d b := fun b => if_pos j.isLt
  rw [Fin.sum_univ_two, e, e]

theorem rows_bias (x : Vec Ideal S4096x3072 .f32) (g : Vec Ideal S4096x896 .f32) (i : Fin 1) (d : Fin 896) :
    rows x g (ix2 4 d) = db g (ix2 i d) := by
  show rowPart x g 4 d 0 + rowPart x g 4 d 1 = ∑ b : Fin 2, dbPart g d b
  have e : ∀ b : Fin 2, rowPart x g 4 d b = dbPart g d b := fun b => by
    unfold rowPart
    rw [if_neg (by decide), if_pos (by decide)]
  rw [Fin.sum_univ_two, e, e]

/-! ## The kernel's body -/

theorem slt3 : ∀ r : Fin 2048, IntOp.cmpi .slt (BitVec.ofNat 32 r.val) 2045#32 = if r.val + 3 < 2048 then 1#1 else 0#1 := by
  decide +kernel
theorem slt2 : ∀ r : Fin 2048, IntOp.cmpi .slt (BitVec.ofNat 32 r.val) 2046#32 = if r.val + 2 < 2048 then 1#1 else 0#1 := by
  decide +kernel
theorem slt1 : ∀ r : Fin 2048, IntOp.cmpi .slt (BitVec.ofNat 32 r.val) 2047#32 = if r.val + 1 < 2048 then 1#1 else 0#1 := by
  decide +kernel
theorem sge3 : ∀ r : Fin 2048, IntOp.cmpi .sge (BitVec.ofNat 32 r.val) 3#32 = if r.val < 3 then 0#1 else 1#1 := by
  decide +kernel
theorem sge2 : ∀ r : Fin 2048, IntOp.cmpi .sge (BitVec.ofNat 32 r.val) 2#32 = if r.val < 2 then 0#1 else 1#1 := by
  decide +kernel
theorem sge1 : ∀ r : Fin 2048, IntOp.cmpi .sge (BitVec.ofNat 32 r.val) 1#32 = if r.val < 1 then 0#1 else 1#1 := by
  decide +kernel
theorem row0 : ∀ j : Fin 8, IntOp.cmpi .eq (BitVec.ofNat 32 j.val) 0#32 = if j.val = 0 then 1#1 else 0#1 := by decide +kernel
theorem row1 : ∀ j : Fin 8, IntOp.cmpi .eq (BitVec.ofNat 32 j.val) 1#32 = if j.val = 1 then 1#1 else 0#1 := by decide +kernel
theorem row2 : ∀ j : Fin 8, IntOp.cmpi .eq (BitVec.ofNat 32 j.val) 2#32 = if j.val = 2 then 1#1 else 0#1 := by decide +kernel
theorem row3 : ∀ j : Fin 8, IntOp.cmpi .eq (BitVec.ofNat 32 j.val) 3#32 = if j.val = 3 then 1#1 else 0#1 := by decide +kernel
theorem row4 : ∀ j : Fin 8, IntOp.cmpi .eq (BitVec.ofNat 32 j.val) 4#32 = if j.val = 4 then 1#1 else 0#1 := by decide +kernel

theorem select_yes (p : Prop) [Decidable p] (a b : EReal) :
    Scalar.select (if p then 1#1 else 0#1) a b = if p then a else b := by
  by_cases h : p
  · rw [if_pos h, if_pos h]; rfl
  · rw [if_neg h, if_neg h]; rfl

theorem select_no (p : Prop) [Decidable p] (a b : EReal) :
    Scalar.select (if p then 0#1 else 1#1) a b = if p then b else a := by
  by_cases h : p
  · rw [if_pos h, if_pos h]; rfl
  · rw [if_neg h, if_neg h]; rfl

/-- `later` within one block. -/
def laterB (w : EReal) (g : Vec Ideal S2048x128 .f32) (k : ℕ) (r : Fin 2048) (d : Fin 128) : EReal :=
  if h : r.val + k < 2048 then w * g (ix2 ⟨r.val + k, h⟩ d) else 0

/-- `past` within one block. -/
def pastB (x : Vec Ideal S2048x128 .f32) (k : ℕ) (r : Fin 2048) (d : Fin 128) : EReal :=
  if r.val < k then 0 else x (ix2 ⟨r.val - k, by omega⟩ d)

theorem laterB_of (w : EReal) (g : Vec Ideal S2048x128 .f32) (k : ℕ) (r q : Fin 2048) (d : Fin 128)
    (hq : r.val + k < 2048 → q.val = r.val + k) :
    (if r.val + k < 2048 then w * g (ix2 q d) else 0) = laterB w g k r d := by
  unfold laterB
  by_cases h : r.val + k < 2048
  · rw [if_pos h, dif_pos h]
    exact congrArg (fun t => w * g (ix2 t d)) (Fin.ext (hq h))
  · rw [if_neg h, dif_neg h]

theorem pastB_of (g x : Vec Ideal S2048x128 .f32) (k : ℕ) (r q : Fin 2048) (d : Fin 128)
    (hq : ¬ r.val < k → q.val = r.val - k) :
    (if r.val < k then (0 : EReal) else g (ix2 r d) * x (ix2 q d)) = g (ix2 r d) * pastB x k r d := by
  unfold pastB
  by_cases h : r.val < k
  · rw [if_pos h, if_pos h]; exact (mul_zero _).symm
  · rw [if_neg h, if_neg h]
    exact congrArg (fun t => (g (ix2 r d) : EReal) * x (ix2 t d)) (Fin.ext (hq h))

theorem dx_at (g : Vec Ideal S2048x128 .f32) (w0 w1 w2 w3 : Vec Ideal S1x128 .f32) (r : Fin 2048) (d : Fin 128) :
    k0_pay10 (F := Ideal) (k0_pay7 g (iota .tc S2048x1 32 [0] iota_S2048x1_d0_w32) (k0_pay3 g w3 w0) (k0_pay5 w1) w2) (ix2 r d)
      = ((laterB (w3 (ix2 0 d)) g 0 r d + laterB (w0 (ix2 0 d)) g 3 r d) + laterB (w1 (ix2 0 d)) g 2 r d)
        + laterB (w2 (ix2 0 d)) g 1 r d := by
  pointwise [k0_pay10, k0_pay7, k0_pay3, k0_pay5]
  rw [slt3, slt2, slt1, select_yes, select_yes, select_yes, laterB_of _ g 3 r _ d, laterB_of _ g 2 r _ d, laterB_of _ g 1 r _ d,
    ← laterB_of (w3 (ix2 0 d)) g 0 r r d (fun _ => rfl),
    if_pos (show r.val + 0 < 2048 from r.isLt)]
  · intro h; show (r.val + 2048 - 2047) % 2048 = r.val + 1; omega
  · intro h; show (r.val + 2048 - 2046) % 2048 = r.val + 2; omega
  · intro h; show (r.val + 2048 - 2045) % 2048 = r.val + 3; omega

theorem dw_at (g x : Vec Ideal S2048x128 .f32) (acc : Vec Ideal S8x128 .f32) (j : Fin 8) (d : Fin 128) :
    k0_pay11 (F := Ideal) (k0_pay2 g x) (k0_pay4 g x) (k0_pay6 g x (iota .tc S2048x1 32 [0] iota_S2048x1_d0_w32)) (k0_pay8 g x (iota .tc S2048x1 32 [0] iota_S2048x1_d0_w32))
      (k0_pay9 g) acc (ix2 j d)
      = (acc (ix2 j d) : EReal) + (if j.val < 4 then ∑ s : Fin 2048, (g (ix2 s d) : EReal) * pastB x (3 - j.val) s d
          else if j.val = 4 then ∑ s : Fin 2048, (g (ix2 s d) : EReal) else 0) := by
  pointwise [k0_pay11, k0_pay2, k0_pay4, k0_pay6, k0_pay8, k0_pay9]
  rw [row0, row1, row2, row3, row4]
  simp only [sge3, sge2, sge1, select_yes, select_no]
  refine congrArg _ ?_
  have e3 : ∀ s : Fin 2048, (if s.val < 3 then (0 : EReal) else g (ix2 s d) * x (ix2 ⟨(s.val + 2048 - 3) % 2048, Nat.mod_lt _ (by decide)⟩ d))
      = g (ix2 s d) * pastB x 3 s d := fun s => pastB_of g x 3 s _ d fun h => by show (s.val + 2048 - 3) % 2048 = s.val - 3; omega
  have e2 : ∀ s : Fin 2048, (if s.val < 2 then (0 : EReal) else g (ix2 s d) * x (ix2 ⟨(s.val + 2048 - 2) % 2048, Nat.mod_lt _ (by decide)⟩ d))
      = g (ix2 s d) * pastB x 2 s d := fun s => pastB_of g x 2 s _ d fun h => by show (s.val + 2048 - 2) % 2048 = s.val - 2; omega
  have e1 : ∀ s : Fin 2048, (if s.val < 1 then (0 : EReal) else g (ix2 s d) * x (ix2 ⟨(s.val + 2048 - 1) % 2048, Nat.mod_lt _ (by decide)⟩ d))
      = g (ix2 s d) * pastB x 1 s d := fun s => pastB_of g x 1 s _ d fun h => by show (s.val + 2048 - 1) % 2048 = s.val - 1; omega
  have e0 : ∀ s : Fin 2048, (g (ix2 s d) * x (ix2 s d) : EReal) = g (ix2 s d) * pastB x 0 s d := fun s => rfl
  simp only [e3, e2, e1, e0]
  obtain ⟨j, hj⟩ := j
  interval_cases j <;> simp

/-! ## The kernel's arrays -/

variable (m : (ℓ : Loc nD τ sig) → Buf (Elt Ideal) ℓ) (c : Dev nD)

theorem V_v0 (k : Fin 4) (d : Fin 896) :
    (V m c main_v0 : Vec Ideal S8x896 .f32) (ix2 ⟨k.val, by omega⟩ d)
      = (m ((c.tc : Thread nD τ).loc main_arg1) : Vec Ideal S4x896 .f32) (ix2 k d) := by
  show (StableHlo.after (List.flatten [hostOps0, hostOps0_1]) (fun b => m (c, b)) (Proc.devRef .tc main_v0) : Vec Ideal S8x896 .f32) _ = _
  simp only [hostOps0, hostOps0_1, List.flatten_cons, List.flatten_nil, List.append_nil, List.cons_append, List.nil_append]
  after_results
  show (pad S8x896 ![0, 0] ![4, 0] ![0, 0] (m ((c.tc : Thread nD τ).loc main_arg1) : Vec Ideal S4x896 .f32)
    (sitofp (F := Ideal) .f32 (constantI S_ 32 0#32) : Vec Ideal S_ .f32) pads_S4x896_S8x896_040_000 h_S_ : Vec Ideal S8x896 .f32) _ = _
  pointwise []
  refine dif_pos (show ∀ a : Fin 2, _ from fun a => ?_)
  match a with
  | 0 => exact ⟨Nat.zero_le _, Nat.mod_one _, by show (k.val - 0) / 1 < 4; omega⟩
  | 1 => exact ⟨Nat.zero_le _, Nat.mod_one _, by show (d.val - 0) / 1 < 896; omega⟩

/-- Where the blocks of the call's windows sit. -/
theorem idx0 : ∀ t : Fin cfg0.N, win0_0.index t = ![t.val % 2, t.val / 2] ∧ win0_1.index t = ![t.val % 2, 14 + t.val / 2]
    ∧ win0_2.index t = ![0, t.val / 2] ∧ win0_3.index t = ![t.val % 2, t.val / 2] ∧ win0_4.index t = ![0, t.val / 2] :=
  (by decide +kernel : ∀ t : Fin grid0.N, _)

theorem g_at (p : Fin cfg0.N) (r : Fin 2048) (d : Fin 128) (T : Fin 4096) (D : Fin 896)
    (hT : T.val = p.val % 2 * 2048 + r.val) (hD : D.val = p.val / 2 * 128 + d.val) :
    (iblk m c 0 p : Vec Ideal S2048x128 .f32) (ix2 r d)
      = (m ((c.tc : Thread nD τ).loc main_arg2) : Vec Ideal S4096x896 .f32) (ix2 T D) := by
  rw [← V_main_arg2 m c]
  blk_point [iblk, idx0 p, hT, hD]

theorem x_at (p : Fin cfg0.N) (r : Fin 2048) (d : Fin 128) (T : Fin 4096) (D : Fin 896)
    (hT : T.val = p.val % 2 * 2048 + r.val) (hD : D.val = p.val / 2 * 128 + d.val) :
    (iblk m c 1 p : Vec Ideal S2048x128 .f32) (ix2 r d)
      = (m ((c.tc : Thread nD τ).loc main_arg0) : Vec Ideal S4096x3072 .f32) (ix2 T ⟨1792 + D.val, by omega⟩) := by
  rw [← V_main_arg0 m c]
  blk_point [iblk, idx0 p, hT, hD]

theorem w0_at (p : Fin cfg0.N) (d : Fin 128) (D : Fin 896) (hD : D.val = p.val / 2 * 128 + d.val) :
    (View.ld (iblk m c 2 p : Vec Ideal S8x128 .f32) (Rect.unit ![0, 0] ![1, 128] inb_S8x128_S1x128_0_0) : Vec Ideal S1x128 .f32) (ix2 0 d)
      = (m ((c.tc : Thread nD τ).loc main_arg1) : Vec Ideal S4x896 .f32) (ix2 0 D) := by
  rw [← V_v0 m c 0]
  blk_point [iblk, idx0 p, hD]

theorem w1_at (p : Fin cfg0.N) (d : Fin 128) (D : Fin 896) (hD : D.val = p.val / 2 * 128 + d.val) :
    (View.ld (iblk m c 2 p : Vec Ideal S8x128 .f32) (Rect.unit ![1, 0] ![1, 128] inb_S8x128_S1x128_1_0) : Vec Ideal S1x128 .f32) (ix2 0 d)
      = (m ((c.tc : Thread nD τ).loc main_arg1) : Vec Ideal S4x896 .f32) (ix2 1 D) := by
  rw [← V_v0 m c 1]
  blk_point [iblk, idx0 p, hD]

theorem w2_at (p : Fin cfg0.N) (d : Fin 128) (D : Fin 896) (hD : D.val = p.val / 2 * 128 + d.val) :
    (View.ld (iblk m c 2 p : Vec Ideal S8x128 .f32) (Rect.unit ![2, 0] ![1, 128] inb_S8x128_S1x128_2_0) : Vec Ideal S1x128 .f32) (ix2 0 d)
      = (m ((c.tc : Thread nD τ).loc main_arg1) : Vec Ideal S4x896 .f32) (ix2 2 D) := by
  rw [← V_v0 m c 2]
  blk_point [iblk, idx0 p, hD]

theorem w3_at (p : Fin cfg0.N) (d : Fin 128) (D : Fin 896) (hD : D.val = p.val / 2 * 128 + d.val) :
    (View.ld (iblk m c 2 p : Vec Ideal S8x128 .f32) (Rect.unit ![3, 0] ![1, 128] inb_S8x128_S1x128_3_0) : Vec Ideal S1x128 .f32) (ix2 0 d)
      = (m ((c.tc : Thread nD τ).loc main_arg1) : Vec Ideal S4x896 .f32) (ix2 3 D) := by
  rw [← V_v0 m c 3]
  blk_point [iblk, idx0 p, hD]

/-- Rows before the current one within a block are rows before the current token. -/
theorem past_at (p : Fin cfg0.N) (k : ℕ) (r : Fin 2048) (d : Fin 128) (T : Fin 4096) (D : Fin 896)
    (hT : T.val = p.val % 2 * 2048 + r.val) (hD : D.val = p.val / 2 * 128 + d.val) :
    pastB (iblk m c 1 p) k r d = past (m ((c.tc : Thread nD τ).loc main_arg0)) k T D := by
  unfold past pastB
  have e : T.val % 2048 = r.val := by omega
  rw [e]
  by_cases h : r.val < k
  · rw [if_pos h, if_pos h]
  · rw [if_neg h, if_neg h]
    exact x_at m c p _ d _ D (by show T.val - k = p.val % 2 * 2048 + (r.val - k); omega) hD

/-- Rows after the current one within a block are rows after the current token. -/
theorem later_at (p : Fin cfg0.N) (w : EReal) (k : ℕ) (r : Fin 2048) (d : Fin 128) (T : Fin 4096) (D : Fin 896)
    (hT : T.val = p.val % 2 * 2048 + r.val) (hD : D.val = p.val / 2 * 128 + d.val) :
    laterB w (iblk m c 0 p) k r d = later w (m ((c.tc : Thread nD τ).loc main_arg2)) k T D := by
  unfold later laterB
  have e : T.val % 2048 = r.val := by omega
  by_cases h : r.val + k < 2048
  · rw [dif_pos h, dif_pos (by rw [e]; exact h)]
    exact congrArg (fun z : EReal => w * z) (g_at m c p _ d _ D (by show T.val + k = p.val % 2 * 2048 + (r.val + k); omega) hD)
  · rw [dif_neg h, dif_neg (by rw [e]; exact h)]

theorem out_at (p : Fin cfg0.N) (r : Fin 2048) (d : Fin 128) (T : Fin 4096) (D : Fin 896)
    (hT : T.val = p.val % 2 * 2048 + r.val) (hD : D.val = p.val / 2 * 128 + d.val) :
    (outsAt0 m c p.val p.isLt).1 (ix2 r d)
      = dx (m ((c.tc : Thread nD τ).loc main_arg1)) (m ((c.tc : Thread nD τ).loc main_arg2)) (ix2 T D) := by
  have e : ∀ a b c d : EReal, ((a + b) + c) + d = ((a + d) + c) + b := fun a b c d => by abel
  by_cases h : p.val % 2 = 0
  · rw [outsAt0_A m c p h]
    dsimp only
    frame_out
    rw [dx_at, later_at m c p _ 0 r d T D hT hD, later_at m c p _ 1 r d T D hT hD, later_at m c p _ 2 r d T D hT hD,
      later_at m c p _ 3 r d T D hT hD, w3_at m c p d D hD, w0_at m c p d D hD, w1_at m c p d D hD, w2_at m c p d D hD]
    exact e _ _ _ _
  · rw [outsAt0_B m c p h]
    dsimp only
    frame_out
    rw [dx_at, later_at m c p _ 0 r d T D hT hD, later_at m c p _ 1 r d T D hT hD, later_at m c p _ 2 r d T D hT hD,
      later_at m c p _ 3 r d T D hT hD, w3_at m c p d D hD, w0_at m c p d D hD, w1_at m c p d D hD, w2_at m c p d D hD]
    exact e _ _ _ _

/-- What a grid point adds to the array of the weights and the bias. -/
theorem added (acc : Vec Ideal S8x128 .f32) (p : Fin cfg0.N) (b : Fin 2) (hb : b.val = p.val % 2) (j : Fin 8) (d : Fin 128)
    (D : Fin 896) (hD : D.val = p.val / 2 * 128 + d.val) :
    k0_pay11 (F := Ideal) (k0_pay2 (iblk m c 0 p) (iblk m c 1 p)) (k0_pay4 (iblk m c 0 p) (iblk m c 1 p))
      (k0_pay6 (iblk m c 0 p) (iblk m c 1 p) (iota .tc S2048x1 32 [0] iota_S2048x1_d0_w32))
      (k0_pay8 (iblk m c 0 p) (iblk m c 1 p) (iota .tc S2048x1 32 [0] iota_S2048x1_d0_w32)) (k0_pay9 (iblk m c 0 p)) acc (ix2 j d)
      = (acc (ix2 j d) : EReal)
        + rowPart (m ((c.tc : Thread nD τ).loc main_arg0)) (m ((c.tc : Thread nD τ).loc main_arg2)) j D b := by
  rw [dw_at]
  unfold rowPart dwPart dbPart
  refine congrArg _ ?_
  by_cases h4 : j.val < 4
  · rw [if_pos h4, if_pos h4]
    refine Finset.sum_congr rfl fun s _ => ?_
    exact congrArg₂ (fun u v : EReal => u * v) (g_at m c p s d _ D (by show b.val * 2048 + s.val = _; rw [hb]) hD)
      (past_at m c p _ s d _ D (by show b.val * 2048 + s.val = _; rw [hb]) hD)
  · rw [if_neg h4, if_neg h4]
    by_cases h5 : j.val = 4
    · rw [if_pos h5, if_pos h5]
      exact Finset.sum_congr rfl fun s _ => g_at m c p s d _ D (by show b.val * 2048 + s.val = _; rw [hb]) hD
    · rw [if_neg h5, if_neg h5]

theorem zero_at (j : Fin 8) (d : Fin 128) : k0_pay1 (F := Ideal) (ix2 j d) = (0 : EReal) := by
  pointwise [k0_pay1]

theorem first_at (p : Fin cfg0.N) (h : p.val % 2 = 0) (j : Fin 8) (d : Fin 128) (D : Fin 896) (hD : D.val = p.val / 2 * 128 + d.val) :
    (outsAt0 m c p.val p.isLt).2 (ix2 j d)
      = rowPart (m ((c.tc : Thread nD τ).loc main_arg0)) (m ((c.tc : Thread nD τ).loc main_arg2)) j D 0 := by
  rw [outsAt0_A m c p h]
  dsimp only
  frame_out
  rw [added m c _ p 0 (by rw [h]; rfl) j d D hD, zero_at, zero_add]

theorem second_at (p : Fin cfg0.N) (h : p.val % 2 = 1) (j : Fin 8) (d : Fin 128) (D : Fin 896) (hD : D.val = p.val / 2 * 128 + d.val) :
    (outsAt0 m c p.val p.isLt).2 (ix2 j d)
      = rows (m ((c.tc : Thread nD τ).loc main_arg0)) (m ((c.tc : Thread nD τ).loc main_arg2)) (ix2 j D) := by
  rw [outsAt0_B m c p (by omega)]
  dsimp only
  frame_out
  rw [added m c _ p 1 (by rw [h]; rfl) j d D hD]
  exact congrArg (fun z : EReal => z + _) (first_at m c ⟨p.val - 1, by omega⟩ (by show (p.val - 1) % 2 = 0; omega) j d D
    (by show D.val = (p.val - 1) / 2 * 128 + d.val; omega))

theorem final3 : (dats m 0 c).arrAt 3 cfg0.N
    = dx (m ((c.tc : Thread nD τ).loc main_arg1)) (m ((c.tc : Thread nD τ).loc main_arg2)) := by
  refine (dats m 0 c).arrAt_eq_of_covers 3 _ (by decide +kernel) fun p _ y => ?_
  blk_simp
  rw [after0_3]
  idx_vars y
  obtain ⟨T, eT⟩ : ∃ T : Fin 4096, ((View.whole main_v1_0).slice (win0_3.rect p)).emb (ix2 y0 y1) 0 = T := ⟨_, rfl⟩
  obtain ⟨D, eD⟩ : ∃ D : Fin 896, ((View.whole main_v1_0).slice (win0_3.rect p)).emb (ix2 y0 y1) 1 = D := ⟨_, rfl⟩
  have hT : T.val = p.val % 2 * 2048 + y0.val := by
    rw [← eT]
    show win0_3.index p 0 * 2048 + 1 * y0.val = _
    rw [(idx0 p).2.2.2.1]
    show p.val % 2 * 2048 + 1 * y0.val = _
    omega
  have hD : D.val = p.val / 2 * 128 + y1.val := by
    rw [← eD]
    show win0_3.index p 1 * 128 + 1 * y1.val = _
    rw [(idx0 p).2.2.2.1]
    show p.val / 2 * 128 + 1 * y1.val = _
    omega
  rw [out_at m c p y0 y1 T D hT hD]
  dsimp only [dx]
  rw [eT, eD]
  rfl

theorem final4 : (dats m 0 c).arrAt 4 cfg0.N
    = rows (m ((c.tc : Thread nD τ).loc main_arg0)) (m ((c.tc : Thread nD τ).loc main_arg2)) := by
  refine (dats m 0 c).arrAt_eq_of_covers 4 _ (by decide +kernel) fun p hp y => ?_
  have h1 : p.val % 2 = 1 := (flush0_4 p).mp hp
  blk_simp
  rw [after0_4]
  idx_vars y
  obtain ⟨J, eJ⟩ : ∃ J : Fin 8, ((View.whole main_v1_1).slice (win0_4.rect p)).emb (ix2 y0 y1) 0 = J := ⟨_, rfl⟩
  obtain ⟨D, eD⟩ : ∃ D : Fin 896, ((View.whole main_v1_1).slice (win0_4.rect p)).emb (ix2 y0 y1) 1 = D := ⟨_, rfl⟩
  have hJ : J.val = y0.val := by
    rw [← eJ]
    show win0_4.index p 0 * 8 + 1 * y0.val = _
    rw [(idx0 p).2.2.2.2]
    show 0 * 8 + 1 * y0.val = _
    omega
  have hD : D.val = p.val / 2 * 128 + y1.val := by
    rw [← eD]
    show win0_4.index p 1 * 128 + 1 * y1.val = _
    rw [(idx0 p).2.2.2.2]
    show p.val / 2 * 128 + 1 * y1.val = _
    omega
  rw [second_at m c p h1 y0 y1 D hD]
  dsimp only [rows]
  rw [eJ, eD, show J = y0 from Fin.ext hJ]
  rfl

/-- The run's results: the call's first array, and four rows and one row of its second. -/
theorem results (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v1_0)
        = dx (m ((c.tc : Thread nD τ).loc main_arg1)) (m ((c.tc : Thread nD τ).loc main_arg2))
      ∧ r.2.mem ((c.tc : Thread nD τ).loc main_v2)
        = dw (m ((c.tc : Thread nD τ).loc main_arg0)) (m ((c.tc : Thread nD τ).loc main_arg2))
      ∧ r.2.mem ((c.tc : Thread nD τ).loc main_v3) = db (m ((c.tc : Thread nD τ).loc main_arg2)) := by
  have e4 : Pipeline.withArrays (cfgs 0).spec c (V0 m c) (fun w => (dats m 0 c).arrAt w (cfgs 0).N) (Proc.devRef .tc main_v1_1)
      = rows (m ((c.tc : Thread nD τ).loc main_arg0)) (m ((c.tc : Thread nD τ).loc main_arg2)) :=
    (Pipeline.withArrays_arr spec0 (by decide) c (V0 m c) (fun w => (dats m 0 c).arrAt w cfg0.N) 4).trans (final4 m c)
  refine ⟨(h.out_eq c 3).trans (final3 m c), (h.rest_eq c main_v2 (by decide)).trans ?_, (h.rest_eq c main_v3 (by decide)).trans ?_⟩
  · unfold Pipeline.afterTail₀
    simp only [hostOps1, List.flatten_cons, List.flatten_nil, List.append_nil]
    after_results
    rw [e4]
    funext i
    idx_vars i
    pointwise []
    exact rows_weights _ _ i0 i1
  · unfold Pipeline.afterTail₀
    simp only [hostOps1, List.flatten_cons, List.flatten_nil, List.append_nil]
    after_results
    rw [e4]
    funext i
    idx_vars i
    pointwise []
    exact rows_bias _ _ i0 i1

end Kernel

/-! ## The reference's arrays -/

section Reference

open Cert.Reference6Ideal Cert.Reference6Ideal.Gen

/-- The sum over the first two axes of three, at an index. -/
theorem sum_two_axes {n0 n1 n2 : ℕ} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ a : Fin n0, ∑ b : Fin n1, v (ix3 a b d) := by
  refine congrArg (fun z => init + z) ?_
  refine (Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans ?_
  · funext a
    match a with
    | ⟨0, _⟩ => rfl
    | ⟨1, _⟩ => rfl
    | ⟨2, _⟩ => exact (congrFun e 0).symm
  · rintro ⟨k, rfl⟩
    funext a
    match a with
    | ⟨0, _⟩ => rfl
  · simp only [Fintype.sum_prod_type]

theorem past_of (x : FVec Ideal S4096x3072 .f32) (j k : ℕ) (hk : k + j = 3) (b : Fin 2) (s : Fin 2048) (d : Fin 896)
    (q : Fin 4096) (hq : ¬ s.val < k → q.val = b.val * 2048 + s.val - k) :
    (if h : j + s.val < 3 then (0 : EReal) else x (ix2 q ⟨1792 + d.val, by omega⟩))
      = past x k ⟨b.val * 2048 + s.val, by omega⟩ d := by
  unfold past
  have e : (b.val * 2048 + s.val) % 2048 = s.val := by omega
  dsimp only
  by_cases h : s.val < k
  · rw [dif_pos (by omega), if_pos (by rw [e]; exact h)]
  · rw [dif_neg (by omega), if_neg (by rw [e]; exact h)]
    exact congrArg (fun t => x (ix2 t ⟨1792 + d.val, by omega⟩)) (Fin.ext (hq h))

theorem later_of (w : EReal) (g : FVec Ideal S4096x896 .f32) (k : ℕ) (t : Fin 4096) (d : Fin 896) (P : Prop) [Decidable P]
    (q : P → Fin 4096) (hP : P ↔ t.val % 2048 + k < 2048) (hq : ∀ h, (q h).val = t.val + k) :
    (if h : P then w * g (ix2 (q h) d) else 0) = later w g k t d := by
  unfold later
  by_cases h : P
  · rw [dif_pos h, dif_pos (hP.mp h)]
    exact congrArg (fun t => w * g (ix2 t d)) (Fin.ext (hq h))
  · rw [dif_neg h, dif_neg (fun z => h (hP.mpr z))]

theorem dx_ref (a1 : FVec Ideal S4x896 .f32) (a2 : FVec Ideal S4096x896 .f32) :
    (truncf .bf16 (shapeCast _ (extractStridedSlice S2x2048x896 ![0, 3, 0] (addf (addf (addf (pad S2x2051x896 ![0, 3, 0] ![0, 0, 0] ![0, 0, 0] (mulf (broadcastInDim S2x2048x896 ![0, 1, 2] bcast_S1x1x896_S2x2048x896_0_1_2 (broadcastInDim S1x1x896 ![2] bcast_S896_S1x1x896_2 (shapeCast _ (extractStridedSlice S1x896 ![3, 0] a1 slices_S4x896_S1x896_3_0) shapeCasts_S1x896_S896))) (shapeCast _ a2 shapeCasts_S4096x896_S2x2048x896)) (constant S_ .f32 0x00000000#32) pads_S2x2048x896_S2x2051x896_000_300_000 h_S_) (pad S2x2051x896 ![0, 2, 0] ![0, 1, 0] ![0, 0, 0] (mulf (broadcastInDim S2x2048x896 ![0, 1, 2] bcast_S1x1x896_S2x2048x896_0_1_2 (broadcastInDim S1x1x896 ![2] bcast_S896_S1x1x896_2 (shapeCast _ (extractStridedSlice S1x896 ![2, 0] a1 slices_S4x896_S1x896_2_0) shapeCasts_S1x896_S896))) (shapeCast _ a2 shapeCasts_S4096x896_S2x2048x896)) (constant S_ .f32 0x00000000#32) pads_S2x2048x896_S2x2051x896_000_210_000 h_S_)) (pad S2x2051x896 ![0, 1, 0] ![0, 2, 0] ![0, 0, 0] (mulf (broadcastInDim S2x2048x896 ![0, 1, 2] bcast_S1x1x896_S2x2048x896_0_1_2 (broadcastInDim S1x1x896 ![2] bcast_S896_S1x1x896_2 (shapeCast _ (extractStridedSlice S1x896 ![1, 0] a1 slices_S4x896_S1x896_1_0) shapeCasts_S1x896_S896))) (shapeCast _ a2 shapeCasts_S4096x896_S2x2048x896)) (constant S_ .f32 0x00000000#32) pads_S2x2048x896_S2x2051x896_000_120_000 h_S_)) (pad S2x2051x896 ![0, 0, 0] ![0, 3, 0] ![0, 0, 0] (mulf (broadcastInDim S2x2048x896 ![0, 1, 2] bcast_S1x1x896_S2x2048x896_0_1_2 (broadcastInDim S1x1x896 ![2] bcast_S896_S1x1x896_2 (shapeCast _ (extractStridedSlice S1x896 ![0, 0] a1 slices_S4x896_S1x896_0_0) shapeCasts_S1x896_S896))) (shapeCast _ a2 shapeCasts_S4096x896_S2x2048x896)) (constant S_ .f32 0x00000000#32) pads_S2x2048x896_S2x2051x896_000_030_000 h_S_)) slices_S2x2051x896_S2x2048x896_0_3_0) shapeCasts_S2x2048x896_S4096x896) bitsLt_bf16_f32 : FVec Ideal S4096x896 .bf16) = dx a1 a2 := by
  funext i
  idx_vars i
  pointwise []
  have e2 : i0.val / 2048 < 2 := by omega
  have em : i0.val % 2048 < 2048 := by omega
  exact congrArg₂ (fun u v : EReal => u + v) (congrArg₂ (fun u v : EReal => u + v)
    (congrArg₂ (fun u v : EReal => u + v)
      (later_of (a1 (ix2 3 i1)) a2 0 i0 i1 _ (fun _ => i0) (by omega) (fun _ => rfl))
      (later_of (a1 (ix2 2 i1)) a2 1 i0 i1 _ (fun h => ⟨i0.val / 2048 * 2048 + (3 + i0.val % 2048 - 2), by omega⟩) (by omega)
        (fun _ => by show i0.val / 2048 * 2048 + (3 + i0.val % 2048 - 2) = i0.val + 1; omega)))
      (later_of (a1 (ix2 1 i1)) a2 2 i0 i1 _ (fun h => ⟨i0.val / 2048 * 2048 + (3 + i0.val % 2048 - 1), by omega⟩) (by omega)
        (fun _ => by show i0.val / 2048 * 2048 + (3 + i0.val % 2048 - 1) = i0.val + 2; omega)))
      (later_of (a1 (ix2 0 i1)) a2 3 i0 i1 _ (fun h => ⟨i0.val / 2048 * 2048 + (3 + i0.val % 2048), by omega⟩) (by omega)
        (fun _ => by show i0.val / 2048 * 2048 + (3 + i0.val % 2048) = i0.val + 3; omega))

theorem one_by_one (z : EReal) : ∑ _x : Fin 1, ∑ _y : Fin 1, z = z := by
  rw [Fin.sum_univ_one, Fin.sum_univ_one]

theorem dw_ref (a0 : FVec Ideal S4096x3072 .f32) (a2 : FVec Ideal S4096x896 .f32) :
    (addf (addf (addf (pad S4x896 ![3, 0] ![0, 0] ![0, 0] (broadcastInDim S1x896 ![1] bcast_S896_S1x896_1 (Host.reduceAdd (shapeCast _ (Host.reduceAdd (mulf (shapeCast _ a2 shapeCasts_S4096x896_S2x2048x896) (extractStridedSlice S2x2048x896 ![0, 3, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_3_0)) (constant S_ .f32 0x00000000#32) reducesTo_S2x2048x896_S896_d0_1 h_S_) shapeCasts_S896_S1x1x896) (constant S_ .f32 0x00000000#32) reducesTo_S1x1x896_S896_d0_1 h_S_)) (constant S_ .f32 0x00000000#32) pads_S1x896_S4x896_300_000 h_S_) (pad S4x896 ![2, 0] ![1, 0] ![0, 0] (broadcastInDim S1x896 ![1] bcast_S896_S1x896_1 (Host.reduceAdd (shapeCast _ (Host.reduceAdd (mulf (shapeCast _ a2 shapeCasts_S4096x896_S2x2048x896) (extractStridedSlice S2x2048x896 ![0, 2, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_2_0)) (constant S_ .f32 0x00000000#32) reducesTo_S2x2048x896_S896_d0_1 h_S_) shapeCasts_S896_S1x1x896) (constant S_ .f32 0x00000000#32) reducesTo_S1x1x896_S896_d0_1 h_S_)) (constant S_ .f32 0x00000000#32) pads_S1x896_S4x896_210_000 h_S_)) (pad S4x896 ![1, 0] ![2, 0] ![0, 0] (broadcastInDim S1x896 ![1] bcast_S896_S1x896_1 (Host.reduceAdd (shapeCast _ (Host.reduceAdd (mulf (shapeCast _ a2 shapeCasts_S4096x896_S2x2048x896) (extractStridedSlice S2x2048x896 ![0, 1, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_1_0)) (constant S_ .f32 0x00000000#32) reducesTo_S2x2048x896_S896_d0_1 h_S_) shapeCasts_S896_S1x1x896) (constant S_ .f32 0x00000000#32) reducesTo_S1x1x896_S896_d0_1 h_S_)) (constant S_ .f32 0x00000000#32) pads_S1x896_S4x896_120_000 h_S_)) (pad S4x896 ![0, 0] ![3, 0] ![0, 0] (broadcastInDim S1x896 ![1] bcast_S896_S1x896_1 (Host.reduceAdd (shapeCast _ (Host.reduceAdd (mulf (shapeCast _ a2 shapeCasts_S4096x896_S2x2048x896) (extractStridedSlice S2x2048x896 ![0, 0, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_0_0)) (constant S_ .f32 0x00000000#32) reducesTo_S2x2048x896_S896_d0_1 h_S_) shapeCasts_S896_S1x1x896) (constant S_ .f32 0x00000000#32) reducesTo_S1x1x896_S896_d0_1 h_S_)) (constant S_ .f32 0x00000000#32) pads_S1x896_S4x896_030_000 h_S_) : FVec Ideal S4x896 .f32) = dw a0 a2 := by
  funext i
  idx_vars i
  pointwise [sum_two_axes]
  obtain ⟨k, hk⟩ := i0
  interval_cases k
  · refine (congrArg₂ (fun u v : EReal => u + v) (congrArg₂ (fun u v : EReal => u + v) (congrArg₂ (fun u v : EReal => u + v)
      (dif_neg (by simp)) (dif_neg (by simp))) (dif_neg (by simp))) (dif_pos (by simp))).trans ?_
    show ((0 + 0) + 0 : EReal) + _ = _
    rw [add_zero, add_zero, zero_add, one_by_one]
    refine Finset.sum_congr rfl fun b _ => ?_
    show _ = ∑ s : Fin (3 + 2045), (a2 (ix2 ⟨b.val * 2048 + s.val, by omega⟩ i1) : EReal) * past a0 3 ⟨b.val * 2048 + s.val, by omega⟩ i1
    rw [Fin.sum_univ_add]
    refine congrArg₂ (fun u v : EReal => u + v) (Finset.sum_congr rfl fun s _ => congrArg _ ?_) (Finset.sum_congr rfl fun s _ => congrArg _ ?_)
    · unfold past
      rw [if_pos (by show (b.val * 2048 + s.val) % 2048 < 3; omega)]
    · refine Eq.symm ((if_neg (show ¬ (b.val * 2048 + (3 + s.val)) % 2048 < 3 by omega)).trans ?_)
      exact congrArg (fun t => a0 (ix2 t ⟨1792 + i1.val, by omega⟩)) (Fin.ext (by
        show b.val * 2048 + (3 + s.val) - 3 = b.val * 2048 + s.val; omega))
  · refine (congrArg₂ (fun u v : EReal => u + v) (congrArg₂ (fun u v : EReal => u + v) (congrArg₂ (fun u v : EReal => u + v)
      (dif_neg (by simp)) (dif_neg (by simp))) (dif_pos (by simp))) (dif_neg (by simp))).trans ?_
    show ((0 + 0) + _ : EReal) + 0 = _
    rw [add_zero, add_zero, zero_add, one_by_one]
    refine Finset.sum_congr rfl fun b _ => Finset.sum_congr rfl fun s _ => congrArg _ ?_
    exact past_of a0 1 2 rfl b s i1 ⟨b.val * 2048 + (1 + s.val - 3), by omega⟩ (fun _ => by show b.val * 2048 + (1 + s.val - 3) = _; omega)
  · refine (congrArg₂ (fun u v : EReal => u + v) (congrArg₂ (fun u v : EReal => u + v) (congrArg₂ (fun u v : EReal => u + v)
      (dif_neg (by simp)) (dif_pos (by simp))) (dif_neg (by simp))) (dif_neg (by simp))).trans ?_
    show ((0 + _) + 0 : EReal) + 0 = _
    rw [add_zero, add_zero, zero_add, one_by_one]
    refine Finset.sum_congr rfl fun b _ => Finset.sum_congr rfl fun s _ => congrArg _ ?_
    exact past_of a0 2 1 rfl b s i1 ⟨b.val * 2048 + (2 + s.val - 3), by omega⟩ (fun _ => by show b.val * 2048 + (2 + s.val - 3) = _; omega)
  · refine (congrArg₂ (fun u v : EReal => u + v) (congrArg₂ (fun u v : EReal => u + v) (congrArg₂ (fun u v : EReal => u + v)
      (dif_pos (by simp)) (dif_neg (by simp))) (dif_neg (by simp))) (dif_neg (by simp))).trans ?_
    show ((_ + 0) + 0 : EReal) + 0 = _
    rw [add_zero, add_zero, add_zero, one_by_one]
    rfl

theorem db_ref (a2 : FVec Ideal S4096x896 .f32) :
    (broadcastInDim S1x896 ![1] bcast_S896_S1x896_1 (Host.reduceAdd (shapeCast _ (Host.reduceAdd (shapeCast _ a2 shapeCasts_S4096x896_S2x2048x896) (constant S_ .f32 0x00000000#32) reducesTo_S2x2048x896_S896_d0_1 h_S_) shapeCasts_S896_S1x1x896) (constant S_ .f32 0x00000000#32) reducesTo_S1x1x896_S896_d0_1 h_S_) : FVec Ideal S1x896 .f32) = db a2 := by
  funext i
  idx_vars i
  pointwise [sum_two_axes]
  rw [one_by_one]
  rfl

end Reference

/-! ## The claim -/

theorem algebraic : Cert.algebraic_Kernel6Ideal_Reference6Ideal := by
  intro m g m' g' _ hagree
  refine ⟨fun c => dx (m ((c.tc : Thread _ _).loc Cert.Kernel6Ideal.main_arg1)) (m ((c.tc : Thread _ _).loc Cert.Kernel6Ideal.main_arg2)),
    fun c => dw (m ((c.tc : Thread _ _).loc Cert.Kernel6Ideal.main_arg0)) (m ((c.tc : Thread _ _).loc Cert.Kernel6Ideal.main_arg2)),
    fun c => db (m ((c.tc : Thread _ _).loc Cert.Kernel6Ideal.main_arg2)), ?_, ?_⟩
  · refine (θ_run _ _ _).mono (fun _ h c => ?_) (θ_run_and (Cert.Kernel6Ideal.Gen.run_main m g) (Cert.Kernel6Ideal.Gen.unchanged m g))
    obtain ⟨h0, h1, h2⟩ := results m c _ h.1
    exact ⟨h0, h1, h2, h.2 c⟩
  · refine (θ_run _ _ _).mono (fun _ h c => ?_) (Cert.Reference6Ideal.Value.run m' g')
    obtain ⟨h0, h1, h2, h3⟩ := h c
    obtain ⟨e0, e1, e2⟩ := hagree c
    rw [e1, e2] at h0
    rw [e0, e2] at h1
    rw [e2] at h2
    exact ⟨h0.trans (dx_ref _ _), h1.trans (dw_ref _ _), h2.trans (db_ref _), h3⟩

end Cert.ConvGrad

end
-- ==== Proof.Conv.lean ====
/- The convolution over the four latest tokens, forward: the kernel shifts a sequence by rotating its rows and blanking the ones
   that came round; the reference puts three rows of zeros in front of it. -/
module

public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Conv

/-! ## The kernel's array -/

section Kernel

open Cert.Kernel7Ideal Cert.Kernel7Ideal.Gen Cert.Kernel7Ideal.Value

/-- Lane `d` of the convolved columns `k` tokens before token `t`, nothing before the start of its sequence. -/
def past (x : Vec Ideal S4096x3072 .f32) (k : ℕ) (t : Fin 4096) (d : Fin 896) : EReal :=
  if t.val % 2048 < k then 0 else x (ix2 ⟨t.val - k, by omega⟩ ⟨1792 + d.val, by omega⟩)

/-- The convolution. -/
abbrev conv (x : Vec Ideal S4096x3072 .f32) (w : Vec Ideal S4x896 .f32) (b : Vec Ideal S1x896 .f32) : Vec Ideal S4096x896 .f32 :=
  fun i => ((((w (ix2 0 (i 1)) : EReal) * past x 3 (i 0) (i 1) + w (ix2 1 (i 1)) * past x 2 (i 0) (i 1))
    + w (ix2 2 (i 1)) * past x 1 (i 0) (i 1)) + w (ix2 3 (i 1)) * past x 0 (i 0) (i 1)) + b (ix2 0 (i 1))

theorem reorder (a b c d e : EReal) : (((a + b) + c) + d) + e = (((c + d) + e) + b) + a := by
  abel

theorem sge3 : ∀ r : Fin 2048, IntOp.cmpi .sge (BitVec.ofNat 32 r.val) 3#32 = if r.val < 3 then 0#1 else 1#1 := by
  decide +kernel
theorem sge2 : ∀ r : Fin 2048, IntOp.cmpi .sge (BitVec.ofNat 32 r.val) 2#32 = if r.val < 2 then 0#1 else 1#1 := by
  decide +kernel
theorem sge1 : ∀ r : Fin 2048, IntOp.cmpi .sge (BitVec.ofNat 32 r.val) 1#32 = if r.val < 1 then 0#1 else 1#1 := by
  decide +kernel

theorem pay_at (x : Vec Ideal S2048x128 .f32) (b w0 w1 w2 w3 : Vec Ideal S1x128 .f32) (r : Fin 2048) (d : Fin 128) :
    k0_pay1 (F := Ideal) (k0_pay2 x b w3 w0 w1) (k0_pay3 x) k0_pay4 k0_pay5 w2 (ix2 r d)
      = (((((b (ix2 0 d) : EReal) + w3 (ix2 0 d) * x (ix2 r d))
        + w0 (ix2 0 d) * (if r.val < 3 then 0 else x (ix2 ⟨r.val - 3, by omega⟩ d)))
        + w1 (ix2 0 d) * (if r.val < 2 then 0 else x (ix2 ⟨r.val - 2, by omega⟩ d)))
        + w2 (ix2 0 d) * (if r.val < 1 then 0 else x (ix2 ⟨r.val - 1, by omega⟩ d))) := by
  pointwise [k0_pay1, k0_pay2, k0_pay3, k0_pay4, k0_pay5]
  rw [sge3, sge2, sge1]
  refine congrArg₂ (fun u v : EReal => u + v) (congrArg₂ (fun u v : EReal => u + v) (congrArg _ ?_) ?_) ?_
  · by_cases h : r.val < 3
    · rw [if_pos h, if_pos h]; exact (mul_zero _).symm
    · rw [if_neg h, if_neg h]
      exact congrArg (fun t => (w0 (ix2 0 d) : EReal) * x (ix2 t d)) (Fin.ext (by show (r.val + 2048 - 3) % 2048 = r.val - 3; omega))
  · by_cases h : r.val < 2
    · rw [if_pos h, if_pos h]; exact (mul_zero _).symm
    · rw [if_neg h, if_neg h]
      exact congrArg (fun t => (w1 (ix2 0 d) : EReal) * x (ix2 t d)) (Fin.ext (by show (r.val + 2048 - 2) % 2048 = r.val - 2; omega))
  · by_cases h : r.val < 1
    · rw [if_pos h, if_pos h]; exact (mul_zero _).symm
    · rw [if_neg h, if_neg h]
      exact congrArg (fun t => (w2 (ix2 0 d) : EReal) * x (ix2 t d)) (Fin.ext (by show (r.val + 2048 - 1) % 2048 = r.val - 1; omega))

variable (m : (ℓ : Loc nD τ sig) → Buf (Elt Ideal) ℓ) (c : Dev nD)

theorem V_v0 (k : Fin 4) (d : Fin 896) :
    (V m c main_v0 : Vec Ideal S8x896 .f32) (ix2 ⟨k.val, by omega⟩ d)
      = (m ((c.tc : Thread nD τ).loc main_arg1) : Vec Ideal S4x896 .f32) (ix2 k d) := by
  show (StableHlo.after (List.flatten [hostOps0, hostOps0_1]) (fun b => m (c, b)) (Proc.devRef .tc main_v0) : Vec Ideal S8x896 .f32) _ = _
  simp only [hostOps0, hostOps0_1, List.flatten_cons, List.flatten_nil, List.append_nil, List.cons_append, List.nil_append]
  after_results
  show (pad S8x896 ![0, 0] ![4, 0] ![0, 0] (m ((c.tc : Thread nD τ).loc main_arg1) : Vec Ideal S4x896 .f32)
    (sitofp (F := Ideal) .f32 (constantI S_ 32 0#32) : Vec Ideal S_ .f32) pads_S4x896_S8x896_040_000 h_S_ : Vec Ideal S8x896 .f32) _ = _
  pointwise []
  refine dif_pos (show ∀ a : Fin 2, _ from fun a => ?_)
  match a with
  | 0 => exact ⟨Nat.zero_le _, Nat.mod_one _, by show (k.val - 0) / 1 < 4; omega⟩
  | 1 => exact ⟨Nat.zero_le _, Nat.mod_one _, by show (d.val - 0) / 1 < 896; omega⟩

/-- Where the blocks of the call's windows sit. -/
theorem idx0 : ∀ t : Fin cfg0.N, win0_0.index t = ![t.val / 7, 14 + t.val % 7] ∧ win0_1.index t = ![0, t.val % 7]
    ∧ win0_2.index t = ![0, t.val % 7] ∧ win0_3.index t = ![t.val / 7, t.val % 7] :=
  (by decide +kernel : ∀ t : Fin grid0.N, _)

theorem x_at (p : Fin cfg0.N) (r : Fin 2048) (d : Fin 128) (T : Fin 4096) (D : Fin 896)
    (hT : T.val = p.val / 7 * 2048 + r.val) (hD : D.val = p.val % 7 * 128 + d.val) :
    (iblk m c 0 p : Vec Ideal S2048x128 .f32) (ix2 r d)
      = (m ((c.tc : Thread nD τ).loc main_arg0) : Vec Ideal S4096x3072 .f32) (ix2 T ⟨1792 + D.val, by omega⟩) := by
  rw [← V_main_arg0 m c]
  blk_point [iblk, idx0 p, hT, hD]

theorem b_at (p : Fin cfg0.N) (d : Fin 128) (D : Fin 896) (hD : D.val = p.val % 7 * 128 + d.val) :
    (iblk m c 2 p : Vec Ideal S1x128 .f32) (ix2 0 d)
      = (m ((c.tc : Thread nD τ).loc main_arg2) : Vec Ideal S1x896 .f32) (ix2 0 D) := by
  rw [← V_main_arg2 m c]
  blk_point [iblk, idx0 p, hD]

theorem w3_at (p : Fin cfg0.N) (d : Fin 128) (D : Fin 896) (hD : D.val = p.val % 7 * 128 + d.val) :
    (View.ld (iblk m c 1 p : Vec Ideal S8x128 .f32) r0_2 : Vec Ideal S1x128 .f32) (ix2 0 d)
      = (m ((c.tc : Thread nD τ).loc main_arg1) : Vec Ideal S4x896 .f32) (ix2 3 D) := by
  rw [← V_v0 m c 3]
  blk_point [iblk, idx0 p, hD]

theorem w0_at (p : Fin cfg0.N) (d : Fin 128) (D : Fin 896) (hD : D.val = p.val % 7 * 128 + d.val) :
    (View.ld (iblk m c 1 p : Vec Ideal S8x128 .f32) r0_3 : Vec Ideal S1x128 .f32) (ix2 0 d)
      = (m ((c.tc : Thread nD τ).loc main_arg1) : Vec Ideal S4x896 .f32) (ix2 0 D) := by
  rw [← V_v0 m c 0]
  blk_point [iblk, idx0 p, hD]

theorem w1_at (p : Fin cfg0.N) (d : Fin 128) (D : Fin 896) (hD : D.val = p.val % 7 * 128 + d.val) :
    (View.ld (iblk m c 1 p : Vec Ideal S8x128 .f32) r0_4 : Vec Ideal S1x128 .f32) (ix2 0 d)
      = (m ((c.tc : Thread nD τ).loc main_arg1) : Vec Ideal S4x896 .f32) (ix2 1 D) := by
  rw [← V_v0 m c 1]
  blk_point [iblk, idx0 p, hD]

theorem w2_at (p : Fin cfg0.N) (d : Fin 128) (D : Fin 896) (hD : D.val = p.val % 7 * 128 + d.val) :
    (View.ld (iblk m c 1 p : Vec Ideal S8x128 .f32) r0_5 : Vec Ideal S1x128 .f32) (ix2 0 d)
      = (m ((c.tc : Thread nD τ).loc main_arg1) : Vec Ideal S4x896 .f32) (ix2 2 D) := by
  rw [← V_v0 m c 2]
  blk_point [iblk, idx0 p, hD]

/-- Rows before the current one within a block are rows before the current token. -/
theorem past_at (p : Fin cfg0.N) (k : ℕ) (r : Fin 2048) (d : Fin 128) (T : Fin 4096) (D : Fin 896)
    (hT : T.val = p.val / 7 * 2048 + r.val) (hD : D.val = p.val % 7 * 128 + d.val) :
    (if r.val < k then (0 : EReal) else (iblk m c 0 p : Vec Ideal S2048x128 .f32) (ix2 ⟨r.val - k, by omega⟩ d))
      = past (m ((c.tc : Thread nD τ).loc main_arg0)) k T D := by
  unfold past
  have e : T.val % 2048 = r.val := by omega
  rw [e]
  by_cases h : r.val < k
  · rw [if_pos h, if_pos h]
  · rw [if_neg h, if_neg h]
    exact x_at m c p _ d _ D (by show T.val - k = p.val / 7 * 2048 + (r.val - k); omega) hD

theorem final : (dats m 0 c).arrAt 3 cfg0.N = conv (m ((c.tc : Thread nD τ).loc main_arg0))
    (m ((c.tc : Thread nD τ).loc main_arg1)) (m ((c.tc : Thread nD τ).loc main_arg2)) := by
  refine (dats m 0 c).arrAt_eq_of_covers 3 _ (by decide +kernel) fun p _ y => ?_
  blk_simp
  rw [after0_3]
  frame_out
  idx_vars y
  rw [pay_at]
  dsimp only [conv]
  obtain ⟨T, eT⟩ : ∃ T : Fin 4096, ((View.whole main_v1).slice (win0_3.rect p)).emb (ix2 y0 y1) 0 = T := ⟨_, rfl⟩
  obtain ⟨D, eD⟩ : ∃ D : Fin 896, ((View.whole main_v1).slice (win0_3.rect p)).emb (ix2 y0 y1) 1 = D := ⟨_, rfl⟩
  have hT : T.val = p.val / 7 * 2048 + y0.val := by
    rw [← eT]
    show win0_3.index p 0 * 2048 + 1 * y0.val = _
    rw [(idx0 p).2.2.2]
    show p.val / 7 * 2048 + 1 * y0.val = _
    omega
  have hD : D.val = p.val % 7 * 128 + y1.val := by
    rw [← eD]
    show win0_3.index p 1 * 128 + 1 * y1.val = _
    rw [(idx0 p).2.2.2]
    show p.val % 7 * 128 + 1 * y1.val = _
    omega
  rw [eT, eD, past_at m c p 3 y0 y1 T D hT hD, past_at m c p 2 y0 y1 T D hT hD, past_at m c p 1 y0 y1 T D hT hD,
    b_at m c p y1 D hD, w3_at m c p y1 D hD, w0_at m c p y1 D hD, w1_at m c p y1 D hD, w2_at m c p y1 D hD,
    ← past_at m c p 0 y0 y1 T D hT hD, if_neg (Nat.not_lt_zero _)]
  exact reorder _ _ _ _ _

end Kernel

section Reference

open Cert.Reference7Ideal Cert.Reference7Ideal.Gen

theorem ref_at (a0 : FVec Ideal S4096x3072 .f32) (a1 : FVec Ideal S4x896 .f32) (a2 : FVec Ideal S1x896 .f32) :
    shapeCast _ (addf (addf (addf (addf (mulf (broadcastInDim S2x2048x896 ![0, 1, 2] bcast_S1x1x896_S2x2048x896_0_1_2 (broadcastInDim S1x1x896 ![2] bcast_S896_S1x1x896_2 (shapeCast _ (extractStridedSlice S1x896 ![0, 0] a1 slices_S4x896_S1x896_0_0) shapeCasts_S1x896_S896))) (extractStridedSlice S2x2048x896 ![0, 0, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_0_0)) (mulf (broadcastInDim S2x2048x896 ![0, 1, 2] bcast_S1x1x896_S2x2048x896_0_1_2 (broadcastInDim S1x1x896 ![2] bcast_S896_S1x1x896_2 (shapeCast _ (extractStridedSlice S1x896 ![1, 0] a1 slices_S4x896_S1x896_1_0) shapeCasts_S1x896_S896))) (extractStridedSlice S2x2048x896 ![0, 1, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_1_0))) (mulf (broadcastInDim S2x2048x896 ![0, 1, 2] bcast_S1x1x896_S2x2048x896_0_1_2 (broadcastInDim S1x1x896 ![2] bcast_S896_S1x1x896_2 (shapeCast _ (extractStridedSlice S1x896 ![2, 0] a1 slices_S4x896_S1x896_2_0) shapeCasts_S1x896_S896))) (extractStridedSlice S2x2048x896 ![0, 2, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_2_0))) (mulf (broadcastInDim S2x2048x896 ![0, 1, 2] bcast_S1x1x896_S2x2048x896_0_1_2 (broadcastInDim S1x1x896 ![2] bcast_S896_S1x1x896_2 (shapeCast _ (extractStridedSlice S1x896 ![3, 0] a1 slices_S4x896_S1x896_3_0) shapeCasts_S1x896_S896))) (extractStridedSlice S2x2048x896 ![0, 3, 0] (concatenate S2x2051x896 1 [⟨S2x3x896, (broadcastInDim S2x3x896 ![] bcast_S_S2x3x896 (constant S_ .f32 0x00000000#32))⟩, ⟨S2x2048x896, (shapeCast _ (extractStridedSlice S4096x896 ![0, 1792] a0 slices_S4096x3072_S4096x896_0_1792) shapeCasts_S4096x896_S2x2048x896)⟩] concatenates_S2x3x896_S2x2048x896_S2x2051x896_d1) slices_S2x2051x896_S2x2048x896_0_3_0))) (broadcastInDim S2x2048x896 ![0, 1, 2] bcast_S1x1x896_S2x2048x896_0_1_2 (broadcastInDim S1x1x896 ![1, 2] bcast_S1x896_S1x1x896_1_2 a2))) shapeCasts_S2x2048x896_S4096x896 = conv a0 a1 a2 := by
  funext i
  idx_vars i
  pointwise []
  dsimp only [conv]
  unfold past
  have e : ∀ (j k : ℕ) (h : j + i0.val % 2048 < 3 ↔ i0.val % 2048 < k) (hk : k + j = 3) (z : EReal),
      (if h : j + i0.val % 2048 < 3 then (0 : EReal)
        else a0 (ix2 ⟨i0.val / 2048 * 2048 + (j + i0.val % 2048 - 3), by omega⟩ ⟨1792 + i1.val, by omega⟩))
      = if i0.val % 2048 < k then 0 else a0 (ix2 ⟨i0.val - k, by omega⟩ ⟨1792 + i1.val, by omega⟩) := by
    intro j k h hk z
    by_cases hh : j + i0.val % 2048 < 3
    · rw [dif_pos hh, if_pos (h.mp hh)]
    · rw [dif_neg hh, if_neg (fun q => hh (h.mpr q))]
      exact congrArg (fun t => a0 (ix2 t ⟨1792 + i1.val, by omega⟩)) (Fin.ext (by
        show i0.val / 2048 * 2048 + (j + i0.val % 2048 - 3) = i0.val - k
        omega))
  refine congrArg₂ (fun u v : EReal => u + v) (congrArg₂ (fun u v : EReal => u + v) (congrArg₂ (fun u v : EReal => u + v)
    (congrArg₂ (fun u v : EReal => u + v) (congrArg _ ?_) (congrArg _ ?_)) (congrArg _ ?_)) (congrArg _ ?_)) rfl
  · have e0 := e 0 3 (by omega) rfl 0
    simp only [Nat.zero_add] at e0
    exact e0
  · exact e 1 2 (by omega) rfl 0
  · exact e 2 1 (by omega) rfl 0
  · rw [if_neg (Nat.not_lt_zero _)]
    rfl

end Reference
/-! ## The claim -/

theorem algebraic : Cert.algebraic_Kernel7Ideal_Reference7Ideal := by
  intro m g m' g' _ hagree
  refine ⟨fun c => conv (m ((c.tc : Thread _ _).loc Cert.Kernel7Ideal.main_arg0))
    (m ((c.tc : Thread _ _).loc Cert.Kernel7Ideal.main_arg1)) (m ((c.tc : Thread _ _).loc Cert.Kernel7Ideal.main_arg2)), ?_, ?_⟩
  · refine (θ_run _ _ _).mono (fun _ h c => ?_) (Cert.Kernel7Ideal.Value.run_blocks m g)
    obtain ⟨h0, h1⟩ := h c
    exact ⟨h0.trans (final m c), h1⟩
  · refine (θ_run _ _ _).mono (fun _ h c => ?_) (Cert.Reference7Ideal.Value.run m' g')
    obtain ⟨h0, h1⟩ := h c
    obtain ⟨e0, e1, e2⟩ := hagree c
    rw [e0, e1, e2] at h0
    exact ⟨h0.trans (ref_at _ _ _), h1⟩

end Cert.Conv

end
-- ==== Proof.AttnReal.lean ====
/- The dilated attention of one head, of real queries and keys and any values: the multiplicity of a distance, the weights and the output, and how a row of
   extended-real scores (a real score plus the logarithm of a multiplicity, or −∞) turns into them. -/
module

public import Idealize.ShloMosaic.Lib.Pointwise
public import Mathlib.Analysis.SpecialFunctions.Log.Basic

@[expose] public section

set_option maxRecDepth 16384

noncomputable section

open Idealize.ShloMosaic

namespace Cert.Attn

/-! ## Which keys a branch looks at -/

/-- The branch of window `w` and dilation `d` lets query `i` look at key `j`. -/
def Sees (w d i j : ℕ) : Prop := j ≤ i ∧ i - j ≤ w ∧ (i - j) % d = 0
instance (w d i j : ℕ) : Decidable (Sees w d i j) := by unfold Sees; infer_instance
/-- One where the branch looks, zero elsewhere. -/
def one (w d i j : ℕ) : ℝ := if Sees w d i j then 1 else 0
/-- In how many of the three branches query `i` looks at key `j`. -/
def mult (i j : ℕ) : ℝ := one 128 1 i j + one 512 4 i j + one 2048 16 i j

theorem one_nonneg (w d i j : ℕ) : 0 ≤ one w d i j := by unfold one; split <;> norm_num
theorem one_self (w d i : ℕ) : one w d i i = 1 := by simp [one, Sees]
theorem mult_nonneg (i j : ℕ) : 0 ≤ mult i j :=
  add_nonneg (add_nonneg (one_nonneg ..) (one_nonneg ..)) (one_nonneg ..)
theorem mult_self (i : ℕ) : 0 < mult i i := by simp only [mult, one_self]; norm_num
theorem mult_after (i j : ℕ) (h : i < j) : mult i j = 0 := by
  have h' : ¬ j ≤ i := by omega
  simp [mult, one, Sees, h']
theorem one_le_mult (i j : ℕ) (h : 0 < mult i j) : 1 ≤ mult i j := by
  revert h
  unfold mult one
  split <;> split <;> split <;> norm_num

/-! ## A row of scores -/

/-- A real score with the logarithm of its multiplicity: −∞ at multiplicity zero. -/
def lg (M s : ℝ) : EReal := if 0 < M then ((s + Real.log M : ℝ) : EReal) else ⊥
/-- The logarithm of a multiplicity, −∞ at zero. -/
def bias (M : ℝ) : EReal := if 0 < M then ((Real.log M : ℝ) : EReal) else ⊥

theorem add_bias (M s : ℝ) : (s : EReal) + bias M = lg M s := by
  unfold bias lg
  split
  · exact (EReal.coe_add _ _).symm
  · exact EReal.add_bot _
theorem lg_one (s : ℝ) : lg 1 s = s := by simp [lg]
theorem lg_zero (s : ℝ) : lg 0 s = ⊥ := by simp [lg]
theorem lg_ne_top (M s : ℝ) : lg M s ≠ ⊤ := by
  unfold lg
  split
  · exact EReal.coe_ne_top _
  · exact bot_ne_top

theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A sum of extended reals is multiplied by a nonnegative real term by term. -/
theorem sum_mul_real {ι : Type*} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, EReal.right_distrib_of_nonneg_of_ne_top (by exact_mod_cast hc)
      (EReal.coe_ne_top c), ih]

theorem exp_lg {M : ℝ} (hM : 0 ≤ M) (s m : ℝ) :
    Ideal.exp (lg M s - (m : EReal)) = ((M * Real.exp s * Real.exp (-m) : ℝ) : EReal) := by
  unfold lg
  split
  · rename_i h
    rw [← EReal.coe_sub, Ideal.exp_coe, sub_eq_add_neg, Real.exp_add, Real.exp_add, Real.exp_log h, mul_comm (Real.exp s)]
  · rename_i h
    obtain rfl : M = 0 := le_antisymm (not_lt.1 h) hM
    rw [EReal.bot_sub, Ideal.exp_bot]
    simp

section Row
variable {n : ℕ} (M s : Fin n → ℝ)

/-- The sum of the weights of a row. -/
def mass : ℝ := ∑ j, M j * Real.exp (s j)

variable {M}

theorem mass_pos (hM : ∀ j, 0 ≤ M j) (j0 : Fin n) (h0 : 0 < M j0) : 0 < mass M s :=
  Finset.sum_pos' (fun j _ => mul_nonneg (hM j) (Real.exp_pos _).le) ⟨j0, Finset.mem_univ _, mul_pos h0 (Real.exp_pos _)⟩

/-- The greatest of finitely many extended reals none of which is +∞ and one of which is real. -/
theorem fold_max_real (x : Fin n → EReal) (j0 : Fin n) (r0 : ℝ) (h0 : x j0 = r0) (ht : ∀ j, x j ≠ ⊤) :
    ∃ m : ℝ, Finset.univ.fold max ⊥ x = m := by
  refine ⟨_, (EReal.coe_toReal (ne_of_lt ?_) (ne_of_gt ?_)).symm⟩
  · exact (Finset.fold_max_lt _).2 ⟨bot_lt_top, fun j _ => lt_top_iff_ne_top.2 (ht j)⟩
  · exact (Finset.lt_fold_max _).2 (Or.inr ⟨j0, Finset.mem_univ _, by rw [h0]; exact EReal.bot_lt_coe _⟩)

theorem max_lg (j0 : Fin n) (h0 : 0 < M j0) : ∃ m : ℝ, Finset.univ.fold max ⊥ (fun j => lg (M j) (s j)) = m :=
  fold_max_real _ j0 (s j0 + Real.log (M j0)) (if_pos h0) fun _ => lg_ne_top _ _

theorem den_lg (hM : ∀ j, 0 ≤ M j) (m : ℝ) :
    ∑ j, Ideal.exp (lg (M j) (s j) - (m : EReal)) = ((mass M s * Real.exp (-m) : ℝ) : EReal) := by
  rw [mass, Finset.sum_mul, ← coe_sum]
  exact Finset.sum_congr rfl fun j _ => exp_lg (hM j) _ _

theorem div_real (a : ℝ) {b : ℝ} (hb : b ≠ 0) : Ideal.div (a : EReal) (b : EReal) = ((a / b : ℝ) : EReal) := by
  rw [Ideal.div_coe hb, ← EReal.coe_mul]
  exact congrArg _ (by ring)

theorem log_real {a : ℝ} (ha : 0 < a) : Ideal.log (a : EReal) = ((Real.log a : ℝ) : EReal) := by
  rw [Ideal.log_coe, if_neg (not_le.2 ha)]

theorem quot_lg (hM : ∀ j, 0 ≤ M j) (j0 : Fin n) (h0 : 0 < M j0) (m : ℝ) (v : Fin n → EReal) :
    Ideal.div (∑ j, Ideal.exp (lg (M j) (s j) - (m : EReal)) * v j)
      (∑ j, Ideal.exp (lg (M j) (s j) - (m : EReal)))
      = ∑ j, ((M j * Real.exp (s j) / mass M s : ℝ) : EReal) * v j := by
  have hd := mul_pos (mass_pos s hM j0 h0) (Real.exp_pos (-m))
  rw [den_lg s hM, Ideal.div_coe hd.ne', sum_mul_real _ _ (one_div_pos.2 hd).le]
  refine Finset.sum_congr rfl fun j _ => ?_
  rw [exp_lg (hM j), mul_right_comm, ← EReal.coe_mul, mul_one_div]
  exact congrArg (fun u : ℝ => (u : EReal) * v j) (mul_div_mul_right _ _ (Real.exp_pos _).ne')

theorem lse_lg (hM : ∀ j, 0 ≤ M j) (j0 : Fin n) (h0 : 0 < M j0) (m : ℝ) :
    (m : EReal) + Ideal.log (∑ j, Ideal.exp (lg (M j) (s j) - (m : EReal))) = ((Real.log (mass M s) : ℝ) : EReal) := by
  have hp := mass_pos s hM j0 h0
  rw [den_lg s hM, log_real (mul_pos hp (Real.exp_pos _)), ← EReal.coe_add, Real.log_mul hp.ne' (Real.exp_pos _).ne',
    Real.log_exp]
  exact congrArg _ (by ring)

end Row

/-! ## One head -/

/-- A sum over the first `w` of the 2048 keys is the sum over all when the others contribute nothing. -/
theorem sum_first {A : Type*} [AddCommMonoid A] {w : ℕ} (hw : w ≤ 2048) (f : Fin 2048 → A) (h : ∀ j : Fin 2048, w ≤ j.val → f j = 0) :
    ∑ j : Fin w, f (Fin.castLE hw j) = ∑ j, f j := by
  refine (Finset.sum_map Finset.univ (Fin.castLEEmb hw) f).symm.trans ?_
  refine Finset.sum_subset (Finset.subset_univ _) fun j _ hj => h j (not_lt.1 fun hlt => hj ?_)
  exact Finset.mem_map.2 ⟨⟨j.val, hlt⟩, Finset.mem_univ _, rfl⟩

abbrev Mat := Fin 2048 → Fin 64 → ℝ

/-- The values may be infinite. -/
abbrev EMat := Fin 2048 → Fin 64 → EReal

variable (q k : Mat) (v : EMat)

/-- The scaled score. -/
def sc (i j : Fin 2048) : ℝ := (∑ e, q i e * k j e) * (1 / 8)
/-- The unnormalised weight: the exponential counted once per branch that looks. -/
def wt (i j : Fin 2048) : ℝ := mult i j * Real.exp (sc q k i j)
/-- The normaliser. -/
def Z (i : Fin 2048) : ℝ := ∑ j, wt q k i j
/-- The attention output. -/
def O (i : Fin 2048) (e : Fin 64) : EReal := ∑ j, ((wt q k i j / Z q k i : ℝ) : EReal) * v j e
theorem Z_pos (i : Fin 2048) : 0 < Z q k i := mass_pos _ (fun _ => mult_nonneg _ _) i (mult_self _)
theorem wt_after (i j : Fin 2048) (h : i.val < j.val) : wt q k i j = 0 := by rw [wt, mult_after _ _ h, zero_mul]

end Cert.Attn

end
-- ==== Proof.AttnChunk.lean ====
/- The chunks of queries of the dilated attention: what one chunk of 256 queries computes against the keys up to its own
   end is the attention of AttnReal.lean at those queries. -/
module

public import proofs.«01_k».proof.Proof.AttnReal

@[expose] public section

set_option maxRecDepth 16384

noncomputable section

open Idealize.ShloMosaic

namespace Cert.Attn

theorem eighth : Ideal.ofBits FTy.f32 0x3E000000#32 = ((1 / 8 : ℝ) : EReal) := by
  simp [Ideal.ofBits, Ideal.ieee, -EReal.coe_mul]
  norm_num
theorem ninf : Ideal.ofBits FTy.f32 0xFF800000#32 = ⊥ := by
  simp [Ideal.ofBits, Ideal.ieee]

/-- The multiplicity depends on the distance alone. -/
theorem mult_shift (i j c : ℕ) : mult (i + c) (j + c) = mult i j := by
  unfold mult one Sees
  simp only [Nat.add_le_add_iff_right, Nat.add_sub_add_right]

section Chunk
variable (q k : Mat) (v : EMat) {w : ℕ} (hw : w ≤ 2048) (base r : ℕ) (hwb : w = base + 256) (hr : r < 256)
  (i : Fin 2048) (hi : i.val = base + r) (t : Fin w → ℕ) (ht : ∀ x, t x + base = 1792 + x.val)
include hi ht

theorem score_eq (x : Fin w) :
    (∑ e, (q i e : EReal) * Ideal.ofBits FTy.f32 0x3E000000#32 * (k (Fin.castLE hw x) e : EReal)) + bias (mult (1792 + r) (t x))
      = lg (mult i (Fin.castLE hw x)) (sc q k i (Fin.castLE hw x)) := by
  have hm : mult (1792 + r) (t x) = mult i (Fin.castLE hw x) := by
    rw [← mult_shift _ _ base, ht x, ← mult_shift i.val _ 1792, hi]
    exact congrArg₂ mult (by omega) (by rw [Fin.val_castLE]; omega)
  rw [eighth, hm, ← add_bias]
  refine congrArg (fun u : EReal => u + _) ?_
  simp only [← EReal.coe_mul, coe_sum, sc]
  refine congrArg _ ?_
  rw [Finset.sum_mul]
  exact Finset.sum_congr rfl fun e _ => by ring

include hwb hr

/-- The query itself is among the keys of its chunk. -/
theorem self_lt : i.val < w := by omega

theorem mass_chunk : mass (fun x : Fin w => mult i (Fin.castLE hw x)) (fun x => sc q k i (Fin.castLE hw x)) = Z q k i :=
  sum_first hw (fun j => wt q k i j) fun j hj => wt_after q k i j (by omega)

theorem out_chunk (e : Fin 64) :
    Ideal.div
      (∑ x : Fin w, Ideal.exp ((∑ e, (q i e : EReal) * Ideal.ofBits FTy.f32 0x3E000000#32 * (k (Fin.castLE hw x) e : EReal))
          + bias (mult (1792 + r) (t x))
        - Finset.fold max (Ideal.ofBits FTy.f32 0xFF800000#32) (fun x : Fin w =>
          (∑ e, (q i e : EReal) * Ideal.ofBits FTy.f32 0x3E000000#32 * (k (Fin.castLE hw x) e : EReal))
            + bias (mult (1792 + r) (t x))) Finset.univ) * v (Fin.castLE hw x) e)
      (∑ x : Fin w, Ideal.exp ((∑ e, (q i e : EReal) * Ideal.ofBits FTy.f32 0x3E000000#32 * (k (Fin.castLE hw x) e : EReal))
          + bias (mult (1792 + r) (t x))
        - Finset.fold max (Ideal.ofBits FTy.f32 0xFF800000#32) (fun x : Fin w =>
          (∑ e, (q i e : EReal) * Ideal.ofBits FTy.f32 0x3E000000#32 * (k (Fin.castLE hw x) e : EReal))
            + bias (mult (1792 + r) (t x))) Finset.univ))
      = O q k v i e := by
  have hs := score_eq q k hw base r i hi t ht
  have hlt := self_lt base r hwb hr i hi t ht
  simp only [hs, ninf]
  obtain ⟨m, hm⟩ := max_lg (M := fun x : Fin w => mult i (Fin.castLE hw x)) (fun x => sc q k i (Fin.castLE hw x))
    ⟨i.val, hlt⟩ (mult_self i.val)
  rw [hm, quot_lg (M := fun x : Fin w => mult i (Fin.castLE hw x)) (fun x => sc q k i (Fin.castLE hw x))
    (fun _ => mult_nonneg _ _) ⟨i.val, hlt⟩ (mult_self i.val) m (fun x => v (Fin.castLE hw x) e),
    mass_chunk q k hw base r hwb hr i hi t ht]
  exact sum_first hw (fun j => ((wt q k i j / Z q k i : ℝ) : EReal) * v j e) fun j hj => by
    rw [wt_after q k i j (by omega), zero_div, EReal.coe_zero, zero_mul]

end Chunk

/-! ## Heads inside a block of 128 columns -/

/-- The half of a block of 128 columns that a column is in. -/
def half (c : Fin 128) : Fin 2 := ⟨c.val / 64, by omega⟩
/-- Its place inside that half. -/
def lane (c : Fin 128) : Fin 64 := ⟨c.val % 64, by omega⟩
/-- The columns of one half. -/
def head {A : Type} (q : Fin 2048 → Fin 128 → A) (h : Fin 2) : Fin 2048 → Fin 64 → A := fun i e => q i ⟨64 * h.val + e.val, by omega⟩

theorem half_lo (c : Fin 128) (y : Fin 64) (h : c.val = y.val) : half c = 0 := Fin.ext (by show c.val / 64 = 0; omega)
theorem half_hi (c : Fin 128) (y : Fin 64) (h : c.val = 64 + y.val) : half c = 1 := Fin.ext (by show c.val / 64 = 1; omega)
theorem lane_lo (c : Fin 128) (y : Fin 64) (h : c.val = y.val) : lane c = y := Fin.ext (by show c.val % 64 = y.val; omega)
theorem lane_hi (c : Fin 128) (y : Fin 64) (h : c.val = 64 + y.val) : lane c = y := Fin.ext (by show c.val % 64 = y.val; omega)
theorem head_lo {A : Type} (q : Fin 2048 → Fin 128 → A) : head q 0 = fun i e => q i ⟨e.val, by omega⟩ :=
  funext fun i => funext fun e => congrArg (q i) (Fin.ext (by show 64 * 0 + e.val = e.val; omega))
theorem head_hi {A : Type} (q : Fin 2048 → Fin 128 → A) : head q 1 = fun i e => q i ⟨64 + e.val, by omega⟩ :=
  funext fun i => funext fun e => congrArg (q i) (Fin.ext (by show 64 * 1 + e.val = 64 + e.val; omega))

end Cert.Attn

end
-- ==== Proof.AttnLayout.lean ====
/- How the two sequences and six heads lie in the arrays of 4096 rows and 384 columns: row 2048·b + i is position i of
   sequence b, column 64·H + e is lane e of head H; a block of 128 columns holds two heads. -/
module

public import proofs.«01_k».proof.Proof.AttnChunk

@[expose] public section

noncomputable section

namespace Cert.Attn

/-- An array over rows and columns. -/
abbrev Arr := Fin 4096 → Fin 384 → ℝ
/-- The same of extended reals. -/
abbrev EArr := Fin 4096 → Fin 384 → EReal

def seqOf (r : Fin 4096) : Fin 2 := ⟨r.val / 2048, by omega⟩
def posOf (r : Fin 4096) : Fin 2048 := ⟨r.val % 2048, by omega⟩
def hdOf (c : Fin 384) : Fin 6 := ⟨c.val / 64, by omega⟩
def laneOf (c : Fin 384) : Fin 64 := ⟨c.val % 64, by omega⟩
def rowAt (b : Fin 2) (i : Fin 2048) : Fin 4096 := ⟨2048 * b.val + i.val, by omega⟩
def colAt (H : Fin 6) (e : Fin 64) : Fin 384 := ⟨64 * H.val + e.val, by omega⟩

/-- The columns of the projection that hold the queries, the keys and the values. -/
def qCol (j : Fin 384) : Fin 3072 := ⟨j.val, by omega⟩
def kCol (j : Fin 384) : Fin 3072 := ⟨384 + j.val, by omega⟩
def vCol (j : Fin 384) : Fin 3072 := ⟨768 + j.val, by omega⟩

/-- One head of one sequence. -/
def mat {T : Type} (A : Fin 4096 → Fin 384 → T) (b : Fin 2) (H : Fin 6) : Fin 2048 → Fin 64 → T := fun i e => A (rowAt b i) (colAt H e)
/-- A block of two heads of one sequence. -/
def blkOf {T : Type} (A : Fin 4096 → Fin 384 → T) (b : Fin 2) (p : Fin 3) : Fin 2048 → Fin 128 → T :=
  fun i e => A (rowAt b i) ⟨128 * p.val + e.val, by omega⟩

theorem head_blk {T : Type} (A : Fin 4096 → Fin 384 → T) (b : Fin 2) (p : Fin 3) (h : Fin 2) (H : Fin 6) (hH : H.val = 2 * p.val + h.val) :
    head (blkOf A b p) h = mat A b H :=
  funext fun i => funext fun e => congrArg (A (rowAt b i)) (Fin.ext (by
    show 128 * p.val + (64 * h.val + e.val) = 64 * H.val + e.val; omega))

section Place
variable (b : Fin 2) (p : Fin 3) (r : Fin 2048) (c : Fin 128) (I : Fin 4096) (J : Fin 384)
  (hI : I.val = 2048 * b.val + r.val) (hJ : J.val = 128 * p.val + c.val)
include hI in
theorem seq_eq : seqOf I = b := Fin.ext (by show I.val / 2048 = b.val; omega)
include hI in
theorem pos_eq : posOf I = r := Fin.ext (by show I.val % 2048 = r.val; omega)
include hJ in
theorem lane_eq : laneOf J = lane c := Fin.ext (by show J.val % 64 = c.val % 64; omega)
include hI hJ in
theorem head_eq {T : Type} (A : Fin 4096 → Fin 384 → T) : head (blkOf A b p) (half c) = mat A (seqOf I) (hdOf J) := by
  rw [seq_eq b r I hI]
  exact head_blk A b p (half c) (hdOf J) (by show J.val / 64 = 2 * p.val + c.val / 64; omega)
end Place

end Cert.Attn

end
-- ==== Proof.AttnPrecondition.lean ====
/- What the attention's precondition says: the queries and the keys, the first 768 columns of the projection, are
   real numbers. -/
module

public import proofs.«01_k».proof.Defs
public import proofs.«01_k».proof.Proof.AttnLayout
public import proofs.«01_k».proof.Proof.Precondition

@[expose] public section

set_option maxRecDepth 16384

noncomputable section

open Idealize.ShloMosaic

namespace Cert.Attn

/-- The shape relations the predicate's operations take. -/
theorem facts8 : Cert.Pre_finite8.Facts where
  slices_S4096x3072_S4096x768_0_0 := by decide
  bcast_S_S4096x768 := by decide
  reducesTo_S4096x768_S_d0_1 := by decide
  h_S_ := by decide

open Cert.Ffn Cert.Pre_finite8 Cert.Pre_finite8.Facts in
/-- The predicate reads: every entry of the first 768 columns is a real number. -/
theorem real_of_pre [Cert.Pre_finite8.Facts] (p : FVec Ideal S4096x3072 .f32)
    (h : Cert.Pre_finite8.fn (F := Ideal) p = fun _ => 1#1) (r : Fin 4096) (j : Fin 768) :
    IsReal (p (ix2 r ⟨j.val, Nat.lt_trans j.isLt (by decide)⟩)) := by
  have e := congrFun h (fun a => a.elim0)
  unfold Cert.Pre_finite8.fn at e
  have k := real_of_cmp (Host.reduce_andi_all _ _ _ _ _ e (ix2 r j))
  have s : extractStridedSlice S4096x768 ![0, 0] p slices_S4096x3072_S4096x768_0_0 (ix2 r j)
      = p (ix2 r ⟨j.val, Nat.lt_trans j.isLt (by decide)⟩) := by
    pointwise
  exact s ▸ k

end Cert.Attn

end
-- ==== Proof.AttnForward.lean ====
/- The forward call of the dilated attention at one grid point: what its two heads' sixteen chunks leave in the block
   of the output, when the blocks it reads hold real queries and keys and the bias. -/
module

public import proofs.«01_k».proof.Proof.Gen.Kernel8Ideal.Frame
public import proofs.«01_k».proof.Proof.AttnChunk
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

/-! ## The two heads of a scratch buffer, stored one after the other -/

theorem two_one (X1 X0 : Vec Ideal S1x2048x64 .bf16) (j : Fin 2048) (e : Fin 64) :
    View.canon (Val := Elt Ideal) (s := S2x2048x64) (e := .bf16)
      [⟨Rect.unit ![1, 0, 0] ![1, 2048, 64] inb_S2x2048x64_S1x2048x64_1_0_0, X1⟩,
        ⟨Rect.unit ![0, 0, 0] ![1, 2048, 64] inb_S2x2048x64_S1x2048x64_0_0_0, X0⟩] (ix3 1 j e) = X1 (ix3 0 j e) := by
  canon_tiles y h
  · idx_vars y
    obtain rfl : y0 = 0 := Subsingleton.elim _ _
    exact congrArg X1 <| congrArg₂ (fun (u : Fin 2048) (v : Fin 64) => ix3 (0 : Fin 1) u v) (Fin.ext h1.symm) (Fin.ext h2.symm)
  · exact absurd h0 (by simp)
theorem two_zero (X1 X0 : Vec Ideal S1x2048x64 .bf16) (j : Fin 2048) (e : Fin 64) :
    View.canon (Val := Elt Ideal) (s := S2x2048x64) (e := .bf16)
      [⟨Rect.unit ![1, 0, 0] ![1, 2048, 64] inb_S2x2048x64_S1x2048x64_1_0_0, X1⟩,
        ⟨Rect.unit ![0, 0, 0] ![1, 2048, 64] inb_S2x2048x64_S1x2048x64_0_0_0, X0⟩] (ix3 0 j e) = X0 (ix3 0 j e) := by
  canon_tiles y h
  · exact absurd h0 (by simp)
  · idx_vars y
    obtain rfl : y0 = 0 := Subsingleton.elim _ _
    exact congrArg X0 <| congrArg₂ (fun (u : Fin 2048) (v : Fin 64) => ix3 (0 : Fin 1) u v) (Fin.ext h1.symm) (Fin.ext h2.symm)

variable (m : (ℓ : Loc nD τ sig) → Buf (Elt Ideal) ℓ) (c : Dev nD) (t : Fin cfg0.N)
  (q k : Fin 2048 → Fin 128 → ℝ) (v : Fin 2048 → Fin 128 → EReal)
  (hq : ∀ i e, iblk m c 0 t (ix2 i e) = (q i e : EReal)) (hk : ∀ i e, iblk m c 1 t (ix2 i e) = (k i e : EReal))
  (hv : ∀ i e, iblk m c 2 t (ix2 i e) = v i e)
  (hb : ∀ (r : Fin 256) (x : Fin 2048), iblk m c 3 t (ix2 r x) = bias (mult (1792 + r.val) x.val))

set_option maxHeartbeats 16000000 in
include hq hk hv hb in
/-- The output block. -/
theorem fwd_out (y : S2048x128.Idx) : (outsAt0 m c t).1 y
    = O (head q (half (y 1))) (head k (half (y 1))) (head v (half (y 1))) (y 0) (lane (y 1)) := by
  unfold outsAt0
  dsimp only
  frame_out
  canon_tiles y h
  case piece15 =>
    idx_vars y
    pointwise [k0_pay11, k0_pay12, k0_pay13, k0_pay14, k0_pay15, k0_pay16, k0_pay17, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 256) (by decide) 0 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece14 =>
    idx_vars y
    pointwise [k0_pay18, k0_pay19, k0_pay20, k0_pay21, k0_pay22, k0_pay23, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 512) (by decide) 256 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece13 =>
    idx_vars y
    pointwise [k0_pay24, k0_pay25, k0_pay26, k0_pay27, k0_pay28, k0_pay29, k0_pay30, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 768) (by decide) 512 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece12 =>
    idx_vars y
    pointwise [k0_pay31, k0_pay32, k0_pay33, k0_pay34, k0_pay35, k0_pay36, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 1024) (by decide) 768 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece11 =>
    idx_vars y
    pointwise [k0_pay37, k0_pay38, k0_pay39, k0_pay40, k0_pay41, k0_pay42, k0_pay43, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 1280) (by decide) 1024 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece10 =>
    idx_vars y
    pointwise [k0_pay44, k0_pay45, k0_pay46, k0_pay47, k0_pay48, k0_pay49, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 1536) (by decide) 1280 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece9 =>
    idx_vars y
    pointwise [k0_pay50, k0_pay51, k0_pay52, k0_pay53, k0_pay54, k0_pay55, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 1792) (by decide) 1536 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece8 =>
    idx_vars y
    pointwise [k0_pay56, k0_pay57, k0_pay58, k0_pay59, k0_pay60, k0_pay61, k0_pay62, k0_pay7, k0_pay8,
      View.readCov_eq_canon', two_zero]
    simp only [hq, hk, hv, hb]
    refine (out_chunk (fun i e => q i ⟨e.val, by omega⟩) (fun i e => k i ⟨e.val, by omega⟩) (fun i e => v i ⟨e.val, by omega⟩) (w := 2048) (by decide) 1792 y0.val rfl y0.isLt _ (by first | rfl | simp) _ (fun x => ?_) y1).trans ?_
    · first | omega | (simp only; omega)
    · rw [half_lo (_) y1 h1, lane_lo (_) y1 h1, head_lo, head_lo, head_lo]
      exact congrArg (fun u : Fin 2048 => O (fun i e => q i ⟨e.val, by omega⟩) (fun i e => k i ⟨e.val, by omega⟩) (fun i e => v i ⟨e.val, by omega⟩) u y1) (Fin.ext h0.symm)
  case piece7 =>
    idx_vars y
    pointwise [k0_pay63, k0_pay64, k0_pay65, k0_pay66, k0_pay67, k0_pay68, k0_pay69, k0_pay70, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 256) (by decide) 0 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece6 =>
    idx_vars y
    pointwise [k0_pay71, k0_pay72, k0_pay73, k0_pay74, k0_pay75, k0_pay76, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 512) (by decide) 256 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece5 =>
    idx_vars y
    pointwise [k0_pay77, k0_pay78, k0_pay79, k0_pay80, k0_pay81, k0_pay82, k0_pay83, k0_pay84, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 768) (by decide) 512 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece4 =>
    idx_vars y
    pointwise [k0_pay85, k0_pay86, k0_pay87, k0_pay88, k0_pay89, k0_pay90, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 1024) (by decide) 768 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece3 =>
    idx_vars y
    pointwise [k0_pay91, k0_pay92, k0_pay93, k0_pay94, k0_pay95, k0_pay96, k0_pay97, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 1280) (by decide) 1024 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece2 =>
    idx_vars y
    pointwise [k0_pay98, k0_pay99, k0_pay100, k0_pay101, k0_pay102, k0_pay103, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 1536) (by decide) 1280 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece1 =>
    idx_vars y
    pointwise [k0_pay104, k0_pay105, k0_pay106, k0_pay107, k0_pay108, k0_pay109, k0_pay110, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 1792) (by decide) 1536 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)
  case piece0 =>
    idx_vars y
    pointwise [k0_pay111, k0_pay1, k0_pay2, k0_pay3, k0_pay4, k0_pay5, k0_pay6, k0_pay9, k0_pay10,
      View.readCov_eq_canon', two_one]
    simp only [hq, hk, hv, hb]
    refine (out_chunk (fun i e => q i ⟨64 + e.val, by omega⟩) (fun i e => k i ⟨64 + e.val, by omega⟩) (fun i e => v i ⟨64 + e.val, by omega⟩) (w := 2048) (by decide) 1792 y0.val rfl y0.isLt _ (by first | rfl | simp) _ (fun x => ?_) y1).trans ?_
    · first | omega | (simp only; omega)
    · rw [half_hi (_) y1 h1, lane_hi (_) y1 h1, head_hi, head_hi, head_hi]
      exact congrArg (fun u : Fin 2048 => O (fun i e => q i ⟨64 + e.val, by omega⟩) (fun i e => k i ⟨64 + e.val, by omega⟩) (fun i e => v i ⟨64 + e.val, by omega⟩) u y1) (Fin.ext h0.symm)

end Cert.Kernel8Ideal.Value

end
-- ==== Proof.AttnRegion0.lean ====
/- What the forward call of the attention leaves in its output array, from the arrays it is entered with. -/
module

public import proofs.«01_k».proof.Proof.AttnForward
public import proofs.«01_k».proof.Proof.AttnLayout
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

variable (m : (ℓ : Loc nD τ sig) → Buf (Elt Ideal) ℓ) (c : Dev nD)

/-! ## The grid: sequence by sequence, two heads at a time -/

/-- The sequence of a grid point. -/
def seqAt (t : Fin cfg0.N) : Fin 2 := ⟨t.val / 3, by have := t.isLt; have h : cfg0.N = 6 := rfl; omega⟩
/-- The pair of heads of a grid point. -/
def pairAt (t : Fin cfg0.N) : Fin 3 := ⟨t.val % 3, by omega⟩

theorem idx0 : ∀ t : Fin cfg0.N, win0_0.index t = ![t.val / 3, t.val % 3] ∧ win0_1.index t = ![t.val / 3, 3 + t.val % 3]
    ∧ win0_2.index t = ![t.val / 3, 6 + t.val % 3] ∧ win0_3.index t = ![0, 0] ∧ win0_4.index t = ![t.val / 3, t.val % 3]
    ∧ win0_5.index t = ![t.val / 3, t.val % 3, 0, 0] :=
  (by decide +kernel : ∀ t : Fin grid0.N, _)

variable (Q K : Arr) (W : EArr)
  (hQ : ∀ (r : Fin 4096) (j : Fin 384), V m c main_arg0 (ix2 r (qCol j)) = (Q r j : EReal))
  (hK : ∀ (r : Fin 4096) (j : Fin 384), V m c main_arg0 (ix2 r (kCol j)) = (K r j : EReal))
  (hW : ∀ (r : Fin 4096) (j : Fin 384), V m c main_arg0 (ix2 r (vCol j)) = W r j)
  (hB : ∀ (r : Fin 256) (x : Fin 2048), V m c main_v37 (ix2 r x) = bias (mult (1792 + r.val) x.val))

include hQ in
theorem blk0_q (t : Fin cfg0.N) (i : Fin 2048) (e : Fin 128) :
    iblk m c 0 t (ix2 i e) = ((blkOf Q (seqAt t) (pairAt t) i e : ℝ) : EReal) := by
  refine Eq.trans ?_ (hQ _ _)
  blk_ext [iblk, idx0 t, rowAt, seqAt, pairAt, qCol, kCol, vCol]
include hK in
theorem blk0_k (t : Fin cfg0.N) (i : Fin 2048) (e : Fin 128) :
    iblk m c 1 t (ix2 i e) = ((blkOf K (seqAt t) (pairAt t) i e : ℝ) : EReal) := by
  refine Eq.trans ?_ (hK _ _)
  blk_ext [iblk, idx0 t, rowAt, seqAt, pairAt, qCol, kCol, vCol]
include hW in
theorem blk0_v (t : Fin cfg0.N) (i : Fin 2048) (e : Fin 128) :
    iblk m c 2 t (ix2 i e) = blkOf W (seqAt t) (pairAt t) i e := by
  refine Eq.trans ?_ (hW _ _)
  blk_ext [iblk, idx0 t, rowAt, seqAt, pairAt, qCol, kCol, vCol]
include hB in
theorem blk0_b (t : Fin cfg0.N) (r : Fin 256) (x : Fin 2048) :
    iblk m c 3 t (ix2 r x) = bias (mult (1792 + r.val) x.val) := by
  refine Eq.trans ?_ (hB r x)
  blk_ext [iblk, idx0 t]

include hQ hK hW hB in
/-- The output array. -/
theorem final0_4 : (dats m 0 c).arrAt 4 cfg0.N = fun i : S4096x384.Idx =>
    O (mat Q (seqOf (i 0)) (hdOf (i 1))) (mat K (seqOf (i 0)) (hdOf (i 1))) (mat W (seqOf (i 0)) (hdOf (i 1)))
      (posOf (i 0)) (laneOf (i 1)) := by
  refine (dats m 0 c).arrAt_eq_of_covers 4 _ (by decide +kernel) fun t _ y => ?_
  blk_simp
  rw [after0_4, fwd_out m c t _ _ _ (blk0_q m c Q hQ t) (blk0_k m c K hK t) (blk0_v m c W hW t) (blk0_b m c hB t)]
  idx_vars y
  have hI : ((((cfg0.win 4).blk t).view.emb (ix2 y0 y1) 0 : Fin 4096) : ℕ) = 2048 * (seqAt t).val + y0.val := by
    blk_simp [idx0 t, seqAt]; exact congrArg (· + y0.val) (Nat.mul_comm _ _)
  have hJ : ((((cfg0.win 4).blk t).view.emb (ix2 y0 y1) 1 : Fin 384) : ℕ) = 128 * (pairAt t).val + y1.val := by
    blk_simp [idx0 t, pairAt]; exact congrArg (· + y1.val) (Nat.mul_comm _ _)
  have e := fun A : Arr => head_eq (seqAt t) (pairAt t) y0 y1 _ _ hI hJ A
  have e' := fun A : EArr => head_eq (seqAt t) (pairAt t) y0 y1 _ _ hI hJ A
  simp only [← e, ← e', pos_eq (seqAt t) y0 _ hI, lane_eq (pairAt t) y1 _ hJ]

end Cert.Kernel8Ideal.Value

end
-- ==== Proof.AttnBits.lean ====
/- The mask of a branch as the programs build it, from the distance of the query and the key in 32-bit words. -/
module

public import proofs.«01_k».proof.Proof.AttnChunk
public import Idealize.ShloMosaic.Lib.WordCmp
public import Idealize.ShloMosaic.Lib.Affine

@[expose] public section

noncomputable section

open Idealize.ShloMosaic

namespace Cert.Attn

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

section Word
variable {x : BitVec 32} {i j : ℕ} (hx : x.toInt = (i : ℤ) - j)
include hx

theorem ge_bit : IntOp.cmpi .sge x 0#32 = BitVec.ofBool (decide (j ≤ i)) := by
  rw [Idealize.ShloMosaic.WordCmp.cmpi_sge_eq, hx]
  refine congrArg BitVec.ofBool (decide_eq_decide.2 ?_)
  rw [BitVec.toInt_zero]
  omega
theorem le_bit (W : BitVec 32) (w : ℕ) (hW : W.toInt = w) : IntOp.cmpi .sle x W = BitVec.ofBool (decide ((i : ℤ) - j ≤ w)) := by
  rw [Idealize.ShloMosaic.WordCmp.cmpi_sle_eq, hx, hW]
theorem rem_bit (u : ArithUnit) (D : BitVec 32) (d : ℕ) (hD : D.toInt = d) (hd : 0 < d) :
    IntOp.cmpi .eq (IntOp.remsi u x D) 0#32 = BitVec.ofBool (decide ((d : ℤ) ∣ (i : ℤ) - j)) := by
  rw [IntOp.remsi_of_pos u (by rw [hD]; exact_mod_cast hd), Idealize.ShloMosaic.WordCmp.cmpi_eq_eq]
  refine congrArg BitVec.ofBool (decide_eq_decide.2 ?_)
  rw [← BitVec.toInt_inj, BitVec.toInt_srem, hx, hD, BitVec.toInt_zero]
  exact (Int.dvd_iff_tmod_eq_zero).symm

end Word

theorem sees_iff (w d i j : ℕ) : Sees w d i j ↔ j ≤ i ∧ (i : ℤ) - j ≤ w ∧ (d : ℤ) ∣ (i : ℤ) - j := by
  unfold Sees
  refine and_congr_right fun h => and_congr (by omega) ?_
  rw [← Nat.cast_sub h, Int.natCast_dvd_natCast]
  exact (Nat.dvd_iff_mod_eq_zero ..).symm

/-- The distance word. -/
theorem sub_word (i j : ℕ) (hi : i < 4096) (hj : j < 4096) : (BitVec.ofNat 32 i - BitVec.ofNat 32 j).toInt = (i : ℤ) - j := by
  rw [BitVec.toInt_sub, BitVec.toInt_ofNat', BitVec.toInt_ofNat', Int.bmod_eq_of_le (n := (i : ℤ)) (by omega) (by omega),
    Int.bmod_eq_of_le (n := (j : ℤ)) (by omega) (by omega), Int.bmod_eq_of_le (by omega) (by omega)]

theorem sees_bit {x : BitVec 32} {i j : ℕ} (hx : x.toInt = (i : ℤ) - j) (u : ArithUnit) (W D : BitVec 32) (w d : ℕ)
    (hW : W.toInt = w) (hD : D.toInt = d) (hd : 0 < d) :
    IntOp.andi (IntOp.andi (IntOp.cmpi .sge x 0#32) (IntOp.cmpi .sle x W)) (IntOp.cmpi .eq (IntOp.remsi u x D) 0#32)
      = BitVec.ofBool (decide (Sees w d i j)) := by
  rw [ge_bit hx, le_bit hx W w hW, rem_bit hx u D d hD hd, and_bits, and_bits]
  refine congrArg BitVec.ofBool (decide_eq_decide.2 ?_)
  rw [sees_iff, and_assoc]

/-- A masked score is the score with the logarithm of the branch's multiplicity. -/
theorem masked (w d i j : ℕ) (s : ℝ) :
    Scalar.select (BitVec.ofBool (decide (Sees w d i j))) (s : EReal) ⊥ = lg (one w d i j) s := by
  by_cases h : Sees w d i j
  · rw [one, if_pos h, lg_one]; simp [h, Scalar.select]
  · rw [one, if_neg h, lg_zero]; simp [h, Scalar.select]

end Cert.Attn

end
-- ==== Proof.AttnEntry.lean ====
/- What the attention's call finds at entry: the projection as launched, and the table of biases the host builds from the row
   and the column of a window of 256 by 2048, the logarithm of the multiplicity of the distance 1792 + row − column. -/
module

public import proofs.«01_k».proof.Proof.AttnRegion0
public import proofs.«01_k».proof.Proof.AttnBits

@[expose] public section

set_option maxRecDepth 16384

noncomputable section

open Idealize.ShloMosaic Idealize.ShloMosaic.TcCoe Idealize.SL.Sem

namespace Cert.Kernel8Ideal.Value

open Cert.Kernel8Ideal Cert.Kernel8Ideal.Facts Cert.Kernel8Ideal.Gen Cert.Attn

/-- The word of a row, of a column, and their distance. -/
theorem window_word (r x : ℕ) (hr : r < 256) (hx : x < 2048) :
    (BitVec.ofNat 32 r - BitVec.ofNat 32 x + 1792#32).toInt = ((1792 + r : ℕ) : ℤ) - x := by
  rw [BitVec.toInt_add, sub_word r x (by omega) (by omega), show (1792#32 : BitVec 32).toInt = 1792 from by decide,
    Int.bmod_eq_of_le (by omega) (by omega)]
  push_cast
  omega

/-- The indicator of a branch as a float. -/
theorem bit_float (w d i j : ℕ) :
    (FloatOps.uitofp .f32 (BitVec.ofBool (decide (Sees w d i j))) : Ideal .f32) = ((one w d i j : ℝ) : EReal) := by
  show (((BitVec.ofBool (decide (Sees w d i j))).toNat : ℝ) : EReal) = _
  by_cases h : Sees w d i j
  · simp [h, one]
  · simp [h, one]

/-- The bit of the branch of neighbours. -/
theorem near_bit {x : BitVec 32} {i j : ℕ} (hx : x.toInt = (i : ℤ) - j) :
    IntOp.andi (IntOp.cmpi .sge x 0#32) (IntOp.cmpi .sle x 128#32) = BitVec.ofBool (decide (Sees 128 1 i j)) := by
  rw [ge_bit hx, le_bit hx 128#32 128 (by decide), and_bits]
  refine congrArg BitVec.ofBool (decide_eq_decide.2 ?_)
  rw [sees_iff]
  exact ⟨fun h => ⟨h.1, h.2, by simp⟩, fun h => ⟨h.1, h.2.1⟩⟩
/-- The bit of a branch with a stride. -/
theorem far_bit {x : BitVec 32} {i j : ℕ} (hx : x.toInt = (i : ℤ) - j) (u : ArithUnit) (W D : BitVec 32) (w d : ℕ)
    (hW : W.toInt = w) (hD : D.toInt = d) (hd : 0 < d) :
    IntOp.andi (IntOp.andi (IntOp.cmpi .sge x 0#32) (IntOp.cmpi .eq (IntOp.remsi u x D) 0#32)) (IntOp.cmpi .sle x W)
      = BitVec.ofBool (decide (Sees w d i j)) := by
  rw [ge_bit hx, le_bit hx W w hW, rem_bit hx u D d hD hd, and_bits, and_bits]
  refine congrArg BitVec.ofBool (decide_eq_decide.2 ?_)
  rw [sees_iff, and_assoc]
  exact and_congr_right fun _ => and_comm

/-- The logarithm of a multiplicity as the host writes it. -/
theorem log_mult (i j : ℕ) : (if (0 : EReal) < ((mult i j : ℝ) : EReal) then Ideal.log (max ((mult i j : ℝ) : EReal) 1) else ⊥)
    = bias (mult i j) := by
  unfold bias
  by_cases h : 0 < mult i j
  · rw [if_pos h, if_pos (by exact_mod_cast h), max_eq_left (by exact_mod_cast one_le_mult i j h), log_real h]
  · rw [if_neg h, if_neg (by exact_mod_cast h)]

theorem log_sum (i j : ℕ) (A B C : EReal) (hA : A = ((one 128 1 i j : ℝ) : EReal)) (hB : B = ((one 512 4 i j : ℝ) : EReal))
    (hC : C = ((one 2048 16 i j : ℝ) : EReal)) :
    (if (0 : EReal) < A + B + C then Ideal.log (max (A + B + C) 1) else Ideal.ofBits FTy.f32 0xFF800000#32) = bias (mult i j) := by
  rw [hA, hB, hC, ninf, ← EReal.coe_add, ← EReal.coe_add]
  exact log_mult i j

variable (m : (ℓ : Loc nD τ sig) → Buf (Elt Ideal) ℓ) (c : Dev nD)

theorem bias_at (r : Fin 256) (x : Fin 2048) : V m c main_v37 (ix2 r x) = bias (mult (1792 + r.val) x.val) := by
  show StableHlo.after hostOps0 (fun b => m (c, b)) (Proc.devRef .tc main_v37) (ix2 r x) = _
  after_results
  pointwise
  have hx : (IntOp.addi (IntOp.subi (BitVec.ofNat 32 r.val) (BitVec.ofNat 32 x.val)) 1792#32).toInt
      = ((1792 + r.val : ℕ) : ℤ) - (x.val : ℕ) := window_word r.val x.val r.isLt x.isLt
  exact log_sum _ _ _ _ _
    ((congrArg (fun b => (FloatOps.uitofp .f32 b : Ideal .f32)) (near_bit hx)).trans (bit_float _ _ _ _))
    ((congrArg (fun b => (FloatOps.uitofp .f32 b : Ideal .f32)) (far_bit hx .host 512#32 4#32 512 4 (by decide) (by decide)
      (by decide))).trans (bit_float _ _ _ _))
    ((congrArg (fun b => (FloatOps.uitofp .f32 b : Ideal .f32)) (far_bit hx .host 2048#32 16#32 2048 16 (by decide) (by decide)
      (by decide))).trans (bit_float _ _ _ _))

end Cert.Kernel8Ideal.Value

end
-- ==== Proof.AttnReference.lean ====
/- The forward attention's reference, layer by layer: each of its arrays read at an index over the reals. -/
module

public import proofs.«01_k».proof.Proof.Gen.Reference8Ideal.Run
public import proofs.«01_k».proof.Proof.AttnLayout
public import proofs.«01_k».proof.Proof.AttnBits
public import Idealize.ShloMosaic.Lib.Pointwise

@[expose] public section

set_option maxRecDepth 16384

noncomputable section

open Idealize.ShloMosaic Idealize.ShloMosaic.TcCoe Idealize.SL.Sem

namespace Cert.Attn

/-! ## Reductions of a rank-four array, read at an index -/

section Reduce
variable {n0 n1 n2 n3 : ℕ} {u : Shape} (x : (⟨4, ![n0, n1, n2, n3]⟩ : Shape).Idx → EReal) (init : u.Idx → EReal) (hu : 0 < u.numel)

theorem sum_last (h : (⟨4, ![n0, n1, n2, n3]⟩ : Shape).ReducesTo [3] ⟨3, ![n0, n1, n2]⟩) (b : Fin n0) (p : Fin n1) (i : Fin n2) :
    Host.reduceAdd (F := Ideal) (φ := .f32) x init h hu (ix3 b p i) = init (Shape.Idx.first hu) + ∑ j : Fin n3, x (ix4 b p i j) :=
  Ideal.hostReduceAdd_r4_a3 h x _ _
theorem max_last (h : (⟨4, ![n0, n1, n2, n3]⟩ : Shape).ReducesTo [3] ⟨3, ![n0, n1, n2]⟩) (b : Fin n0) (p : Fin n1) (i : Fin n2) :
    Host.reduce (FloatOps.maximumf (F := Ideal) (φ := .f32)) x init h hu (ix3 b p i)
      = Finset.univ.fold max (init (Shape.Idx.first hu)) fun j : Fin n3 => x (ix4 b p i j) := by
  rw [Host.reduce_eq_fold]
  exact h.fold_fiber_r4_a3 (ix3 b p i) max _ x
theorem sum_first_axis (h : (⟨4, ![n0, n1, n2, n3]⟩ : Shape).ReducesTo [0] ⟨3, ![n1, n2, n3]⟩) (b : Fin n1) (p : Fin n2) (i : Fin n3) :
    Host.reduceAdd (F := Ideal) (φ := .f32) x init h hu (ix3 b p i) = init (Shape.Idx.first hu) + ∑ t : Fin n0, x (ix4 t b p i) :=
  Ideal.hostReduceAdd_r4_a0 h x _ _
theorem max_first_axis (h : (⟨4, ![n0, n1, n2, n3]⟩ : Shape).ReducesTo [0] ⟨3, ![n1, n2, n3]⟩) (b : Fin n1) (p : Fin n2) (i : Fin n3) :
    Host.reduce (FloatOps.maximumf (F := Ideal) (φ := .f32)) x init h hu (ix3 b p i)
      = Finset.univ.fold max (init (Shape.Idx.first hu)) fun t : Fin n0 => x (ix4 t b p i) := by
  rw [Host.reduce_eq_fold]
  exact h.fold_fiber_r4_a0 (ix3 b p i) max _ x
end Reduce

end Cert.Attn

namespace Cert.Reference8Ideal.Value

open Cert.Reference8Ideal Cert.Reference8Ideal.Gen Cert.Attn

variable (V0 : Valuation τ sig (Elt Ideal)) (Q K : Arr) (W : EArr)
  (hQ : ∀ (r : Fin 4096) (j : Fin 384), V0 (Proc.devRef .tc main_arg0) (ix2 r (qCol j)) = (Q r j : EReal))
  (hK : ∀ (r : Fin 4096) (j : Fin 384), V0 (Proc.devRef .tc main_arg0) (ix2 r (kCol j)) = (K r j : EReal))
  (hW : ∀ (r : Fin 4096) (j : Fin 384), V0 (Proc.devRef .tc main_arg0) (ix2 r (vCol j)) = W r j)

section Scores
variable (b : Fin 2) (h : Fin 6) (i j : Fin 2048) (e : Fin 64)

include hQ in
theorem q_at (h1 : b.val * 2048 + i.val < 4096) (h2 : h.val * 64 + e.val < 3072) :
    V0 (Proc.devRef .tc main_arg0) (ix2 ⟨b.val * 2048 + i.val, h1⟩ ⟨h.val * 64 + e.val, h2⟩) = ((mat Q b h i e : ℝ) : EReal) :=
  Eq.trans (congrArg₂ (fun u v => V0 (Proc.devRef .tc main_arg0) (ix2 u v))
    (Fin.ext (by show b.val * 2048 + i.val = 2048 * b.val + i.val; omega))
    (Fin.ext (by show h.val * 64 + e.val = 64 * h.val + e.val; omega))) (hQ (rowAt b i) (colAt h e))
include hK in
theorem k_at (h1 : b.val * 2048 + i.val < 4096) (h2 : 384 + (h.val * 64 + e.val) < 3072) :
    V0 (Proc.devRef .tc main_arg0) (ix2 ⟨b.val * 2048 + i.val, h1⟩ ⟨384 + (h.val * 64 + e.val), h2⟩) = ((mat K b h i e : ℝ) : EReal) :=
  Eq.trans (congrArg₂ (fun u v => V0 (Proc.devRef .tc main_arg0) (ix2 u v))
    (Fin.ext (by show b.val * 2048 + i.val = 2048 * b.val + i.val; omega))
    (Fin.ext (by show 384 + (h.val * 64 + e.val) = 384 + (64 * h.val + e.val); omega))) (hK (rowAt b i) (colAt h e))
include hW in
theorem v_at (h1 : b.val * 2048 + i.val < 4096) (h2 : 768 + (h.val * 64 + e.val) < 3072) :
    V0 (Proc.devRef .tc main_arg0) (ix2 ⟨b.val * 2048 + i.val, h1⟩ ⟨768 + (h.val * 64 + e.val), h2⟩) = mat W b h i e :=
  Eq.trans (congrArg₂ (fun u v => V0 (Proc.devRef .tc main_arg0) (ix2 u v))
    (Fin.ext (by show b.val * 2048 + i.val = 2048 * b.val + i.val; omega))
    (Fin.ext (by show 768 + (h.val * 64 + e.val) = 768 + (64 * h.val + e.val); omega))) (hW (rowAt b i) (colAt h e))

include hW in
theorem v5_at : res_main_v5 V0 (ix4 b j h e) = mat W b h j e := by
  unfold res_main_v5
  pointwise
  exact v_at V0 W hW b h j e _ _

include hQ hK in
/-- The scaled scores. -/
theorem v8_at : res_main_v8 V0 (ix4 b h i j) = (sc (mat Q b h) (mat K b h) i j : EReal) := by
  unfold res_main_v8
  pointwise
  simp only [q_at V0 Q hQ, k_at V0 K hK, eighth, ← EReal.coe_mul, coe_sum]
  rfl

theorem v11_at : res_main_v11 V0 (ix2 i j) = BitVec.ofNat 32 i.val - BitVec.ofNat 32 j.val := by
  unfold res_main_v11
  pointwise
  rfl
theorem dist_at : (res_main_v11 V0 (ix2 i j)).toInt = (i.val : ℤ) - j.val := by
  rw [v11_at]
  exact sub_word _ _ (by omega) (by omega)

include hQ hK in
theorem v24_at : res_main_v24 V0 (ix4 b h i j) = lg (one 128 1 i j) (sc (mat Q b h) (mat K b h) i j) := by
  unfold res_main_v24
  pointwise
  rw [v8_at V0 Q K hQ hK, ninf]
  exact (congrArg (fun u => Scalar.select u _ _) (sees_bit (dist_at V0 i j) _ 128#32 1#32 128 1 (by decide) (by decide) (by decide))).trans
    (masked 128 1 i j _)
include hQ hK in
theorem v50_at : res_main_v50 V0 (ix4 b h i j) = lg (one 512 4 i j) (sc (mat Q b h) (mat K b h) i j) := by
  unfold res_main_v50
  pointwise
  rw [v8_at V0 Q K hQ hK, ninf]
  exact (congrArg (fun u => Scalar.select u _ _) (sees_bit (dist_at V0 i j) _ 512#32 4#32 512 4 (by decide) (by decide) (by decide))).trans
    (masked 512 4 i j _)
include hQ hK in
theorem v76_at : res_main_v76 V0 (ix4 b h i j) = lg (one 2048 16 i j) (sc (mat Q b h) (mat K b h) i j) := by
  unfold res_main_v76
  pointwise
  rw [v8_at V0 Q K hQ hK, ninf]
  exact (congrArg (fun u => Scalar.select u _ _) (sees_bit (dist_at V0 i j) _ 2048#32 16#32 2048 16 (by decide) (by decide) (by decide))).trans
    (masked 2048 16 i j _)

end Scores

end Cert.Reference8Ideal.Value

end
-- ==== Proof.AttnBranch.lean ====
/- The branches of the forward attention's reference and their merging: the output is that of the weights counted once
   per branch. -/
module

public import proofs.«01_k».proof.Proof.AttnReference

@[expose] public section

set_option maxRecDepth 16384

noncomputable section

open Idealize.ShloMosaic Idealize.ShloMosaic.TcCoe Idealize.SL.Sem

namespace Cert.Attn

theorem zbits : Ideal.ofBits FTy.f32 0x00000000#32 = 0 := by simp [Ideal.ofBits, Ideal.ieee]

/-- The normaliser of one branch. -/
def Zb (w d : ℕ) (q k : Mat) (i : Fin 2048) : ℝ := mass (fun j : Fin 2048 => one w d i j) (sc q k i)
/-- The output of one branch. -/
def Ob (w d : ℕ) (q k : Mat) (v : EMat) (i : Fin 2048) (e : Fin 64) : EReal :=
  ∑ j : Fin 2048, ((one w d i j * Real.exp (sc q k i j) / Zb w d q k i : ℝ) : EReal) * v j e

theorem one_pos_self (w d : ℕ) (i : Fin 2048) : 0 < one w d i i := by rw [one_self]; norm_num
theorem Zb_pos (w d : ℕ) (q k : Mat) (i : Fin 2048) : 0 < Zb w d q k i :=
  mass_pos _ (fun _ => one_nonneg ..) i (one_pos_self w d i)
theorem Z_split (q k : Mat) (i : Fin 2048) : Z q k i = Zb 128 1 q k i + Zb 512 4 q k i + Zb 2048 16 q k i := by
  simp only [Z, Zb, mass, wt, mult, ← Finset.sum_add_distrib]
  exact Finset.sum_congr rfl fun _ _ => by ring

/-- A branch's output times its weight. -/
theorem branch_weight (w d : ℕ) (q k : Mat) (v : EMat) (i : Fin 2048) (e : Fin 64) :
    ((Zb w d q k i / Z q k i : ℝ) : EReal) * Ob w d q k v i e
      = ∑ j : Fin 2048, ((one w d i j * Real.exp (sc q k i j) / Z q k i : ℝ) : EReal) * v j e := by
  have hb := Zb_pos w d q k i
  rw [mul_comm, Ob, sum_mul_real _ _ (div_nonneg hb.le (Z_pos q k i).le)]
  refine Finset.sum_congr rfl fun j _ => ?_
  rw [mul_right_comm, ← EReal.coe_mul, div_mul_div_cancel₀ hb.ne']

/-- Three branches merged by the softmax of the logarithms of their normalisers. -/
theorem merge (q k : Mat) (v : EMat) (i : Fin 2048) (e : Fin 64) :
    ((Zb 128 1 q k i / Z q k i : ℝ) : EReal) * Ob 128 1 q k v i e + ((Zb 512 4 q k i / Z q k i : ℝ) : EReal) * Ob 512 4 q k v i e
      + ((Zb 2048 16 q k i / Z q k i : ℝ) : EReal) * Ob 2048 16 q k v i e = O q k v i e := by
  have hn : ∀ (w d : ℕ) (j : Fin 2048), (0 : EReal) ≤ ((one w d i j * Real.exp (sc q k i j) / Z q k i : ℝ) : EReal) := fun w d j => by
    exact_mod_cast div_nonneg (mul_nonneg (one_nonneg ..) (Real.exp_pos _).le) (Z_pos q k i).le
  rw [branch_weight, branch_weight, branch_weight, ← Finset.sum_add_distrib, ← Finset.sum_add_distrib, O]
  refine Finset.sum_congr rfl fun j _ => ?_
  rw [← EReal.right_distrib_of_nonneg (hn 128 1 j) (hn 512 4 j), ← EReal.right_distrib_of_nonneg
    (add_nonneg (hn 128 1 j) (hn 512 4 j)) (hn 2048 16 j), ← EReal.coe_add, ← EReal.coe_add, wt, mult]
  exact congrArg (fun u : ℝ => (u : EReal) * v j e) (by ring)

end Cert.Attn

namespace Cert.Reference8Ideal.Value

open Cert.Reference8Ideal Cert.Reference8Ideal.Gen Cert.Attn

variable (V0 : Valuation τ sig (Elt Ideal)) (Q K : Arr) (W : EArr)
  (hQ : ∀ (r : Fin 4096) (j : Fin 384), V0 (Proc.devRef .tc main_arg0) (ix2 r (qCol j)) = (Q r j : EReal))
  (hK : ∀ (r : Fin 4096) (j : Fin 384), V0 (Proc.devRef .tc main_arg0) (ix2 r (kCol j)) = (K r j : EReal))
  (hW : ∀ (r : Fin 4096) (j : Fin 384), V0 (Proc.devRef .tc main_arg0) (ix2 r (vCol j)) = W r j)
  (b : Fin 2) (h : Fin 6) (i : Fin 2048) (e : Fin 64)

/-! ## The branch of window 128 and dilation 1 -/

include hQ hK in
/-- The greatest score of a row is a real number. -/
theorem v26_at : ∃ m : ℝ, res_main_v26 V0 (ix4 b h i 0) = (m : EReal) := by
  obtain ⟨m, hm⟩ := max_lg (M := fun j : Fin 2048 => one 128 1 i j) (sc (mat Q b h) (mat K b h) i) i (one_pos_self 128 1 i)
  refine ⟨m, Eq.trans ?_ hm⟩
  refine (show _ = Host.reduce FloatOps.maximumf (res_main_v24 V0) (constant (F := Ideal) S_ .f32 0xFF800000#32)
    reducesTo_S2x6x2048x2048_S2x6x2048_d3 h_S_ (ix3 b h i) from ?_).trans ((max_last ..).trans ?_)
  · unfold res_main_v26
    pointwise
  · simp only [v24_at V0 Q K hQ hK]
    exact congrArg (fun u : EReal => Finset.univ.fold max u _) ninf
theorem v29_at (j : Fin 2048) : res_main_v29 V0 (ix4 b h i j) = Ideal.exp (@HSub.hSub EReal EReal EReal _ (res_main_v24 V0 (ix4 b h i j)) (res_main_v26 V0 (ix4 b h i 0))) := by
  unfold res_main_v29
  pointwise
theorem v30_at : res_main_v30 V0 (ix3 b h i) = Finset.sum (M := EReal) Finset.univ fun j : Fin 2048 => res_main_v29 V0 (ix4 b h i j) := by
  unfold res_main_v30
  refine (sum_last ..).trans ?_
  exact (congrArg (fun u : EReal => u + _) zbits).trans (zero_add _)

include hQ hK in
/-- The logarithm of the branch's normaliser. -/
theorem lse0 : @HAdd.hAdd EReal EReal EReal _ (res_main_v26 V0 (ix4 b h i 0)) (Ideal.log (res_main_v30 V0 (ix3 b h i)))
    = ((Real.log (Zb 128 1 (mat Q b h) (mat K b h) i) : ℝ) : EReal) := by
  obtain ⟨m, hm⟩ := v26_at V0 Q K hQ hK b h i
  simp only [v30_at, v29_at, v24_at V0 Q K hQ hK, hm]
  exact lse_lg (M := fun j : Fin 2048 => one 128 1 i j) (sc (mat Q b h) (mat K b h) i) (fun _ => one_nonneg ..) i (one_pos_self 128 1 i) m
include hQ hK hW in
/-- The branch's output. -/
theorem out0 : Ideal.div (Finset.sum (M := EReal) Finset.univ fun j : Fin 2048 =>
      @HMul.hMul EReal EReal EReal _ (res_main_v29 V0 (ix4 b h i j)) (res_main_v5 V0 (ix4 b j h e))) (res_main_v30 V0 (ix3 b h i))
    = Ob 128 1 (mat Q b h) (mat K b h) (mat W b h) i e := by
  obtain ⟨m, hm⟩ := v26_at V0 Q K hQ hK b h i
  simp only [v30_at, v29_at, v24_at V0 Q K hQ hK, hm, v5_at V0 W hW]
  exact quot_lg (M := fun j : Fin 2048 => one 128 1 i j) (sc (mat Q b h) (mat K b h) i) (fun _ => one_nonneg ..) i (one_pos_self 128 1 i) m fun j => mat W b h j e

/-! ## The branch of window 512 and dilation 4 -/

include hQ hK in
/-- The greatest score of a row is a real number. -/
theorem v52_at : ∃ m : ℝ, res_main_v52 V0 (ix4 b h i 0) = (m : EReal) := by
  obtain ⟨m, hm⟩ := max_lg (M := fun j : Fin 2048 => one 512 4 i j) (sc (mat Q b h) (mat K b h) i) i (one_pos_self 512 4 i)
  refine ⟨m, Eq.trans ?_ hm⟩
  refine (show _ = Host.reduce FloatOps.maximumf (res_main_v50 V0) (constant (F := Ideal) S_ .f32 0xFF800000#32)
    reducesTo_S2x6x2048x2048_S2x6x2048_d3 h_S_ (ix3 b h i) from ?_).trans ((max_last ..).trans ?_)
  · unfold res_main_v52
    pointwise
  · simp only [v50_at V0 Q K hQ hK]
    exact congrArg (fun u : EReal => Finset.univ.fold max u _) ninf
theorem v55_at (j : Fin 2048) : res_main_v55 V0 (ix4 b h i j) = Ideal.exp (@HSub.hSub EReal EReal EReal _ (res_main_v50 V0 (ix4 b h i j)) (res_main_v52 V0 (ix4 b h i 0))) := by
  unfold res_main_v55
  pointwise
theorem v56_at : res_main_v56 V0 (ix3 b h i) = Finset.sum (M := EReal) Finset.univ fun j : Fin 2048 => res_main_v55 V0 (ix4 b h i j) := by
  unfold res_main_v56
  refine (sum_last ..).trans ?_
  exact (congrArg (fun u : EReal => u + _) zbits).trans (zero_add _)

include hQ hK in
/-- The logarithm of the branch's normaliser. -/
theorem lse1 : @HAdd.hAdd EReal EReal EReal _ (res_main_v52 V0 (ix4 b h i 0)) (Ideal.log (res_main_v56 V0 (ix3 b h i)))
    = ((Real.log (Zb 512 4 (mat Q b h) (mat K b h) i) : ℝ) : EReal) := by
  obtain ⟨m, hm⟩ := v52_at V0 Q K hQ hK b h i
  simp only [v56_at, v55_at, v50_at V0 Q K hQ hK, hm]
  exact lse_lg (M := fun j : Fin 2048 => one 512 4 i j) (sc (mat Q b h) (mat K b h) i) (fun _ => one_nonneg ..) i (one_pos_self 512 4 i) m
include hQ hK hW in
/-- The branch's output. -/
theorem out1 : Ideal.div (Finset.sum (M := EReal) Finset.univ fun j : Fin 2048 =>
      @HMul.hMul EReal EReal EReal _ (res_main_v55 V0 (ix4 b h i j)) (res_main_v5 V0 (ix4 b j h e))) (res_main_v56 V0 (ix3 b h i))
    = Ob 512 4 (mat Q b h) (mat K b h) (mat W b h) i e := by
  obtain ⟨m, hm⟩ := v52_at V0 Q K hQ hK b h i
  simp only [v56_at, v55_at, v50_at V0 Q K hQ hK, hm, v5_at V0 W hW]
  exact quot_lg (M := fun j : Fin 2048 => one 512 4 i j) (sc (mat Q b h) (mat K b h) i) (fun _ => one_nonneg ..) i (one_pos_self 512 4 i) m fun j => mat W b h j e

/-! ## The branch of window 2048 and dilation 16 -/

include hQ hK in
/-- The greatest score of a row is a real number. -/
theorem v78_at : ∃ m : ℝ, res_main_v78 V0 (ix4 b h i 0) = (m : EReal) := by
  obtain ⟨m, hm⟩ := max_lg (M := fun j : Fin 2048 => one 2048 16 i j) (sc (mat Q b h) (mat K b h) i) i (one_pos_self 2048 16 i)
  refine ⟨m, Eq.trans ?_ hm⟩
  refine (show _ = Host.reduce FloatOps.maximumf (res_main_v76 V0) (constant (F := Ideal) S_ .f32 0xFF800000#32)
    reducesTo_S2x6x2048x2048_S2x6x2048_d3 h_S_ (ix3 b h i) from ?_).trans ((max_last ..).trans ?_)
  · unfold res_main_v78
    pointwise
  · simp only [v76_at V0 Q K hQ hK]
    exact congrArg (fun u : EReal => Finset.univ.fold max u _) ninf
theorem v81_at (j : Fin 2048) : res_main_v81 V0 (ix4 b h i j) = Ideal.exp (@HSub.hSub EReal EReal EReal _ (res_main_v76 V0 (ix4 b h i j)) (res_main_v78 V0 (ix4 b h i 0))) := by
  unfold res_main_v81
  pointwise
theorem v82_at : res_main_v82 V0 (ix3 b h i) = Finset.sum (M := EReal) Finset.univ fun j : Fin 2048 => res_main_v81 V0 (ix4 b h i j) := by
  unfold res_main_v82
  refine (sum_last ..).trans ?_
  exact (congrArg (fun u : EReal => u + _) zbits).trans (zero_add _)

include hQ hK in
/-- The logarithm of the branch's normaliser. -/
theorem lse2 : @HAdd.hAdd EReal EReal EReal _ (res_main_v78 V0 (ix4 b h i 0)) (Ideal.log (res_main_v82 V0 (ix3 b h i)))
    = ((Real.log (Zb 2048 16 (mat Q b h) (mat K b h) i) : ℝ) : EReal) := by
  obtain ⟨m, hm⟩ := v78_at V0 Q K hQ hK b h i
  simp only [v82_at, v81_at, v76_at V0 Q K hQ hK, hm]
  exact lse_lg (M := fun j : Fin 2048 => one 2048 16 i j) (sc (mat Q b h) (mat K b h) i) (fun _ => one_nonneg ..) i (one_pos_self 2048 16 i) m
include hQ hK hW in
/-- The branch's output. -/
theorem out2 : Ideal.div (Finset.sum (M := EReal) Finset.univ fun j : Fin 2048 =>
      @HMul.hMul EReal EReal EReal _ (res_main_v81 V0 (ix4 b h i j)) (res_main_v5 V0 (ix4 b j h e))) (res_main_v82 V0 (ix3 b h i))
    = Ob 2048 16 (mat Q b h) (mat K b h) (mat W b h) i e := by
  obtain ⟨m, hm⟩ := v78_at V0 Q K hQ hK b h i
  simp only [v82_at, v81_at, v76_at V0 Q K hQ hK, hm, v5_at V0 W hW]
  exact quot_lg (M := fun j : Fin 2048 => one 2048 16 i j) (sc (mat Q b h) (mat K b h) i) (fun _ => one_nonneg ..) i (one_pos_self 2048 16 i) m fun j => mat W b h j e

/-! ## The merging -/

theorem cast_row (x : S2x6x2048x1.Idx → EReal) (hc : S2x6x2048x1.ShapeCasts S2x6x2048) :
    shapeCast S2x6x2048 x hc (ix3 b h i) = x (ix4 b h i 0) := by
  pointwise
theorem spread (x : S2x6x2048.Idx → EReal) :
    broadcastInDim S1x2x6x2048 ![1, 2, 3] bcast_S2x6x2048_S1x2x6x2048_1_2_3 x (ix4 0 b h i) = x (ix3 b h i) := by
  pointwise

theorem cat0 (x0 x1 x2 : S1x2x6x2048.Idx → EReal)
    (hc : Shape.Concatenates [S1x2x6x2048, S1x2x6x2048, S1x2x6x2048] S3x2x6x2048 0) :
    concatenate S3x2x6x2048 0 [⟨S1x2x6x2048, x0⟩, ⟨S1x2x6x2048, x1⟩, ⟨S1x2x6x2048, x2⟩] hc (ix4 0 b h i) = x0 (ix4 0 b h i) :=
  concatenate_apply_piece 0 [⟨S1x2x6x2048, x0⟩, ⟨S1x2x6x2048, x1⟩, ⟨S1x2x6x2048, x2⟩] hc (ix4 0 b h i) 0 (by simp) S1x2x6x2048 x0 rfl rfl 0 rfl
    (ix4 0 b h i) (fun a ha => by fin_cases a <;> first | rfl | exact absurd rfl ha) rfl
theorem cat1 (x0 x1 x2 : S1x2x6x2048.Idx → EReal)
    (hc : Shape.Concatenates [S1x2x6x2048, S1x2x6x2048, S1x2x6x2048] S3x2x6x2048 0) :
    concatenate S3x2x6x2048 0 [⟨S1x2x6x2048, x0⟩, ⟨S1x2x6x2048, x1⟩, ⟨S1x2x6x2048, x2⟩] hc (ix4 1 b h i) = x1 (ix4 0 b h i) :=
  concatenate_apply_piece 0 [⟨S1x2x6x2048, x0⟩, ⟨S1x2x6x2048, x1⟩, ⟨S1x2x6x2048, x2⟩] hc (ix4 1 b h i) 1 (by simp) S1x2x6x2048 x1 rfl rfl 1 rfl
    (ix4 0 b h i) (fun a ha => by fin_cases a <;> first | rfl | exact absurd rfl ha) rfl
theorem cat2 (x0 x1 x2 : S1x2x6x2048.Idx → EReal)
    (hc : Shape.Concatenates [S1x2x6x2048, S1x2x6x2048, S1x2x6x2048] S3x2x6x2048 0) :
    concatenate S3x2x6x2048 0 [⟨S1x2x6x2048, x0⟩, ⟨S1x2x6x2048, x1⟩, ⟨S1x2x6x2048, x2⟩] hc (ix4 2 b h i) = x2 (ix4 0 b h i) :=
  concatenate_apply_piece 0 [⟨S1x2x6x2048, x0⟩, ⟨S1x2x6x2048, x1⟩, ⟨S1x2x6x2048, x2⟩] hc (ix4 2 b h i) 2 (by simp) S1x2x6x2048 x2 rfl rfl 2 rfl
    (ix4 0 b h i) (fun a ha => by fin_cases a <;> first | rfl | exact absurd rfl ha) rfl

/-- The row maximum plus the logarithm of the normaliser, with a leading axis. -/
def lseRow (x : FVec Ideal S2x6x2048x1 .f32) (y : FVec Ideal S2x6x2048 .f32) : FVec Ideal S1x2x6x2048 .f32 :=
  broadcastInDim S1x2x6x2048 ![1, 2, 3] bcast_S2x6x2048_S1x2x6x2048_1_2_3 (addf (shapeCast _ x shapeCasts_S2x6x2048x1_S2x6x2048) (Host.log y))
theorem lseRow_at (x : FVec Ideal S2x6x2048x1 .f32) (y : FVec Ideal S2x6x2048 .f32) :
    lseRow x y (ix4 0 b h i) = @HAdd.hAdd EReal EReal EReal _ (x (ix4 b h i 0)) (Ideal.log (y (ix3 b h i))) :=
  (spread b h i _).trans (congrArg (fun u : EReal => u + _) (cast_row b h i x _))
theorem v93_eq : res_main_v93 V0 = concatenate S3x2x6x2048 0 [⟨S1x2x6x2048, lseRow (res_main_v26 V0) (res_main_v30 V0)⟩,
    ⟨S1x2x6x2048, lseRow (res_main_v52 V0) (res_main_v56 V0)⟩, ⟨S1x2x6x2048, lseRow (res_main_v78 V0) (res_main_v82 V0)⟩]
    concatenates_S1x2x6x2048_S1x2x6x2048_S1x2x6x2048_S3x2x6x2048_d0 := rfl

include hQ hK in
theorem v93_at0 : res_main_v93 V0 (ix4 0 b h i) = ((Real.log (Zb 128 1 (mat Q b h) (mat K b h) i) : ℝ) : EReal) :=
  (congrFun (v93_eq V0) _).trans ((cat0 b h i _ _ _ _).trans ((lseRow_at b h i _ _).trans (lse0 V0 Q K hQ hK b h i)))
include hQ hK in
theorem v93_at1 : res_main_v93 V0 (ix4 1 b h i) = ((Real.log (Zb 512 4 (mat Q b h) (mat K b h) i) : ℝ) : EReal) :=
  (congrFun (v93_eq V0) _).trans ((cat1 b h i _ _ _ _).trans ((lseRow_at b h i _ _).trans (lse1 V0 Q K hQ hK b h i)))
include hQ hK in
theorem v93_at2 : res_main_v93 V0 (ix4 2 b h i) = ((Real.log (Zb 2048 16 (mat Q b h) (mat K b h) i) : ℝ) : EReal) :=
  (congrFun (v93_eq V0) _).trans ((cat2 b h i _ _ _ _).trans ((lseRow_at b h i _ _).trans (lse2 V0 Q K hQ hK b h i)))

/-- The normaliser of a branch, by its number. -/
def Zt (q k : Mat) (i : Fin 2048) : Fin 3 → ℝ := ![Zb 128 1 q k i, Zb 512 4 q k i, Zb 2048 16 q k i]

include hQ hK in
theorem v93_at (t : Fin 3) : res_main_v93 V0 (ix4 t b h i) = ((Real.log (Zt (mat Q b h) (mat K b h) i t) : ℝ) : EReal) := by
  fin_cases t
  · exact v93_at0 V0 Q K hQ hK b h i
  · exact v93_at1 V0 Q K hQ hK b h i
  · exact v93_at2 V0 Q K hQ hK b h i
theorem Zt_pos (q k : Mat) (t : Fin 3) : 0 < Zt q k i t := by
  fin_cases t
  · exact Zb_pos 128 1 q k i
  · exact Zb_pos 512 4 q k i
  · exact Zb_pos 2048 16 q k i

include hQ hK in
theorem v100_at : ∃ m : ℝ, ∀ t : Fin 3, res_main_v100 V0 (ix4 t b h i)
    = ((Zt (mat Q b h) (mat K b h) i t * Real.exp (-m) : ℝ) : EReal) := by
  obtain ⟨m, hm⟩ := fold_max_real (fun t : Fin 3 => res_main_v93 V0 (ix4 t b h i)) 0 _ (v93_at V0 Q K hQ hK b h i 0)
    fun t => by rw [v93_at V0 Q K hQ hK]; exact EReal.coe_ne_top _
  refine ⟨m, fun t => ?_⟩
  have e1 : Host.reduce (FloatOps.maximumf (F := Ideal) (φ := .f32)) (res_main_v93 V0) (constant (F := Ideal) S_ .f32 0xFF800000#32)
      reducesTo_S3x2x6x2048_S2x6x2048_d0 h_S_ (ix3 b h i) = (m : EReal) :=
    (max_first_axis ..).trans ((congrArg (fun u : EReal => Finset.univ.fold max u _) ninf).trans hm)
  refine (show _ = Ideal.exp (@HSub.hSub EReal EReal EReal _ (res_main_v93 V0 (ix4 t b h i)) (@max EReal _ (Ideal.ofBits .f32 0xFF800000#32)
    (Host.reduce (FloatOps.maximumf (F := Ideal) (φ := .f32)) (res_main_v93 V0) (constant (F := Ideal) S_ .f32 0xFF800000#32)
      reducesTo_S3x2x6x2048_S2x6x2048_d0 h_S_ (ix3 b h i)))) from ?_).trans ?_
  · unfold res_main_v100
    pointwise
  · rw [e1, ninf, max_eq_right bot_le, v93_at V0 Q K hQ hK, ← EReal.coe_sub, Ideal.exp_coe, sub_eq_add_neg, Real.exp_add,
      Real.exp_log (Zt_pos i _ _ t)]
theorem v104_at (t : Fin 3) : res_main_v104 V0 (ix4 t b h i)
    = Ideal.div (res_main_v100 V0 (ix4 t b h i)) (Finset.sum (M := EReal) Finset.univ fun u : Fin 3 => res_main_v100 V0 (ix4 u b h i)) := by
  refine (show _ = Ideal.div (res_main_v100 V0 (ix4 t b h i)) (Host.reduceAdd (res_main_v100 V0) (constant (F := Ideal) S_ .f32 0x00000000#32)
    reducesTo_S3x2x6x2048_S2x6x2048_d0 h_S_ (ix3 b h i)) from ?_).trans (congrArg (Ideal.div _) ((sum_first_axis ..).trans
      ((congrArg (fun u : EReal => u + _) zbits).trans (zero_add _))))
  unfold res_main_v104
  pointwise

include hQ hK in
/-- The weight of a branch. -/
theorem w_at (t : Fin 3) : res_main_v104 V0 (ix4 t b h i)
    = ((Zt (mat Q b h) (mat K b h) i t / Z (mat Q b h) (mat K b h) i : ℝ) : EReal) := by
  obtain ⟨m, hm⟩ := v100_at V0 Q K hQ hK b h i
  have hs : ∑ u : Fin 3, Zt (mat Q b h) (mat K b h) i u * Real.exp (-m) = Z (mat Q b h) (mat K b h) i * Real.exp (-m) := by
    rw [← Finset.sum_mul, Z_split, Fin.sum_univ_three]; rfl
  rw [v104_at]
  simp only [hm]
  rw [coe_sum, hs, div_real _ (mul_pos (Z_pos _ _ i) (Real.exp_pos _)).ne']
  exact congrArg _ (mul_div_mul_right _ _ (Real.exp_pos _).ne')

/-- One branch's output times its weight. -/
def branchOut (w : FVec Ideal S1x2x6x2048 .f32) (p : FVec Ideal S2x6x2048x2048 .f32) (v : FVec Ideal S2x2048x6x64 .f32)
    (n : FVec Ideal S2x6x2048 .f32) : FVec Ideal S2x6x2048x64 .f32 :=
  mulf (broadcastInDim S2x6x2048x64 ![0, 1, 2, 3] bcast_S2x6x2048x1_S2x6x2048x64_0_1_2_3 (broadcastInDim S2x6x2048x1 ![0, 1, 2] bcast_S2x6x2048_S2x6x2048x1_0_1_2 (shapeCast _ w shapeCasts_S1x2x6x2048_S2x6x2048)))
    (Host.divf (Host.dotGeneral dot_S2x6x2048x2048_S2x2048x6x64_S2x6x2048x64_3_1_2_3_01_02 none p v) (broadcastInDim S2x6x2048x64 ![0, 1, 2, 3] bcast_S2x6x2048x1_S2x6x2048x64_0_1_2_3 (broadcastInDim S2x6x2048x1 ![0, 1, 2] bcast_S2x6x2048_S2x6x2048x1_0_1_2 n)))
theorem branchOut_at (w : FVec Ideal S1x2x6x2048 .f32) (p : FVec Ideal S2x6x2048x2048 .f32) (v : FVec Ideal S2x2048x6x64 .f32)
    (n : FVec Ideal S2x6x2048 .f32) : branchOut w p v n (ix4 b h i e)
    = @HMul.hMul EReal EReal EReal _ (w (ix4 0 b h i)) (Ideal.div (Finset.sum (M := EReal) Finset.univ fun j : Fin 2048 =>
      @HMul.hMul EReal EReal EReal _ (p (ix4 b h i j)) (v (ix4 b j h e))) (n (ix3 b h i))) := by
  unfold branchOut
  pointwise
/-- The sum of the three, laid out by rows and columns. -/
def laid (x y z : FVec Ideal S2x6x2048x64 .f32) : FVec Ideal S4096x384 .f32 :=
  shapeCast _ (transpose S2x2048x6x64 [0, 2, 1, 3] (addf (addf x y) z) transposes_S2x6x2048x64_S2x2048x6x64_0_2_1_3) shapeCasts_S2x2048x6x64_S4096x384
theorem laid_at (x y z : FVec Ideal S2x6x2048x64 .f32) (r : Fin 4096) (j : Fin 384) : laid x y z (ix2 r j)
    = @HAdd.hAdd EReal EReal EReal _ (@HAdd.hAdd EReal EReal EReal _ (x (ix4 (seqOf r) (hdOf j) (posOf r) (laneOf j)))
      (y (ix4 (seqOf r) (hdOf j) (posOf r) (laneOf j)))) (z (ix4 (seqOf r) (hdOf j) (posOf r) (laneOf j))) := by
  unfold laid
  pointwise
  rfl
theorem slice0 (w : FVec Ideal S3x2x6x2048 .f32) :
    extractStridedSlice S1x2x6x2048 ![0, 0, 0, 0] w slices_S3x2x6x2048_S1x2x6x2048_0_0_0_0 (ix4 0 b h i) = w (ix4 0 b h i) := by
  pointwise
theorem slice1 (w : FVec Ideal S3x2x6x2048 .f32) :
    extractStridedSlice S1x2x6x2048 ![1, 0, 0, 0] w slices_S3x2x6x2048_S1x2x6x2048_1_0_0_0 (ix4 0 b h i) = w (ix4 1 b h i) := by
  pointwise
theorem slice2 (w : FVec Ideal S3x2x6x2048 .f32) :
    extractStridedSlice S1x2x6x2048 ![2, 0, 0, 0] w slices_S3x2x6x2048_S1x2x6x2048_2_0_0_0 (ix4 0 b h i) = w (ix4 2 b h i) := by
  pointwise

/-- The reference's result. -/
def result : FVec Ideal S4096x384 .f32 :=
  laid (branchOut (extractStridedSlice S1x2x6x2048 ![0, 0, 0, 0] (res_main_v104 V0) slices_S3x2x6x2048_S1x2x6x2048_0_0_0_0) (res_main_v29 V0) (res_main_v5 V0) (res_main_v30 V0))
    (branchOut (extractStridedSlice S1x2x6x2048 ![1, 0, 0, 0] (res_main_v104 V0) slices_S3x2x6x2048_S1x2x6x2048_1_0_0_0) (res_main_v55 V0) (res_main_v5 V0) (res_main_v56 V0))
    (branchOut (extractStridedSlice S1x2x6x2048 ![2, 0, 0, 0] (res_main_v104 V0) slices_S3x2x6x2048_S1x2x6x2048_2_0_0_0) (res_main_v81 V0) (res_main_v5 V0) (res_main_v82 V0))

include hQ hK hW in
/-- The reference's result is the output with the weights counted once per branch. -/
theorem result_at (r : Fin 4096) (j : Fin 384) : result V0 (ix2 r j)
    = O (mat Q (seqOf r) (hdOf j)) (mat K (seqOf r) (hdOf j)) (mat W (seqOf r) (hdOf j)) (posOf r) (laneOf j) := by
  unfold result
  rw [laid_at, branchOut_at, branchOut_at, branchOut_at, slice0, slice1, slice2, out0 V0 Q K W hQ hK hW, out1 V0 Q K W hQ hK hW,
    out2 V0 Q K W hQ hK hW, w_at V0 Q K hQ hK, w_at V0 Q K hQ hK, w_at V0 Q K hQ hK]
  exact merge _ _ _ _ _

/-- Every execution ends with the result and the argument as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123) = result (StableHlo.launchContents m c)
      ∧ r.2.mem ((c.tc : Thread nD τ).loc main_arg0) = m ((c.tc : Thread nD τ).loc main_arg0) :=
  run m ρ

end Cert.Reference8Ideal.Value

end
-- ==== Proof.AttnAlgebraic.lean ====
/- The value claim of the dilated attention: over the reals, from queries and keys that are real numbers, the output
   of the kernel, whose three branches share one table of biases, is the output of the reference, which softmaxes each branch
   by itself and merges the three. -/
module

public import proofs.«01_k».proof.Proof.AttnPrecondition
public import proofs.«01_k».proof.Proof.AttnEntry
public import proofs.«01_k».proof.Proof.AttnBranch
public import proofs.«01_k».proof.Proof.Gen.Kernel8
public import Idealize.ShloMosaic.Lib.Claim

@[expose] public section

set_option maxRecDepth 16384

noncomputable section

open Idealize.ShloMosaic Idealize.ShloMosaic.TcCoe Idealize.SL.Sem

namespace Cert.Attn

/-- The queries and the keys of a projection, as reals, and its values. -/
def qOf (p : FVec Ideal ⟨2, ![4096, 3072]⟩ .f32) : Arr := fun r j => EReal.toReal (p (ix2 r (qCol j)))
def kOf (p : FVec Ideal ⟨2, ![4096, 3072]⟩ .f32) : Arr := fun r j => EReal.toReal (p (ix2 r (kCol j)))
def vOf (p : FVec Ideal ⟨2, ![4096, 3072]⟩ .f32) : EArr := fun r j => p (ix2 r (vCol j))

/-- The output of the attention of a projection. -/
def outOf (p : FVec Ideal ⟨2, ![4096, 3072]⟩ .f32) : FVec Ideal ⟨2, ![4096, 384]⟩ .f32 := fun i =>
  O (mat (qOf p) (seqOf (i 0)) (hdOf (i 1))) (mat (kOf p) (seqOf (i 0)) (hdOf (i 1))) (mat (vOf p) (seqOf (i 0)) (hdOf (i 1)))
    (posOf (i 0)) (laneOf (i 1))

theorem real_eq {a : EReal} (h : Cert.Ffn.IsReal a) : a = ((EReal.toReal a : ℝ) : EReal) := by
  obtain ⟨r, rfl⟩ := h
  rw [EReal.toReal_coe]

section Real

variable [Cert.Pre_finite8.Facts] {p : FVec Ideal ⟨2, ![4096, 3072]⟩ .f32}
  (h : Cert.Pre_finite8.fn (F := Ideal) p = fun _ => 1#1)
include h

theorem q_real (r : Fin 4096) (j : Fin 384) : p (ix2 r (qCol j)) = (qOf p r j : EReal) :=
  real_eq (real_of_pre p h r ⟨j.val, Nat.lt_trans j.isLt (by decide)⟩)
theorem k_real (r : Fin 4096) (j : Fin 384) : p (ix2 r (kCol j)) = (kOf p r j : EReal) :=
  real_eq (real_of_pre p h r ⟨384 + j.val, Nat.lt_of_lt_of_le (Nat.add_lt_add_left j.isLt 384) (by decide)⟩)

end Real

section Kernel

open Cert.Kernel8Ideal Cert.Kernel8Ideal.Gen Cert.Kernel8Ideal.Value

variable (m : (ℓ : Loc nD τ sig) → Buf (Elt Ideal) ℓ) (c : Dev nD)

/-- The kernel's output array. -/
theorem kernel_out [Cert.Pre_finite8.Facts]
    (h : Cert.Pre_finite8.fn (F := Ideal) (m ((c.tc : Thread nD τ).loc main_arg0)) = fun _ => 1#1) :
    (dats m 0 c).arrAt 4 cfg0.N = outOf (m ((c.tc : Thread nD τ).loc main_arg0)) := by
  have e := V_main_arg0 m c
  exact final0_4 m c (qOf (m ((c.tc : Thread nD τ).loc main_arg0))) (kOf (m ((c.tc : Thread nD τ).loc main_arg0)))
    (vOf (m ((c.tc : Thread nD τ).loc main_arg0)))
    (fun r j => (congrFun e _).trans (q_real h r j)) (fun r j => (congrFun e _).trans (k_real h r j))
    (fun r j => congrFun e _) (bias_at m c)

end Kernel

theorem algebraic : Cert.algebraic_Kernel8Ideal_Reference8Ideal_pre_finite8 (hPre_finite8 := facts8) := by
  intro m g m' g' hpre hagree
  haveI := facts8
  refine ⟨fun c => outOf (m ((c.tc : Thread _ _).loc Cert.Kernel8Ideal.main_arg0)), ?_, ?_⟩
  · refine (θ_run _ _ _).mono (fun _ h c => ⟨?_, ?_⟩) (Cert.Kernel8Ideal.Gen.run_main m g)
    · exact (h.out_eq c 4).trans (kernel_out m c (hpre c))
    · exact ((h c).1 2).trans (((Cert.Kernel8Ideal.Gen.dats m 0 c).arrAt_in 2 rfl _).trans
        ((Cert.Kernel8Ideal.Gen.A_eq m c 2).trans (Cert.Kernel8Ideal.Gen.V_main_arg0 m c)))
  · refine (θ_run _ _ _).mono (fun _ h c => ?_) (Cert.Reference8Ideal.Value.run_result m' g')
    obtain ⟨h0, h1⟩ := h c
    have e : StableHlo.launchContents m' c (Proc.devRef .tc Cert.Reference8Ideal.main_arg0)
        = m ((c.tc : Thread _ _).loc Cert.Kernel8Ideal.main_arg0) := hagree c
    refine ⟨h0.trans ?_, h1⟩
    funext i
    idx_vars i
    exact Cert.Reference8Ideal.Value.result_at (StableHlo.launchContents m' c) _ _ _
      (fun r j => (congrFun e _).trans (q_real (hpre c) r j)) (fun r j => (congrFun e _).trans (k_real (hpre c) r j))
      (fun r j => congrFun e _) i0 i1

end Cert.Attn

end
-- ==== Proof.lean ====
/- The claims, assembled: of each of the eight program pairs the frames, the idealisation that changes nothing, and the value
   claim (Algebraic.lean, Half2Algebraic.lean, InAlgebraic.lean, WeightGradient.lean, OutWeight.lean, ConvGrad.lean, Conv.lean,
   AttnAlgebraic.lean), behind the witnesses of
   the programs' stated facts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Algebraic
public import proofs.«01_k».proof.Proof.Half2Algebraic
public import proofs.«01_k».proof.Proof.InAlgebraic
public import proofs.«01_k».proof.Proof.WeightGradient
public import proofs.«01_k».proof.Proof.OutWeight
public import proofs.«01_k».proof.Proof.ConvGrad
public import proofs.«01_k».proof.Proof.Conv
public import proofs.«01_k».proof.Proof.AttnAlgebraic
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel

/-- The reference runs, leaves its arguments and ends with every counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2.2.2, sem_eq_zero_of_no_sems (by decide) r.2⟩) (Cert.ReferenceIdeal.Layers.run m ρ)

/-- The same of the second reference. -/
theorem frame_reference2 : Cert.quiescent_Reference2Ideal (hReference2Ideal := Cert.Reference2Ideal.Gen.facts) :=
  fun m ρ _ => (θ_run Cert.Reference2Ideal.defs _ _).mono
    (fun r h => ⟨fun c => (h c).2.2.2.2.2.2.2, sem_eq_zero_of_no_sems (by decide) r.2⟩) (Cert.Reference2Ideal.Layers.run m ρ)

/-- The same of the third reference. -/
theorem frame_reference3 : Cert.quiescent_Reference3Ideal (hReference3Ideal := Cert.Reference3Ideal.Gen.facts) :=
  fun m ρ _ => (θ_run Cert.Reference3Ideal.defs _ _).mono
    (fun r h => ⟨fun c => (h c).2.2.2.2, sem_eq_zero_of_no_sems (by decide) r.2⟩) (Cert.Reference3Ideal.Layers.run m ρ)

/-- The same of the fourth reference. -/
theorem frame_reference4 : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run m ρ)

/-- The same of the fifth reference. -/
theorem frame_reference5 : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run m ρ)

/-- The same of the sixth reference. -/
theorem frame_reference6 : Cert.quiescent_Reference6Ideal (hReference6Ideal := Cert.Reference6Ideal.Gen.facts) :=
  fun m ρ _ => (θ_run Cert.Reference6Ideal.defs _ _).mono
    (fun r h => ⟨fun c => (h c).2.2.2, sem_eq_zero_of_no_sems (by decide) r.2⟩) (Cert.Reference6Ideal.Value.run m ρ)

/-- The same of the seventh reference. -/
theorem frame_reference7 : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run m ρ)

/-- The same of the eighth reference. -/
theorem frame_reference8 : Cert.quiescent_Reference8Ideal (hReference8Ideal := Cert.Reference8Ideal.Gen.facts) :=
  fun m ρ _ => (θ_run Cert.Reference8Ideal.defs _ _).mono
    (fun r h => ⟨fun c => (h c).2, sem_eq_zero_of_no_sems (by decide) r.2⟩) (Cert.Reference8Ideal.Value.run_result m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite2.Gen.facts, Cert.Pre_finite3.Gen.facts, Cert.Attn.facts8,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    fun m ρ _ => Cert.Kernel8Ideal.Gen.frame m ρ,
    frame_reference8,
    fun m ρ _ => frame_reference8 m ρ trivial,
    trivial, Cert.Ffn.algebraic,
    trivial, Cert.Half2.algebraic,
    trivial, Cert.InProj.algebraic,
    trivial, Cert.WeightGradient.algebraic,
    trivial, Cert.OutWeight.algebraic,
    trivial, Cert.ConvGrad.algebraic,
    trivial, Cert.Conv.algebraic,
    trivial, Cert.Attn.algebraic⟩

end Cert.Proof

end
